-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3539)) (v1 : (c : Dev Cert.KernelIdeal.nD) → Buf (Elt Ideal) ((c.tc : Thread Cert.KernelIdeal.nD Cert.KernelIdeal.τ).loc Cert.KernelIdeal.main_v3556)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3539) = v0 c
          ∧ r.2.mem ((c.tc : Thread Cert.KernelIdeal.nD Cert.KernelIdeal.τ).loc Cert.KernelIdeal.main_v3556) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v294) = v0 c
          ∧ r.2.mem ((c.tc : Thread Cert.ReferenceIdeal.nD Cert.ReferenceIdeal.τ).loc Cert.ReferenceIdeal.main_v293) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S262144x4 : Shape := ⟨2, ![262144, 4]⟩
abbrev S16x524288x2 : Shape := ⟨3, ![16, 524288, 2]⟩
abbrev S16x32768x2 : Shape := ⟨3, ![16, 32768, 2]⟩
abbrev S4 : Shape := ⟨1, ![4]⟩
abbrev S16x4 : Shape := ⟨2, ![16, 4]⟩
abbrev S8x3 : Shape := ⟨2, ![8, 3]⟩
abbrev S262144x3 : Shape := ⟨2, ![262144, 3]⟩
abbrev S3 : Shape := ⟨1, ![3]⟩
abbrev S_ : Shape := ⟨0, ![]⟩
abbrev S1 : Shape := ⟨1, ![1]⟩
abbrev S1x524288x2 : Shape := ⟨3, ![1, 524288, 2]⟩
abbrev S524288x2 : Shape := ⟨2, ![524288, 2]⟩
abbrev S1x4 : Shape := ⟨2, ![1, 4]⟩
abbrev S262144x1x4 : Shape := ⟨3, ![262144, 1, 4]⟩
abbrev S1x16x4 : Shape := ⟨3, ![1, 16, 4]⟩
abbrev S262144x16x4 : Shape := ⟨3, ![262144, 16, 4]⟩
abbrev S262144x16 : Shape := ⟨2, ![262144, 16]⟩
abbrev S262144x16x1 : Shape := ⟨3, ![262144, 16, 1]⟩
abbrev S262144x16x2 : Shape := ⟨3, ![262144, 16, 2]⟩
abbrev S262144x1 : Shape := ⟨2, ![262144, 1]⟩
abbrev S262144 : Shape := ⟨1, ![262144]⟩
abbrev S262144x1x1 : Shape := ⟨3, ![262144, 1, 1]⟩
abbrev S262144x8x2 : Shape := ⟨3, ![262144, 8, 2]⟩
abbrev S262144x4x2 : Shape := ⟨3, ![262144, 4, 2]⟩
abbrev S262144x2x2 : Shape := ⟨3, ![262144, 2, 2]⟩
abbrev S262144x1x2 : Shape := ⟨3, ![262144, 1, 2]⟩
abbrev S262144x2 : Shape := ⟨2, ![262144, 2]⟩
abbrev S1x32768x2 : Shape := ⟨3, ![1, 32768, 2]⟩
abbrev S32768x2 : Shape := ⟨2, ![32768, 2]⟩
abbrev S1x3 : Shape := ⟨2, ![1, 3]⟩
abbrev S262144x1x3 : Shape := ⟨3, ![262144, 1, 3]⟩
abbrev S1x8x3 : Shape := ⟨3, ![1, 8, 3]⟩
abbrev S262144x8x3 : Shape := ⟨3, ![262144, 8, 3]⟩
abbrev S262144x8 : Shape := ⟨2, ![262144, 8]⟩
abbrev S262144x8x1 : Shape := ⟨3, ![262144, 8, 1]⟩
abbrev S262144x32 : Shape := ⟨2, ![262144, 32]⟩
abbrev S8192x32 : Shape := ⟨2, ![8192, 32]⟩

abbrev nBuf : Space → Nat
  | .hbm => 4138
  | .vmem => 6
  | .smem => 0
  | _ => 0

abbrev hbmTy0_0 (i : Nat) : BufTy := match i % 128 with
  | 0 => ⟨S262144x4, .f32⟩
  | 1 => ⟨S16x524288x2, .f32⟩
  | 2 => ⟨S16x32768x2, .f32⟩
  | 3 => ⟨S4, .f32⟩
  | 4 => ⟨S4, .f32⟩
  | 5 => ⟨S16x4, .i32⟩
  | 6 => ⟨S8x3, .i32⟩
  | 7 => ⟨S262144x3, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_1 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_2 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_3 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_4 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_5 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_6 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_7 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_8 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_9 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_10 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_11 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_12 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_13 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_14 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_15 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_16 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_17 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_18 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_19 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_20 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_21 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_22 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_23 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_24 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_25 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_26 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_27 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_28 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_29 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_30 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S3, .f32⟩
  | 9 => ⟨S3, .f32⟩
  | 10 => ⟨S3, .f32⟩
  | 11 => ⟨S_, .f32⟩
  | 12 => ⟨S3, .f32⟩
  | 13 => ⟨S3, .f32⟩
  | 14 => ⟨S1, .f32⟩
  | 15 => ⟨S1, .f32⟩
  | 16 => ⟨S1, .f32⟩
  | 17 => ⟨S_, .f32⟩
  | 18 => ⟨S1, .f32⟩
  | 19 => ⟨S1, .f32⟩
  | 20 => ⟨S4, .f32⟩
  | 21 => ⟨S3, .f32⟩
  | 22 => ⟨S3, .f32⟩
  | 23 => ⟨S3, .f32⟩
  | 24 => ⟨S_, .f32⟩
  | 25 => ⟨S3, .f32⟩
  | 26 => ⟨S3, .f32⟩
  | 27 => ⟨S1x524288x2, .f32⟩
  | 28 => ⟨S524288x2, .f32⟩
  | 29 => ⟨S1x4, .f32⟩
  | 30 => ⟨S262144x4, .f32⟩
  | 31 => ⟨S262144x4, .f32⟩
  | 32 => ⟨S1x4, .f32⟩
  | 33 => ⟨S262144x4, .f32⟩
  | 34 => ⟨S262144x4, .f32⟩
  | 35 => ⟨S1x4, .f32⟩
  | 36 => ⟨S262144x4, .f32⟩
  | 37 => ⟨S262144x4, .f32⟩
  | 38 => ⟨S1x4, .f32⟩
  | 39 => ⟨S262144x4, .f32⟩
  | 40 => ⟨S262144x4, .f32⟩
  | 41 => ⟨S262144x4, .f32⟩
  | 42 => ⟨S262144x4, .i32⟩
  | 43 => ⟨S262144x4, .f32⟩
  | 44 => ⟨S1x4, .f32⟩
  | 45 => ⟨S262144x4, .f32⟩
  | 46 => ⟨S262144x4, .f32⟩
  | 47 => ⟨S1x4, .f32⟩
  | 48 => ⟨S262144x4, .f32⟩
  | 49 => ⟨S262144x4, .f32⟩
  | 50 => ⟨S1x4, .f32⟩
  | 51 => ⟨S262144x4, .f32⟩
  | 52 => ⟨S262144x4, .f32⟩
  | 53 => ⟨S262144x1x4, .i32⟩
  | 54 => ⟨S1x16x4, .i32⟩
  | 55 => ⟨S262144x16x4, .i32⟩
  | 56 => ⟨S262144x16x4, .i32⟩
  | 57 => ⟨S262144x16x4, .i32⟩
  | 58 => ⟨S262144x16x4, .i32⟩
  | 59 => ⟨S_, .i32⟩
  | 60 => ⟨S262144x16, .i32⟩
  | 61 => ⟨S262144x16x1, .i32⟩
  | 62 => ⟨S262144x16, .i32⟩
  | 63 => ⟨S_, .i32⟩
  | 64 => ⟨S262144x16, .i32⟩
  | 65 => ⟨S262144x16, .i32⟩
  | 66 => ⟨S262144x16, .i32⟩
  | 67 => ⟨S262144x16x1, .i32⟩
  | 68 => ⟨S262144x16, .i32⟩
  | 69 => ⟨S_, .i32⟩
  | 70 => ⟨S262144x16, .i32⟩
  | 71 => ⟨S262144x16, .i32⟩
  | 72 => ⟨S262144x16, .i32⟩
  | 73 => ⟨S262144x16x1, .i32⟩
  | 74 => ⟨S262144x16, .i32⟩
  | 75 => ⟨S_, .i32⟩
  | 76 => ⟨S262144x16, .i32⟩
  | 77 => ⟨S262144x16, .i32⟩
  | 78 => ⟨S262144x16, .i32⟩
  | 79 => ⟨S262144x16x1, .i32⟩
  | 80 => ⟨S262144x16, .i32⟩
  | 81 => ⟨S_, .i32⟩
  | 82 => ⟨S262144x16, .i32⟩
  | 83 => ⟨S262144x16, .i32⟩
  | 84 => ⟨S262144x16, .i32⟩
  | 85 => ⟨S_, .i32⟩
  | 86 => ⟨S262144x16, .i32⟩
  | 87 => ⟨S262144x16, .i32⟩
  | 88 => ⟨S262144x16, .i32⟩
  | 89 => ⟨S_, .i32⟩
  | 90 => ⟨S262144x16, .i32⟩
  | 91 => ⟨S262144x16, .i1⟩
  | 92 => ⟨S_, .i32⟩
  | 93 => ⟨S262144x16, .i32⟩
  | 94 => ⟨S262144x16, .i32⟩
  | 95 => ⟨S262144x16, .i32⟩
  | 96 => ⟨S262144x16x1, .i32⟩
  | 97 => ⟨S262144x16x2, .f32⟩
  | 98 => ⟨S262144x4, .f32⟩
  | 99 => ⟨S262144x4, .f32⟩
  | 100 => ⟨S262144x4, .f32⟩
  | 101 => ⟨S262144x1, .f32⟩
  | 102 => ⟨S262144, .f32⟩
  | 103 => ⟨S262144x1x1, .f32⟩
  | 104 => ⟨S262144x8x2, .f32⟩
  | 105 => ⟨S_, .f32⟩
  | 106 => ⟨S262144x1x1, .f32⟩
  | 107 => ⟨S262144x1x1, .f32⟩
  | 108 => ⟨S262144x8x2, .f32⟩
  | 109 => ⟨S262144x8x2, .f32⟩
  | 110 => ⟨S262144x8x2, .f32⟩
  | 111 => ⟨S262144x8x2, .f32⟩
  | 112 => ⟨S262144x8x2, .f32⟩
  | 113 => ⟨S262144x8x2, .f32⟩
  | 114 => ⟨S262144x1, .f32⟩
  | 115 => ⟨S262144, .f32⟩
  | 116 => ⟨S262144x1x1, .f32⟩
  | 117 => ⟨S262144x4x2, .f32⟩
  | 118 => ⟨S_, .f32⟩
  | 119 => ⟨S262144x1x1, .f32⟩
  | 120 => ⟨S262144x1x1, .f32⟩
  | 121 => ⟨S262144x4x2, .f32⟩
  | 122 => ⟨S262144x4x2, .f32⟩
  | 123 => ⟨S262144x4x2, .f32⟩
  | 124 => ⟨S262144x4x2, .f32⟩
  | 125 => ⟨S262144x4x2, .f32⟩
  | 126 => ⟨S262144x4x2, .f32⟩
  | 127 => ⟨S262144x1, .f32⟩
  | _ => ⟨S262144x4, .f32⟩

abbrev hbmTy0_31 (i : Nat) : BufTy := match i % 128 with
  | 0 => ⟨S262144, .f32⟩
  | 1 => ⟨S262144x1x1, .f32⟩
  | 2 => ⟨S262144x2x2, .f32⟩
  | 3 => ⟨S_, .f32⟩
  | 4 => ⟨S262144x1x1, .f32⟩
  | 5 => ⟨S262144x1x1, .f32⟩
  | 6 => ⟨S262144x2x2, .f32⟩
  | 7 => ⟨S262144x2x2, .f32⟩
  | 8 => ⟨S262144x2x2, .f32⟩
  | 9 => ⟨S262144x2x2, .f32⟩
  | 10 => ⟨S262144x2x2, .f32⟩
  | 11 => ⟨S262144x2x2, .f32⟩
  | 12 => ⟨S262144x1, .f32⟩
  | 13 => ⟨S262144, .f32⟩
  | 14 => ⟨S262144x1x1, .f32⟩
  | 15 => ⟨S262144x1x2, .f32⟩
  | 16 => ⟨S_, .f32⟩
  | 17 => ⟨S262144x1x1, .f32⟩
  | 18 => ⟨S262144x1x1, .f32⟩
  | 19 => ⟨S262144x1x2, .f32⟩
  | 20 => ⟨S262144x1x2, .f32⟩
  | 21 => ⟨S262144x1x2, .f32⟩
  | 22 => ⟨S262144x1x2, .f32⟩
  | 23 => ⟨S262144x1x2, .f32⟩
  | 24 => ⟨S262144x1x2, .f32⟩
  | 25 => ⟨S262144x2, .f32⟩
  | 26 => ⟨S1x32768x2, .f32⟩
  | 27 => ⟨S32768x2, .f32⟩
  | 28 => ⟨S3, .f32⟩
  | 29 => ⟨S3, .f32⟩
  | 30 => ⟨S1x3, .f32⟩
  | 31 => ⟨S262144x3, .f32⟩
  | 32 => ⟨S262144x3, .f32⟩
  | 33 => ⟨S1x3, .f32⟩
  | 34 => ⟨S262144x3, .f32⟩
  | 35 => ⟨S262144x3, .f32⟩
  | 36 => ⟨S1x3, .f32⟩
  | 37 => ⟨S262144x3, .f32⟩
  | 38 => ⟨S262144x3, .f32⟩
  | 39 => ⟨S1x3, .f32⟩
  | 40 => ⟨S262144x3, .f32⟩
  | 41 => ⟨S262144x3, .f32⟩
  | 42 => ⟨S262144x3, .f32⟩
  | 43 => ⟨S262144x3, .i32⟩
  | 44 => ⟨S262144x3, .f32⟩
  | 45 => ⟨S1x3, .f32⟩
  | 46 => ⟨S262144x3, .f32⟩
  | 47 => ⟨S262144x3, .f32⟩
  | 48 => ⟨S1x3, .f32⟩
  | 49 => ⟨S262144x3, .f32⟩
  | 50 => ⟨S262144x3, .f32⟩
  | 51 => ⟨S1x3, .f32⟩
  | 52 => ⟨S262144x3, .f32⟩
  | 53 => ⟨S262144x3, .f32⟩
  | 54 => ⟨S262144x1x3, .i32⟩
  | 55 => ⟨S1x8x3, .i32⟩
  | 56 => ⟨S262144x8x3, .i32⟩
  | 57 => ⟨S262144x8x3, .i32⟩
  | 58 => ⟨S262144x8x3, .i32⟩
  | 59 => ⟨S262144x8x3, .i32⟩
  | 60 => ⟨S_, .i32⟩
  | 61 => ⟨S262144x8, .i32⟩
  | 62 => ⟨S262144x8x1, .i32⟩
  | 63 => ⟨S262144x8, .i32⟩
  | 64 => ⟨S_, .i32⟩
  | 65 => ⟨S262144x8, .i32⟩
  | 66 => ⟨S262144x8, .i32⟩
  | 67 => ⟨S262144x8, .i32⟩
  | 68 => ⟨S262144x8x1, .i32⟩
  | 69 => ⟨S262144x8, .i32⟩
  | 70 => ⟨S_, .i32⟩
  | 71 => ⟨S262144x8, .i32⟩
  | 72 => ⟨S262144x8, .i32⟩
  | 73 => ⟨S262144x8, .i32⟩
  | 74 => ⟨S262144x8x1, .i32⟩
  | 75 => ⟨S262144x8, .i32⟩
  | 76 => ⟨S_, .i32⟩
  | 77 => ⟨S262144x8, .i32⟩
  | 78 => ⟨S262144x8, .i32⟩
  | 79 => ⟨S262144x8, .i32⟩
  | 80 => ⟨S_, .i32⟩
  | 81 => ⟨S262144x8, .i32⟩
  | 82 => ⟨S262144x8, .i32⟩
  | 83 => ⟨S262144x8, .i32⟩
  | 84 => ⟨S_, .i32⟩
  | 85 => ⟨S262144x8, .i32⟩
  | 86 => ⟨S262144x8, .i1⟩
  | 87 => ⟨S_, .i32⟩
  | 88 => ⟨S262144x8, .i32⟩
  | 89 => ⟨S262144x8, .i32⟩
  | 90 => ⟨S262144x8, .i32⟩
  | 91 => ⟨S262144x8x1, .i32⟩
  | 92 => ⟨S262144x8x2, .f32⟩
  | 93 => ⟨S262144x3, .f32⟩
  | 94 => ⟨S262144x3, .f32⟩
  | 95 => ⟨S262144x3, .f32⟩
  | 96 => ⟨S262144x1, .f32⟩
  | 97 => ⟨S262144, .f32⟩
  | 98 => ⟨S262144x1x1, .f32⟩
  | 99 => ⟨S262144x4x2, .f32⟩
  | 100 => ⟨S_, .f32⟩
  | 101 => ⟨S262144x1x1, .f32⟩
  | 102 => ⟨S262144x1x1, .f32⟩
  | 103 => ⟨S262144x4x2, .f32⟩
  | 104 => ⟨S262144x4x2, .f32⟩
  | 105 => ⟨S262144x4x2, .f32⟩
  | 106 => ⟨S262144x4x2, .f32⟩
  | 107 => ⟨S262144x4x2, .f32⟩
  | 108 => ⟨S262144x4x2, .f32⟩
  | 109 => ⟨S262144x1, .f32⟩
  | 110 => ⟨S262144, .f32⟩
  | 111 => ⟨S262144x1x1, .f32⟩
  | 112 => ⟨S262144x2x2, .f32⟩
  | 113 => ⟨S_, .f32⟩
  | 114 => ⟨S262144x1x1, .f32⟩
  | 115 => ⟨S262144x1x1, .f32⟩
  | 116 => ⟨S262144x2x2, .f32⟩
  | 117 => ⟨S262144x2x2, .f32⟩
  | 118 => ⟨S262144x2x2, .f32⟩
  | 119 => ⟨S262144x2x2, .f32⟩
  | 120 => ⟨S262144x2x2, .f32⟩
  | 121 => ⟨S262144x2x2, .f32⟩
  | 122 => ⟨S262144x1, .f32⟩
  | 123 => ⟨S262144, .f32⟩
  | 124 => ⟨S262144x1x1, .f32⟩
  | 125 => ⟨S262144x1x2, .f32⟩
  | 126 => ⟨S_, .f32⟩
  | 127 => ⟨S262144x1x1, .f32⟩
  | _ => ⟨S262144x4, .f32⟩

abbrev hbmTy0_32 (i : Nat) : BufTy := match i % 128 with
  | 0 => ⟨S262144x1x1, .f32⟩
  | 1 => ⟨S262144x1x2, .f32⟩
  | 2 => ⟨S262144x1x2, .f32⟩
  | 3 => ⟨S262144x1x2, .f32⟩
  | 4 => ⟨S262144x1x2, .f32⟩
  | 5 => ⟨S262144x1x2, .f32⟩
  | 6 => ⟨S262144x1x2, .f32⟩
  | 7 => ⟨S262144x2, .f32⟩
  | 8 => ⟨S262144x32, .f32⟩
  | 9 => ⟨S262144x32, .f32⟩
  | 10 => ⟨S262144x32, .f32⟩
  | 11 => ⟨S1x4, .f32⟩
  | 12 => ⟨S262144x4, .f32⟩
  | 13 => ⟨S262144x4, .f32⟩
  | 14 => ⟨S1x4, .f32⟩
  | 15 => ⟨S262144x4, .f32⟩
  | 16 => ⟨S262144x4, .f32⟩
  | 17 => ⟨S262144x4, .i1⟩
  | 18 => ⟨S262144x4, .i32⟩
  | 19 => ⟨S_, .i32⟩
  | 20 => ⟨S262144, .i32⟩
  | 21 => ⟨S_, .i32⟩
  | 22 => ⟨S262144, .i32⟩
  | 23 => ⟨S262144, .i1⟩
  | 24 => ⟨S262144x3, .f32⟩
  | 25 => ⟨S262144x3, .f32⟩
  | 26 => ⟨S3, .f32⟩
  | 27 => ⟨S3, .f32⟩
  | 28 => ⟨S1x3, .f32⟩
  | 29 => ⟨S262144x3, .f32⟩
  | 30 => ⟨S262144x3, .f32⟩
  | 31 => ⟨S1x3, .f32⟩
  | 32 => ⟨S262144x3, .f32⟩
  | 33 => ⟨S262144x3, .f32⟩
  | 34 => ⟨S262144x3, .i1⟩
  | 35 => ⟨S262144x3, .i32⟩
  | 36 => ⟨S_, .i32⟩
  | 37 => ⟨S262144, .i32⟩
  | 38 => ⟨S_, .i32⟩
  | 39 => ⟨S262144, .i32⟩
  | 40 => ⟨S262144, .i1⟩
  | 41 => ⟨S262144, .i1⟩
  | _ => ⟨S262144x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | _ => ⟨S262144x4, .f32⟩

abbrev bufTy : (tb : Table) → Fin (tcTables nBuf tb) → BufTy
  | .hbm, ⟨i, _⟩ => hbmTy i
  | .local _ .vmem, ⟨0, _⟩ => ⟨S8192x32, .f32⟩
  | .local _ .vmem, ⟨1, _⟩ => ⟨S8192x32, .f32⟩
  | .local _ .vmem, ⟨2, _⟩ => ⟨S8192x32, .f32⟩
  | .local _ .vmem, ⟨3, _⟩ => ⟨S8192x32, .f32⟩
  | .local _ .vmem, ⟨4, _⟩ => ⟨S8192x32, .f32⟩
  | .local _ .vmem, ⟨5, _⟩ => ⟨S8192x32, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_c : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_v68 : Ref sig .tc := ⟨.hbm, 90, rfl⟩
abbrev main_v69 : Ref sig .tc := ⟨.hbm, 91, rfl⟩
abbrev main_c_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_13 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_14 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_15 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_16 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_call1_v0 : Ref sig .tc := ⟨.hbm, 158, rfl⟩
abbrev main_call1_v1 : Ref sig .tc := ⟨.hbm, 159, rfl⟩
abbrev main_call1_v2 : Ref sig .tc := ⟨.hbm, 160, rfl⟩
abbrev main_call1_v3 : Ref sig .tc := ⟨.hbm, 161, rfl⟩
abbrev main_call1_v4 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_c_17 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_c_18 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_c_19 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_c_20 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_c_21 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_c_22 : Ref sig .tc := ⟨.hbm, 212, rfl⟩
abbrev main_v175 : Ref sig .tc := ⟨.hbm, 213, rfl⟩
abbrev main_v176 : Ref sig .tc := ⟨.hbm, 214, rfl⟩
abbrev main_c_23 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_cst_24 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_cst_25 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_cst_26 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_cst_27 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_cst_28 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_cst_29 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_call2_v0 : Ref sig .tc := ⟨.hbm, 285, rfl⟩
abbrev main_call2_v1 : Ref sig .tc := ⟨.hbm, 286, rfl⟩
abbrev main_call2_v2 : Ref sig .tc := ⟨.hbm, 287, rfl⟩
abbrev main_call2_v3 : Ref sig .tc := ⟨.hbm, 288, rfl⟩
abbrev main_call2_v4 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_c_30 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_c_31 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_c_32 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_c_33 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_c_34 : Ref sig .tc := ⟨.hbm, 337, rfl⟩
abbrev main_v283 : Ref sig .tc := ⟨.hbm, 338, rfl⟩
abbrev main_v284 : Ref sig .tc := ⟨.hbm, 339, rfl⟩
abbrev main_v285 : Ref sig .tc := ⟨.hbm, 340, rfl⟩
abbrev main_c_35 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_c_36 : Ref sig .tc := ⟨.hbm, 345, rfl⟩
abbrev main_v289 : Ref sig .tc := ⟨.hbm, 346, rfl⟩
abbrev main_v290 : Ref sig .tc := ⟨.hbm, 347, rfl⟩
abbrev main_c_37 : Ref sig .tc := ⟨.hbm, 348, rfl⟩
abbrev main_v291 : Ref sig .tc := ⟨.hbm, 349, rfl⟩
abbrev main_v292 : Ref sig .tc := ⟨.hbm, 350, rfl⟩
abbrev main_v293 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_v301 : Ref sig .tc := ⟨.hbm, 359, rfl⟩
abbrev main_v302 : Ref sig .tc := ⟨.hbm, 360, rfl⟩
abbrev main_cst_38 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_v313 : Ref sig .tc := ⟨.hbm, 372, rfl⟩
abbrev main_v314 : Ref sig .tc := ⟨.hbm, 373, rfl⟩
abbrev main_cst_39 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_cst_40 : Ref sig .tc := ⟨.hbm, 387, rfl⟩
abbrev main_v327 : Ref sig .tc := ⟨.hbm, 388, rfl⟩
abbrev main_v328 : Ref sig .tc := ⟨.hbm, 389, rfl⟩
abbrev main_v329 : Ref sig .tc := ⟨.hbm, 390, rfl⟩
abbrev main_v330 : Ref sig .tc := ⟨.hbm, 391, rfl⟩
abbrev main_v331 : Ref sig .tc := ⟨.hbm, 392, rfl⟩
abbrev main_v332 : Ref sig .tc := ⟨.hbm, 393, rfl⟩
abbrev main_v333 : Ref sig .tc := ⟨.hbm, 394, rfl⟩
abbrev main_v334 : Ref sig .tc := ⟨.hbm, 395, rfl⟩
abbrev main_v335 : Ref sig .tc := ⟨.hbm, 396, rfl⟩
abbrev main_v336 : Ref sig .tc := ⟨.hbm, 397, rfl⟩
abbrev main_v337 : Ref sig .tc := ⟨.hbm, 398, rfl⟩
abbrev main_v338 : Ref sig .tc := ⟨.hbm, 399, rfl⟩
abbrev main_cst_41 : Ref sig .tc := ⟨.hbm, 400, rfl⟩
abbrev main_v339 : Ref sig .tc := ⟨.hbm, 401, rfl⟩
abbrev main_v340 : Ref sig .tc := ⟨.hbm, 402, rfl⟩
abbrev main_v341 : Ref sig .tc := ⟨.hbm, 403, rfl⟩
abbrev main_v342 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_v346 : Ref sig .tc := ⟨.hbm, 408, rfl⟩
abbrev main_v347 : Ref sig .tc := ⟨.hbm, 409, rfl⟩
abbrev main_v348 : Ref sig .tc := ⟨.hbm, 410, rfl⟩
abbrev main_v349 : Ref sig .tc := ⟨.hbm, 411, rfl⟩
abbrev main_v350 : Ref sig .tc := ⟨.hbm, 412, rfl⟩
abbrev main_v351 : Ref sig .tc := ⟨.hbm, 413, rfl⟩
abbrev main_call3_v0 : Ref sig .tc := ⟨.hbm, 414, rfl⟩
abbrev main_call3_v1 : Ref sig .tc := ⟨.hbm, 415, rfl⟩
abbrev main_call3_v2 : Ref sig .tc := ⟨.hbm, 416, rfl⟩
abbrev main_call3_v3 : Ref sig .tc := ⟨.hbm, 417, rfl⟩
abbrev main_call3_v4 : Ref sig .tc := ⟨.hbm, 418, rfl⟩
abbrev main_v352 : Ref sig .tc := ⟨.hbm, 419, rfl⟩
abbrev main_v353 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_v357 : Ref sig .tc := ⟨.hbm, 424, rfl⟩
abbrev main_v358 : Ref sig .tc := ⟨.hbm, 425, rfl⟩
abbrev main_v359 : Ref sig .tc := ⟨.hbm, 426, rfl⟩
abbrev main_v360 : Ref sig .tc := ⟨.hbm, 427, rfl⟩
abbrev main_v361 : Ref sig .tc := ⟨.hbm, 428, rfl⟩
abbrev main_v362 : Ref sig .tc := ⟨.hbm, 429, rfl⟩
abbrev main_v363 : Ref sig .tc := ⟨.hbm, 430, rfl⟩
abbrev main_v364 : Ref sig .tc := ⟨.hbm, 431, rfl⟩
abbrev main_v365 : Ref sig .tc := ⟨.hbm, 432, rfl⟩
abbrev main_v366 : Ref sig .tc := ⟨.hbm, 433, rfl⟩
abbrev main_v367 : Ref sig .tc := ⟨.hbm, 434, rfl⟩
abbrev main_v368 : Ref sig .tc := ⟨.hbm, 435, rfl⟩
abbrev main_v369 : Ref sig .tc := ⟨.hbm, 436, rfl⟩
abbrev main_v370 : Ref sig .tc := ⟨.hbm, 437, rfl⟩
abbrev main_v371 : Ref sig .tc := ⟨.hbm, 438, rfl⟩
abbrev main_v372 : Ref sig .tc := ⟨.hbm, 439, rfl⟩
abbrev main_v373 : Ref sig .tc := ⟨.hbm, 440, rfl⟩
abbrev main_v374 : Ref sig .tc := ⟨.hbm, 441, rfl⟩
abbrev main_v375 : Ref sig .tc := ⟨.hbm, 442, rfl⟩
abbrev main_v376 : Ref sig .tc := ⟨.hbm, 443, rfl⟩
abbrev main_c_42 : Ref sig .tc := ⟨.hbm, 444, rfl⟩
abbrev main_v377 : Ref sig .tc := ⟨.hbm, 445, rfl⟩
abbrev main_v378 : Ref sig .tc := ⟨.hbm, 446, rfl⟩
abbrev main_v379 : Ref sig .tc := ⟨.hbm, 447, rfl⟩
abbrev main_c_43 : Ref sig .tc := ⟨.hbm, 448, rfl⟩
abbrev main_v380 : Ref sig .tc := ⟨.hbm, 449, rfl⟩
abbrev main_v381 : Ref sig .tc := ⟨.hbm, 450, rfl⟩
abbrev main_v382 : Ref sig .tc := ⟨.hbm, 451, rfl⟩
abbrev main_v383 : Ref sig .tc := ⟨.hbm, 452, rfl⟩
abbrev main_v384 : Ref sig .tc := ⟨.hbm, 453, rfl⟩
abbrev main_c_44 : Ref sig .tc := ⟨.hbm, 454, rfl⟩
abbrev main_v385 : Ref sig .tc := ⟨.hbm, 455, rfl⟩
abbrev main_v386 : Ref sig .tc := ⟨.hbm, 456, rfl⟩
abbrev main_v387 : Ref sig .tc := ⟨.hbm, 457, rfl⟩
abbrev main_v388 : Ref sig .tc := ⟨.hbm, 458, rfl⟩
abbrev main_v389 : Ref sig .tc := ⟨.hbm, 459, rfl⟩
abbrev main_c_45 : Ref sig .tc := ⟨.hbm, 460, rfl⟩
abbrev main_v390 : Ref sig .tc := ⟨.hbm, 461, rfl⟩
abbrev main_v391 : Ref sig .tc := ⟨.hbm, 462, rfl⟩
abbrev main_v392 : Ref sig .tc := ⟨.hbm, 463, rfl⟩
abbrev main_c_46 : Ref sig .tc := ⟨.hbm, 464, rfl⟩
abbrev main_v393 : Ref sig .tc := ⟨.hbm, 465, rfl⟩
abbrev main_v394 : Ref sig .tc := ⟨.hbm, 466, rfl⟩
abbrev main_v395 : Ref sig .tc := ⟨.hbm, 467, rfl⟩
abbrev main_c_47 : Ref sig .tc := ⟨.hbm, 468, rfl⟩
abbrev main_v396 : Ref sig .tc := ⟨.hbm, 469, rfl⟩
abbrev main_v397 : Ref sig .tc := ⟨.hbm, 470, rfl⟩
abbrev main_c_48 : Ref sig .tc := ⟨.hbm, 471, rfl⟩
abbrev main_v398 : Ref sig .tc := ⟨.hbm, 472, rfl⟩
abbrev main_v399 : Ref sig .tc := ⟨.hbm, 473, rfl⟩
abbrev main_v400 : Ref sig .tc := ⟨.hbm, 474, rfl⟩
abbrev main_v401 : Ref sig .tc := ⟨.hbm, 475, rfl⟩
abbrev main_v402 : Ref sig .tc := ⟨.hbm, 476, rfl⟩
abbrev main_v403 : Ref sig .tc := ⟨.hbm, 477, rfl⟩
abbrev main_v404 : Ref sig .tc := ⟨.hbm, 478, rfl⟩
abbrev main_v405 : Ref sig .tc := ⟨.hbm, 479, rfl⟩
abbrev main_v406 : Ref sig .tc := ⟨.hbm, 480, rfl⟩
abbrev main_v407 : Ref sig .tc := ⟨.hbm, 481, rfl⟩
abbrev main_v408 : Ref sig .tc := ⟨.hbm, 482, rfl⟩
abbrev main_v409 : Ref sig .tc := ⟨.hbm, 483, rfl⟩
abbrev main_cst_49 : Ref sig .tc := ⟨.hbm, 484, rfl⟩
abbrev main_v410 : Ref sig .tc := ⟨.hbm, 485, rfl⟩
abbrev main_v411 : Ref sig .tc := ⟨.hbm, 486, rfl⟩
abbrev main_v412 : Ref sig .tc := ⟨.hbm, 487, rfl⟩
abbrev main_v413 : Ref sig .tc := ⟨.hbm, 488, rfl⟩
abbrev main_v414 : Ref sig .tc := ⟨.hbm, 489, rfl⟩
abbrev main_v415 : Ref sig .tc := ⟨.hbm, 490, rfl⟩
abbrev main_v416 : Ref sig .tc := ⟨.hbm, 491, rfl⟩
abbrev main_v417 : Ref sig .tc := ⟨.hbm, 492, rfl⟩
abbrev main_v418 : Ref sig .tc := ⟨.hbm, 493, rfl⟩
abbrev main_v419 : Ref sig .tc := ⟨.hbm, 494, rfl⟩
abbrev main_v420 : Ref sig .tc := ⟨.hbm, 495, rfl⟩
abbrev main_v421 : Ref sig .tc := ⟨.hbm, 496, rfl⟩
abbrev main_cst_50 : Ref sig .tc := ⟨.hbm, 497, rfl⟩
abbrev main_v422 : Ref sig .tc := ⟨.hbm, 498, rfl⟩
abbrev main_v423 : Ref sig .tc := ⟨.hbm, 499, rfl⟩
abbrev main_v424 : Ref sig .tc := ⟨.hbm, 500, rfl⟩
abbrev main_v425 : Ref sig .tc := ⟨.hbm, 501, rfl⟩
abbrev main_v426 : Ref sig .tc := ⟨.hbm, 502, rfl⟩
abbrev main_v427 : Ref sig .tc := ⟨.hbm, 503, rfl⟩
abbrev main_v428 : Ref sig .tc := ⟨.hbm, 504, rfl⟩
abbrev main_v429 : Ref sig .tc := ⟨.hbm, 505, rfl⟩
abbrev main_v430 : Ref sig .tc := ⟨.hbm, 506, rfl⟩
abbrev main_v431 : Ref sig .tc := ⟨.hbm, 507, rfl⟩
abbrev main_v432 : Ref sig .tc := ⟨.hbm, 508, rfl⟩
abbrev main_v433 : Ref sig .tc := ⟨.hbm, 509, rfl⟩
abbrev main_cst_51 : Ref sig .tc := ⟨.hbm, 510, rfl⟩
abbrev main_v434 : Ref sig .tc := ⟨.hbm, 511, rfl⟩
abbrev main_v435 : Ref sig .tc := ⟨.hbm, 512, rfl⟩
abbrev main_v436 : Ref sig .tc := ⟨.hbm, 513, rfl⟩
abbrev main_v437 : Ref sig .tc := ⟨.hbm, 514, rfl⟩
abbrev main_v438 : Ref sig .tc := ⟨.hbm, 515, rfl⟩
abbrev main_v439 : Ref sig .tc := ⟨.hbm, 516, rfl⟩
abbrev main_v440 : Ref sig .tc := ⟨.hbm, 517, rfl⟩
abbrev main_v441 : Ref sig .tc := ⟨.hbm, 518, rfl⟩
abbrev main_v442 : Ref sig .tc := ⟨.hbm, 519, rfl⟩
abbrev main_v443 : Ref sig .tc := ⟨.hbm, 520, rfl⟩
abbrev main_v444 : Ref sig .tc := ⟨.hbm, 521, rfl⟩
abbrev main_v445 : Ref sig .tc := ⟨.hbm, 522, rfl⟩
abbrev main_cst_52 : Ref sig .tc := ⟨.hbm, 523, rfl⟩
abbrev main_v446 : Ref sig .tc := ⟨.hbm, 524, rfl⟩
abbrev main_v447 : Ref sig .tc := ⟨.hbm, 525, rfl⟩
abbrev main_v448 : Ref sig .tc := ⟨.hbm, 526, rfl⟩
abbrev main_v449 : Ref sig .tc := ⟨.hbm, 527, rfl⟩
abbrev main_v450 : Ref sig .tc := ⟨.hbm, 528, rfl⟩
abbrev main_cst_53 : Ref sig .tc := ⟨.hbm, 529, rfl⟩
abbrev main_v451 : Ref sig .tc := ⟨.hbm, 530, rfl⟩
abbrev main_v452 : Ref sig .tc := ⟨.hbm, 531, rfl⟩
abbrev main_v453 : Ref sig .tc := ⟨.hbm, 532, rfl⟩
abbrev main_v454 : Ref sig .tc := ⟨.hbm, 533, rfl⟩
abbrev main_v455 : Ref sig .tc := ⟨.hbm, 534, rfl⟩
abbrev main_v456 : Ref sig .tc := ⟨.hbm, 535, rfl⟩
abbrev main_cst_54 : Ref sig .tc := ⟨.hbm, 536, rfl⟩
abbrev main_v457 : Ref sig .tc := ⟨.hbm, 537, rfl⟩
abbrev main_v458 : Ref sig .tc := ⟨.hbm, 538, rfl⟩
abbrev main_v459 : Ref sig .tc := ⟨.hbm, 539, rfl⟩
abbrev main_v460 : Ref sig .tc := ⟨.hbm, 540, rfl⟩
abbrev main_call4_v0 : Ref sig .tc := ⟨.hbm, 541, rfl⟩
abbrev main_call4_v1 : Ref sig .tc := ⟨.hbm, 542, rfl⟩
abbrev main_call4_v2 : Ref sig .tc := ⟨.hbm, 543, rfl⟩
abbrev main_call4_v3 : Ref sig .tc := ⟨.hbm, 544, rfl⟩
abbrev main_call4_v4 : Ref sig .tc := ⟨.hbm, 545, rfl⟩
abbrev main_v461 : Ref sig .tc := ⟨.hbm, 546, rfl⟩
abbrev main_v462 : Ref sig .tc := ⟨.hbm, 547, rfl⟩
abbrev main_v463 : Ref sig .tc := ⟨.hbm, 548, rfl⟩
abbrev main_v464 : Ref sig .tc := ⟨.hbm, 549, rfl⟩
abbrev main_v465 : Ref sig .tc := ⟨.hbm, 550, rfl⟩
abbrev main_v466 : Ref sig .tc := ⟨.hbm, 551, rfl⟩
abbrev main_v467 : Ref sig .tc := ⟨.hbm, 552, rfl⟩
abbrev main_v468 : Ref sig .tc := ⟨.hbm, 553, rfl⟩
abbrev main_v469 : Ref sig .tc := ⟨.hbm, 554, rfl⟩
abbrev main_v470 : Ref sig .tc := ⟨.hbm, 555, rfl⟩
abbrev main_v471 : Ref sig .tc := ⟨.hbm, 556, rfl⟩
abbrev main_v472 : Ref sig .tc := ⟨.hbm, 557, rfl⟩
abbrev main_v473 : Ref sig .tc := ⟨.hbm, 558, rfl⟩
abbrev main_v474 : Ref sig .tc := ⟨.hbm, 559, rfl⟩
abbrev main_v475 : Ref sig .tc := ⟨.hbm, 560, rfl⟩
abbrev main_v476 : Ref sig .tc := ⟨.hbm, 561, rfl⟩
abbrev main_v477 : Ref sig .tc := ⟨.hbm, 562, rfl⟩
abbrev main_v478 : Ref sig .tc := ⟨.hbm, 563, rfl⟩
abbrev main_v479 : Ref sig .tc := ⟨.hbm, 564, rfl⟩
abbrev main_v480 : Ref sig .tc := ⟨.hbm, 565, rfl⟩
abbrev main_v481 : Ref sig .tc := ⟨.hbm, 566, rfl⟩
abbrev main_v482 : Ref sig .tc := ⟨.hbm, 567, rfl⟩
abbrev main_v483 : Ref sig .tc := ⟨.hbm, 568, rfl⟩
abbrev main_v484 : Ref sig .tc := ⟨.hbm, 569, rfl⟩
abbrev main_v485 : Ref sig .tc := ⟨.hbm, 570, rfl⟩
abbrev main_c_55 : Ref sig .tc := ⟨.hbm, 571, rfl⟩
abbrev main_v486 : Ref sig .tc := ⟨.hbm, 572, rfl⟩
abbrev main_v487 : Ref sig .tc := ⟨.hbm, 573, rfl⟩
abbrev main_v488 : Ref sig .tc := ⟨.hbm, 574, rfl⟩
abbrev main_c_56 : Ref sig .tc := ⟨.hbm, 575, rfl⟩
abbrev main_v489 : Ref sig .tc := ⟨.hbm, 576, rfl⟩
abbrev main_v490 : Ref sig .tc := ⟨.hbm, 577, rfl⟩
abbrev main_v491 : Ref sig .tc := ⟨.hbm, 578, rfl⟩
abbrev main_v492 : Ref sig .tc := ⟨.hbm, 579, rfl⟩
abbrev main_v493 : Ref sig .tc := ⟨.hbm, 580, rfl⟩
abbrev main_c_57 : Ref sig .tc := ⟨.hbm, 581, rfl⟩
abbrev main_v494 : Ref sig .tc := ⟨.hbm, 582, rfl⟩
abbrev main_v495 : Ref sig .tc := ⟨.hbm, 583, rfl⟩
abbrev main_v496 : Ref sig .tc := ⟨.hbm, 584, rfl⟩
abbrev main_v497 : Ref sig .tc := ⟨.hbm, 585, rfl⟩
abbrev main_v498 : Ref sig .tc := ⟨.hbm, 586, rfl⟩
abbrev main_c_58 : Ref sig .tc := ⟨.hbm, 587, rfl⟩
abbrev main_v499 : Ref sig .tc := ⟨.hbm, 588, rfl⟩
abbrev main_v500 : Ref sig .tc := ⟨.hbm, 589, rfl⟩
abbrev main_v501 : Ref sig .tc := ⟨.hbm, 590, rfl⟩
abbrev main_v502 : Ref sig .tc := ⟨.hbm, 591, rfl⟩
abbrev main_v503 : Ref sig .tc := ⟨.hbm, 592, rfl⟩
abbrev main_c_59 : Ref sig .tc := ⟨.hbm, 593, rfl⟩
abbrev main_v504 : Ref sig .tc := ⟨.hbm, 594, rfl⟩
abbrev main_v505 : Ref sig .tc := ⟨.hbm, 595, rfl⟩
abbrev main_v506 : Ref sig .tc := ⟨.hbm, 596, rfl⟩
abbrev main_c_60 : Ref sig .tc := ⟨.hbm, 597, rfl⟩
abbrev main_v507 : Ref sig .tc := ⟨.hbm, 598, rfl⟩
abbrev main_v508 : Ref sig .tc := ⟨.hbm, 599, rfl⟩
abbrev main_v509 : Ref sig .tc := ⟨.hbm, 600, rfl⟩
abbrev main_c_61 : Ref sig .tc := ⟨.hbm, 601, rfl⟩
abbrev main_v510 : Ref sig .tc := ⟨.hbm, 602, rfl⟩
abbrev main_v511 : Ref sig .tc := ⟨.hbm, 603, rfl⟩
abbrev main_c_62 : Ref sig .tc := ⟨.hbm, 604, rfl⟩
abbrev main_v512 : Ref sig .tc := ⟨.hbm, 605, rfl⟩
abbrev main_v513 : Ref sig .tc := ⟨.hbm, 606, rfl⟩
abbrev main_v514 : Ref sig .tc := ⟨.hbm, 607, rfl⟩
abbrev main_v515 : Ref sig .tc := ⟨.hbm, 608, rfl⟩
abbrev main_v516 : Ref sig .tc := ⟨.hbm, 609, rfl⟩
abbrev main_v517 : Ref sig .tc := ⟨.hbm, 610, rfl⟩
abbrev main_v518 : Ref sig .tc := ⟨.hbm, 611, rfl⟩
abbrev main_v519 : Ref sig .tc := ⟨.hbm, 612, rfl⟩
abbrev main_v520 : Ref sig .tc := ⟨.hbm, 613, rfl⟩
abbrev main_v521 : Ref sig .tc := ⟨.hbm, 614, rfl⟩
abbrev main_v522 : Ref sig .tc := ⟨.hbm, 615, rfl⟩
abbrev main_v523 : Ref sig .tc := ⟨.hbm, 616, rfl⟩
abbrev main_cst_63 : Ref sig .tc := ⟨.hbm, 617, rfl⟩
abbrev main_v524 : Ref sig .tc := ⟨.hbm, 618, rfl⟩
abbrev main_v525 : Ref sig .tc := ⟨.hbm, 619, rfl⟩
abbrev main_v526 : Ref sig .tc := ⟨.hbm, 620, rfl⟩
abbrev main_v527 : Ref sig .tc := ⟨.hbm, 621, rfl⟩
abbrev main_v528 : Ref sig .tc := ⟨.hbm, 622, rfl⟩
abbrev main_v529 : Ref sig .tc := ⟨.hbm, 623, rfl⟩
abbrev main_v530 : Ref sig .tc := ⟨.hbm, 624, rfl⟩
abbrev main_v531 : Ref sig .tc := ⟨.hbm, 625, rfl⟩
abbrev main_v532 : Ref sig .tc := ⟨.hbm, 626, rfl⟩
abbrev main_v533 : Ref sig .tc := ⟨.hbm, 627, rfl⟩
abbrev main_v534 : Ref sig .tc := ⟨.hbm, 628, rfl⟩
abbrev main_v535 : Ref sig .tc := ⟨.hbm, 629, rfl⟩
abbrev main_cst_64 : Ref sig .tc := ⟨.hbm, 630, rfl⟩
abbrev main_v536 : Ref sig .tc := ⟨.hbm, 631, rfl⟩
abbrev main_v537 : Ref sig .tc := ⟨.hbm, 632, rfl⟩
abbrev main_v538 : Ref sig .tc := ⟨.hbm, 633, rfl⟩
abbrev main_v539 : Ref sig .tc := ⟨.hbm, 634, rfl⟩
abbrev main_v540 : Ref sig .tc := ⟨.hbm, 635, rfl⟩
abbrev main_v541 : Ref sig .tc := ⟨.hbm, 636, rfl⟩
abbrev main_v542 : Ref sig .tc := ⟨.hbm, 637, rfl⟩
abbrev main_v543 : Ref sig .tc := ⟨.hbm, 638, rfl⟩
abbrev main_v544 : Ref sig .tc := ⟨.hbm, 639, rfl⟩
abbrev main_v545 : Ref sig .tc := ⟨.hbm, 640, rfl⟩
abbrev main_v546 : Ref sig .tc := ⟨.hbm, 641, rfl⟩
abbrev main_v547 : Ref sig .tc := ⟨.hbm, 642, rfl⟩
abbrev main_cst_65 : Ref sig .tc := ⟨.hbm, 643, rfl⟩
abbrev main_v548 : Ref sig .tc := ⟨.hbm, 644, rfl⟩
abbrev main_v549 : Ref sig .tc := ⟨.hbm, 645, rfl⟩
abbrev main_v550 : Ref sig .tc := ⟨.hbm, 646, rfl⟩
abbrev main_v551 : Ref sig .tc := ⟨.hbm, 647, rfl⟩
abbrev main_v552 : Ref sig .tc := ⟨.hbm, 648, rfl⟩
abbrev main_v553 : Ref sig .tc := ⟨.hbm, 649, rfl⟩
abbrev main_v554 : Ref sig .tc := ⟨.hbm, 650, rfl⟩
abbrev main_v555 : Ref sig .tc := ⟨.hbm, 651, rfl⟩
abbrev main_v556 : Ref sig .tc := ⟨.hbm, 652, rfl⟩
abbrev main_v557 : Ref sig .tc := ⟨.hbm, 653, rfl⟩
abbrev main_v558 : Ref sig .tc := ⟨.hbm, 654, rfl⟩
abbrev main_v559 : Ref sig .tc := ⟨.hbm, 655, rfl⟩
abbrev main_cst_66 : Ref sig .tc := ⟨.hbm, 656, rfl⟩
abbrev main_v560 : Ref sig .tc := ⟨.hbm, 657, rfl⟩
abbrev main_v561 : Ref sig .tc := ⟨.hbm, 658, rfl⟩
abbrev main_v562 : Ref sig .tc := ⟨.hbm, 659, rfl⟩
abbrev main_v563 : Ref sig .tc := ⟨.hbm, 660, rfl⟩
abbrev main_v564 : Ref sig .tc := ⟨.hbm, 661, rfl⟩
abbrev main_v565 : Ref sig .tc := ⟨.hbm, 662, rfl⟩
abbrev main_v566 : Ref sig .tc := ⟨.hbm, 663, rfl⟩
abbrev main_v567 : Ref sig .tc := ⟨.hbm, 664, rfl⟩
abbrev main_v568 : Ref sig .tc := ⟨.hbm, 665, rfl⟩
abbrev main_v569 : Ref sig .tc := ⟨.hbm, 666, rfl⟩
abbrev main_v570 : Ref sig .tc := ⟨.hbm, 667, rfl⟩
abbrev main_v571 : Ref sig .tc := ⟨.hbm, 668, rfl⟩
abbrev main_v572 : Ref sig .tc := ⟨.hbm, 669, rfl⟩
abbrev main_call5_v0 : Ref sig .tc := ⟨.hbm, 670, rfl⟩
abbrev main_call5_v1 : Ref sig .tc := ⟨.hbm, 671, rfl⟩
abbrev main_call5_v2 : Ref sig .tc := ⟨.hbm, 672, rfl⟩
abbrev main_call5_v3 : Ref sig .tc := ⟨.hbm, 673, rfl⟩
abbrev main_call5_v4 : Ref sig .tc := ⟨.hbm, 674, rfl⟩
abbrev main_v573 : Ref sig .tc := ⟨.hbm, 675, rfl⟩
abbrev main_v574 : Ref sig .tc := ⟨.hbm, 676, rfl⟩
abbrev main_v575 : Ref sig .tc := ⟨.hbm, 677, rfl⟩
abbrev main_v576 : Ref sig .tc := ⟨.hbm, 678, rfl⟩
abbrev main_v577 : Ref sig .tc := ⟨.hbm, 679, rfl⟩
abbrev main_v578 : Ref sig .tc := ⟨.hbm, 680, rfl⟩
abbrev main_v579 : Ref sig .tc := ⟨.hbm, 681, rfl⟩
abbrev main_v580 : Ref sig .tc := ⟨.hbm, 682, rfl⟩
abbrev main_v581 : Ref sig .tc := ⟨.hbm, 683, rfl⟩
abbrev main_v582 : Ref sig .tc := ⟨.hbm, 684, rfl⟩
abbrev main_v583 : Ref sig .tc := ⟨.hbm, 685, rfl⟩
abbrev main_v584 : Ref sig .tc := ⟨.hbm, 686, rfl⟩
abbrev main_v585 : Ref sig .tc := ⟨.hbm, 687, rfl⟩
abbrev main_v586 : Ref sig .tc := ⟨.hbm, 688, rfl⟩
abbrev main_v587 : Ref sig .tc := ⟨.hbm, 689, rfl⟩
abbrev main_v588 : Ref sig .tc := ⟨.hbm, 690, rfl⟩
abbrev main_v589 : Ref sig .tc := ⟨.hbm, 691, rfl⟩
abbrev main_v590 : Ref sig .tc := ⟨.hbm, 692, rfl⟩
abbrev main_v591 : Ref sig .tc := ⟨.hbm, 693, rfl⟩
abbrev main_v592 : Ref sig .tc := ⟨.hbm, 694, rfl⟩
abbrev main_v593 : Ref sig .tc := ⟨.hbm, 695, rfl⟩
abbrev main_v594 : Ref sig .tc := ⟨.hbm, 696, rfl⟩
abbrev main_v595 : Ref sig .tc := ⟨.hbm, 697, rfl⟩
abbrev main_v596 : Ref sig .tc := ⟨.hbm, 698, rfl⟩
abbrev main_v597 : Ref sig .tc := ⟨.hbm, 699, rfl⟩
abbrev main_c_67 : Ref sig .tc := ⟨.hbm, 700, rfl⟩
abbrev main_v598 : Ref sig .tc := ⟨.hbm, 701, rfl⟩
abbrev main_v599 : Ref sig .tc := ⟨.hbm, 702, rfl⟩
abbrev main_v600 : Ref sig .tc := ⟨.hbm, 703, rfl⟩
abbrev main_c_68 : Ref sig .tc := ⟨.hbm, 704, rfl⟩
abbrev main_v601 : Ref sig .tc := ⟨.hbm, 705, rfl⟩
abbrev main_v602 : Ref sig .tc := ⟨.hbm, 706, rfl⟩
abbrev main_v603 : Ref sig .tc := ⟨.hbm, 707, rfl⟩
abbrev main_v604 : Ref sig .tc := ⟨.hbm, 708, rfl⟩
abbrev main_v605 : Ref sig .tc := ⟨.hbm, 709, rfl⟩
abbrev main_c_69 : Ref sig .tc := ⟨.hbm, 710, rfl⟩
abbrev main_v606 : Ref sig .tc := ⟨.hbm, 711, rfl⟩
abbrev main_v607 : Ref sig .tc := ⟨.hbm, 712, rfl⟩
abbrev main_v608 : Ref sig .tc := ⟨.hbm, 713, rfl⟩
abbrev main_v609 : Ref sig .tc := ⟨.hbm, 714, rfl⟩
abbrev main_v610 : Ref sig .tc := ⟨.hbm, 715, rfl⟩
abbrev main_c_70 : Ref sig .tc := ⟨.hbm, 716, rfl⟩
abbrev main_v611 : Ref sig .tc := ⟨.hbm, 717, rfl⟩
abbrev main_v612 : Ref sig .tc := ⟨.hbm, 718, rfl⟩
abbrev main_v613 : Ref sig .tc := ⟨.hbm, 719, rfl⟩
abbrev main_c_71 : Ref sig .tc := ⟨.hbm, 720, rfl⟩
abbrev main_v614 : Ref sig .tc := ⟨.hbm, 721, rfl⟩
abbrev main_v615 : Ref sig .tc := ⟨.hbm, 722, rfl⟩
abbrev main_v616 : Ref sig .tc := ⟨.hbm, 723, rfl⟩
abbrev main_c_72 : Ref sig .tc := ⟨.hbm, 724, rfl⟩
abbrev main_v617 : Ref sig .tc := ⟨.hbm, 725, rfl⟩
abbrev main_v618 : Ref sig .tc := ⟨.hbm, 726, rfl⟩
abbrev main_c_73 : Ref sig .tc := ⟨.hbm, 727, rfl⟩
abbrev main_v619 : Ref sig .tc := ⟨.hbm, 728, rfl⟩
abbrev main_v620 : Ref sig .tc := ⟨.hbm, 729, rfl⟩
abbrev main_v621 : Ref sig .tc := ⟨.hbm, 730, rfl⟩
abbrev main_v622 : Ref sig .tc := ⟨.hbm, 731, rfl⟩
abbrev main_v623 : Ref sig .tc := ⟨.hbm, 732, rfl⟩
abbrev main_v624 : Ref sig .tc := ⟨.hbm, 733, rfl⟩
abbrev main_v625 : Ref sig .tc := ⟨.hbm, 734, rfl⟩
abbrev main_v626 : Ref sig .tc := ⟨.hbm, 735, rfl⟩
abbrev main_v627 : Ref sig .tc := ⟨.hbm, 736, rfl⟩
abbrev main_v628 : Ref sig .tc := ⟨.hbm, 737, rfl⟩
abbrev main_v629 : Ref sig .tc := ⟨.hbm, 738, rfl⟩
abbrev main_v630 : Ref sig .tc := ⟨.hbm, 739, rfl⟩
abbrev main_cst_74 : Ref sig .tc := ⟨.hbm, 740, rfl⟩
abbrev main_v631 : Ref sig .tc := ⟨.hbm, 741, rfl⟩
abbrev main_v632 : Ref sig .tc := ⟨.hbm, 742, rfl⟩
abbrev main_v633 : Ref sig .tc := ⟨.hbm, 743, rfl⟩
abbrev main_v634 : Ref sig .tc := ⟨.hbm, 744, rfl⟩
abbrev main_v635 : Ref sig .tc := ⟨.hbm, 745, rfl⟩
abbrev main_v636 : Ref sig .tc := ⟨.hbm, 746, rfl⟩
abbrev main_v637 : Ref sig .tc := ⟨.hbm, 747, rfl⟩
abbrev main_v638 : Ref sig .tc := ⟨.hbm, 748, rfl⟩
abbrev main_v639 : Ref sig .tc := ⟨.hbm, 749, rfl⟩
abbrev main_v640 : Ref sig .tc := ⟨.hbm, 750, rfl⟩
abbrev main_v641 : Ref sig .tc := ⟨.hbm, 751, rfl⟩
abbrev main_v642 : Ref sig .tc := ⟨.hbm, 752, rfl⟩
abbrev main_cst_75 : Ref sig .tc := ⟨.hbm, 753, rfl⟩
abbrev main_v643 : Ref sig .tc := ⟨.hbm, 754, rfl⟩
abbrev main_v644 : Ref sig .tc := ⟨.hbm, 755, rfl⟩
abbrev main_v645 : Ref sig .tc := ⟨.hbm, 756, rfl⟩
abbrev main_v646 : Ref sig .tc := ⟨.hbm, 757, rfl⟩
abbrev main_v647 : Ref sig .tc := ⟨.hbm, 758, rfl⟩
abbrev main_v648 : Ref sig .tc := ⟨.hbm, 759, rfl⟩
abbrev main_v649 : Ref sig .tc := ⟨.hbm, 760, rfl⟩
abbrev main_v650 : Ref sig .tc := ⟨.hbm, 761, rfl⟩
abbrev main_v651 : Ref sig .tc := ⟨.hbm, 762, rfl⟩
abbrev main_v652 : Ref sig .tc := ⟨.hbm, 763, rfl⟩
abbrev main_v653 : Ref sig .tc := ⟨.hbm, 764, rfl⟩
abbrev main_v654 : Ref sig .tc := ⟨.hbm, 765, rfl⟩
abbrev main_cst_76 : Ref sig .tc := ⟨.hbm, 766, rfl⟩
abbrev main_v655 : Ref sig .tc := ⟨.hbm, 767, rfl⟩
abbrev main_v656 : Ref sig .tc := ⟨.hbm, 768, rfl⟩
abbrev main_v657 : Ref sig .tc := ⟨.hbm, 769, rfl⟩
abbrev main_v658 : Ref sig .tc := ⟨.hbm, 770, rfl⟩
abbrev main_v659 : Ref sig .tc := ⟨.hbm, 771, rfl⟩
abbrev main_v660 : Ref sig .tc := ⟨.hbm, 772, rfl⟩
abbrev main_v661 : Ref sig .tc := ⟨.hbm, 773, rfl⟩
abbrev main_v662 : Ref sig .tc := ⟨.hbm, 774, rfl⟩
abbrev main_v663 : Ref sig .tc := ⟨.hbm, 775, rfl⟩
abbrev main_v664 : Ref sig .tc := ⟨.hbm, 776, rfl⟩
abbrev main_v665 : Ref sig .tc := ⟨.hbm, 777, rfl⟩
abbrev main_v666 : Ref sig .tc := ⟨.hbm, 778, rfl⟩
abbrev main_cst_77 : Ref sig .tc := ⟨.hbm, 779, rfl⟩
abbrev main_v667 : Ref sig .tc := ⟨.hbm, 780, rfl⟩
abbrev main_v668 : Ref sig .tc := ⟨.hbm, 781, rfl⟩
abbrev main_v669 : Ref sig .tc := ⟨.hbm, 782, rfl⟩
abbrev main_v670 : Ref sig .tc := ⟨.hbm, 783, rfl⟩
abbrev main_v671 : Ref sig .tc := ⟨.hbm, 784, rfl⟩
abbrev main_cst_78 : Ref sig .tc := ⟨.hbm, 785, rfl⟩
abbrev main_v672 : Ref sig .tc := ⟨.hbm, 786, rfl⟩
abbrev main_v673 : Ref sig .tc := ⟨.hbm, 787, rfl⟩
abbrev main_v674 : Ref sig .tc := ⟨.hbm, 788, rfl⟩
abbrev main_v675 : Ref sig .tc := ⟨.hbm, 789, rfl⟩
abbrev main_v676 : Ref sig .tc := ⟨.hbm, 790, rfl⟩
abbrev main_v677 : Ref sig .tc := ⟨.hbm, 791, rfl⟩
abbrev main_cst_79 : Ref sig .tc := ⟨.hbm, 792, rfl⟩
abbrev main_v678 : Ref sig .tc := ⟨.hbm, 793, rfl⟩
abbrev main_v679 : Ref sig .tc := ⟨.hbm, 794, rfl⟩
abbrev main_v680 : Ref sig .tc := ⟨.hbm, 795, rfl⟩
abbrev main_v681 : Ref sig .tc := ⟨.hbm, 796, rfl⟩
abbrev main_call6_v0 : Ref sig .tc := ⟨.hbm, 797, rfl⟩
abbrev main_call6_v1 : Ref sig .tc := ⟨.hbm, 798, rfl⟩
abbrev main_call6_v2 : Ref sig .tc := ⟨.hbm, 799, rfl⟩
abbrev main_call6_v3 : Ref sig .tc := ⟨.hbm, 800, rfl⟩
abbrev main_call6_v4 : Ref sig .tc := ⟨.hbm, 801, rfl⟩
abbrev main_v682 : Ref sig .tc := ⟨.hbm, 802, rfl⟩
abbrev main_v683 : Ref sig .tc := ⟨.hbm, 803, rfl⟩
abbrev main_v684 : Ref sig .tc := ⟨.hbm, 804, rfl⟩
abbrev main_v685 : Ref sig .tc := ⟨.hbm, 805, rfl⟩
abbrev main_v686 : Ref sig .tc := ⟨.hbm, 806, rfl⟩
abbrev main_v687 : Ref sig .tc := ⟨.hbm, 807, rfl⟩
abbrev main_v688 : Ref sig .tc := ⟨.hbm, 808, rfl⟩
abbrev main_v689 : Ref sig .tc := ⟨.hbm, 809, rfl⟩
abbrev main_v690 : Ref sig .tc := ⟨.hbm, 810, rfl⟩
abbrev main_v691 : Ref sig .tc := ⟨.hbm, 811, rfl⟩
abbrev main_v692 : Ref sig .tc := ⟨.hbm, 812, rfl⟩
abbrev main_v693 : Ref sig .tc := ⟨.hbm, 813, rfl⟩
abbrev main_v694 : Ref sig .tc := ⟨.hbm, 814, rfl⟩
abbrev main_v695 : Ref sig .tc := ⟨.hbm, 815, rfl⟩
abbrev main_v696 : Ref sig .tc := ⟨.hbm, 816, rfl⟩
abbrev main_v697 : Ref sig .tc := ⟨.hbm, 817, rfl⟩
abbrev main_v698 : Ref sig .tc := ⟨.hbm, 818, rfl⟩
abbrev main_v699 : Ref sig .tc := ⟨.hbm, 819, rfl⟩
abbrev main_v700 : Ref sig .tc := ⟨.hbm, 820, rfl⟩
abbrev main_v701 : Ref sig .tc := ⟨.hbm, 821, rfl⟩
abbrev main_v702 : Ref sig .tc := ⟨.hbm, 822, rfl⟩
abbrev main_v703 : Ref sig .tc := ⟨.hbm, 823, rfl⟩
abbrev main_v704 : Ref sig .tc := ⟨.hbm, 824, rfl⟩
abbrev main_v705 : Ref sig .tc := ⟨.hbm, 825, rfl⟩
abbrev main_v706 : Ref sig .tc := ⟨.hbm, 826, rfl⟩
abbrev main_c_80 : Ref sig .tc := ⟨.hbm, 827, rfl⟩
abbrev main_v707 : Ref sig .tc := ⟨.hbm, 828, rfl⟩
abbrev main_v708 : Ref sig .tc := ⟨.hbm, 829, rfl⟩
abbrev main_v709 : Ref sig .tc := ⟨.hbm, 830, rfl⟩
abbrev main_c_81 : Ref sig .tc := ⟨.hbm, 831, rfl⟩
abbrev main_v710 : Ref sig .tc := ⟨.hbm, 832, rfl⟩
abbrev main_v711 : Ref sig .tc := ⟨.hbm, 833, rfl⟩
abbrev main_v712 : Ref sig .tc := ⟨.hbm, 834, rfl⟩
abbrev main_v713 : Ref sig .tc := ⟨.hbm, 835, rfl⟩
abbrev main_v714 : Ref sig .tc := ⟨.hbm, 836, rfl⟩
abbrev main_c_82 : Ref sig .tc := ⟨.hbm, 837, rfl⟩
abbrev main_v715 : Ref sig .tc := ⟨.hbm, 838, rfl⟩
abbrev main_v716 : Ref sig .tc := ⟨.hbm, 839, rfl⟩
abbrev main_v717 : Ref sig .tc := ⟨.hbm, 840, rfl⟩
abbrev main_v718 : Ref sig .tc := ⟨.hbm, 841, rfl⟩
abbrev main_v719 : Ref sig .tc := ⟨.hbm, 842, rfl⟩
abbrev main_c_83 : Ref sig .tc := ⟨.hbm, 843, rfl⟩
abbrev main_v720 : Ref sig .tc := ⟨.hbm, 844, rfl⟩
abbrev main_v721 : Ref sig .tc := ⟨.hbm, 845, rfl⟩
abbrev main_v722 : Ref sig .tc := ⟨.hbm, 846, rfl⟩
abbrev main_v723 : Ref sig .tc := ⟨.hbm, 847, rfl⟩
abbrev main_v724 : Ref sig .tc := ⟨.hbm, 848, rfl⟩
abbrev main_c_84 : Ref sig .tc := ⟨.hbm, 849, rfl⟩
abbrev main_v725 : Ref sig .tc := ⟨.hbm, 850, rfl⟩
abbrev main_v726 : Ref sig .tc := ⟨.hbm, 851, rfl⟩
abbrev main_v727 : Ref sig .tc := ⟨.hbm, 852, rfl⟩
abbrev main_c_85 : Ref sig .tc := ⟨.hbm, 853, rfl⟩
abbrev main_v728 : Ref sig .tc := ⟨.hbm, 854, rfl⟩
abbrev main_v729 : Ref sig .tc := ⟨.hbm, 855, rfl⟩
abbrev main_v730 : Ref sig .tc := ⟨.hbm, 856, rfl⟩
abbrev main_c_86 : Ref sig .tc := ⟨.hbm, 857, rfl⟩
abbrev main_v731 : Ref sig .tc := ⟨.hbm, 858, rfl⟩
abbrev main_v732 : Ref sig .tc := ⟨.hbm, 859, rfl⟩
abbrev main_c_87 : Ref sig .tc := ⟨.hbm, 860, rfl⟩
abbrev main_v733 : Ref sig .tc := ⟨.hbm, 861, rfl⟩
abbrev main_v734 : Ref sig .tc := ⟨.hbm, 862, rfl⟩
abbrev main_v735 : Ref sig .tc := ⟨.hbm, 863, rfl⟩
abbrev main_v736 : Ref sig .tc := ⟨.hbm, 864, rfl⟩
abbrev main_v737 : Ref sig .tc := ⟨.hbm, 865, rfl⟩
abbrev main_v738 : Ref sig .tc := ⟨.hbm, 866, rfl⟩
abbrev main_v739 : Ref sig .tc := ⟨.hbm, 867, rfl⟩
abbrev main_v740 : Ref sig .tc := ⟨.hbm, 868, rfl⟩
abbrev main_v741 : Ref sig .tc := ⟨.hbm, 869, rfl⟩
abbrev main_v742 : Ref sig .tc := ⟨.hbm, 870, rfl⟩
abbrev main_v743 : Ref sig .tc := ⟨.hbm, 871, rfl⟩
abbrev main_v744 : Ref sig .tc := ⟨.hbm, 872, rfl⟩
abbrev main_cst_88 : Ref sig .tc := ⟨.hbm, 873, rfl⟩
abbrev main_v745 : Ref sig .tc := ⟨.hbm, 874, rfl⟩
abbrev main_v746 : Ref sig .tc := ⟨.hbm, 875, rfl⟩
abbrev main_v747 : Ref sig .tc := ⟨.hbm, 876, rfl⟩
abbrev main_v748 : Ref sig .tc := ⟨.hbm, 877, rfl⟩
abbrev main_v749 : Ref sig .tc := ⟨.hbm, 878, rfl⟩
abbrev main_v750 : Ref sig .tc := ⟨.hbm, 879, rfl⟩
abbrev main_v751 : Ref sig .tc := ⟨.hbm, 880, rfl⟩
abbrev main_v752 : Ref sig .tc := ⟨.hbm, 881, rfl⟩
abbrev main_v753 : Ref sig .tc := ⟨.hbm, 882, rfl⟩
abbrev main_v754 : Ref sig .tc := ⟨.hbm, 883, rfl⟩
abbrev main_v755 : Ref sig .tc := ⟨.hbm, 884, rfl⟩
abbrev main_v756 : Ref sig .tc := ⟨.hbm, 885, rfl⟩
abbrev main_cst_89 : Ref sig .tc := ⟨.hbm, 886, rfl⟩
abbrev main_v757 : Ref sig .tc := ⟨.hbm, 887, rfl⟩
abbrev main_v758 : Ref sig .tc := ⟨.hbm, 888, rfl⟩
abbrev main_v759 : Ref sig .tc := ⟨.hbm, 889, rfl⟩
abbrev main_v760 : Ref sig .tc := ⟨.hbm, 890, rfl⟩
abbrev main_v761 : Ref sig .tc := ⟨.hbm, 891, rfl⟩
abbrev main_v762 : Ref sig .tc := ⟨.hbm, 892, rfl⟩
abbrev main_v763 : Ref sig .tc := ⟨.hbm, 893, rfl⟩
abbrev main_v764 : Ref sig .tc := ⟨.hbm, 894, rfl⟩
abbrev main_v765 : Ref sig .tc := ⟨.hbm, 895, rfl⟩
abbrev main_v766 : Ref sig .tc := ⟨.hbm, 896, rfl⟩
abbrev main_v767 : Ref sig .tc := ⟨.hbm, 897, rfl⟩
abbrev main_v768 : Ref sig .tc := ⟨.hbm, 898, rfl⟩
abbrev main_cst_90 : Ref sig .tc := ⟨.hbm, 899, rfl⟩
abbrev main_v769 : Ref sig .tc := ⟨.hbm, 900, rfl⟩
abbrev main_v770 : Ref sig .tc := ⟨.hbm, 901, rfl⟩
abbrev main_v771 : Ref sig .tc := ⟨.hbm, 902, rfl⟩
abbrev main_v772 : Ref sig .tc := ⟨.hbm, 903, rfl⟩
abbrev main_v773 : Ref sig .tc := ⟨.hbm, 904, rfl⟩
abbrev main_v774 : Ref sig .tc := ⟨.hbm, 905, rfl⟩
abbrev main_v775 : Ref sig .tc := ⟨.hbm, 906, rfl⟩
abbrev main_v776 : Ref sig .tc := ⟨.hbm, 907, rfl⟩
abbrev main_v777 : Ref sig .tc := ⟨.hbm, 908, rfl⟩
abbrev main_v778 : Ref sig .tc := ⟨.hbm, 909, rfl⟩
abbrev main_v779 : Ref sig .tc := ⟨.hbm, 910, rfl⟩
abbrev main_v780 : Ref sig .tc := ⟨.hbm, 911, rfl⟩
abbrev main_cst_91 : Ref sig .tc := ⟨.hbm, 912, rfl⟩
abbrev main_v781 : Ref sig .tc := ⟨.hbm, 913, rfl⟩
abbrev main_v782 : Ref sig .tc := ⟨.hbm, 914, rfl⟩
abbrev main_v783 : Ref sig .tc := ⟨.hbm, 915, rfl⟩
abbrev main_v784 : Ref sig .tc := ⟨.hbm, 916, rfl⟩
abbrev main_v785 : Ref sig .tc := ⟨.hbm, 917, rfl⟩
abbrev main_v786 : Ref sig .tc := ⟨.hbm, 918, rfl⟩
abbrev main_v787 : Ref sig .tc := ⟨.hbm, 919, rfl⟩
abbrev main_v788 : Ref sig .tc := ⟨.hbm, 920, rfl⟩
abbrev main_v789 : Ref sig .tc := ⟨.hbm, 921, rfl⟩
abbrev main_v790 : Ref sig .tc := ⟨.hbm, 922, rfl⟩
abbrev main_v791 : Ref sig .tc := ⟨.hbm, 923, rfl⟩
abbrev main_v792 : Ref sig .tc := ⟨.hbm, 924, rfl⟩
abbrev main_v793 : Ref sig .tc := ⟨.hbm, 925, rfl⟩
abbrev main_call7_v0 : Ref sig .tc := ⟨.hbm, 926, rfl⟩
abbrev main_call7_v1 : Ref sig .tc := ⟨.hbm, 927, rfl⟩
abbrev main_call7_v2 : Ref sig .tc := ⟨.hbm, 928, rfl⟩
abbrev main_call7_v3 : Ref sig .tc := ⟨.hbm, 929, rfl⟩
abbrev main_call7_v4 : Ref sig .tc := ⟨.hbm, 930, rfl⟩
abbrev main_v794 : Ref sig .tc := ⟨.hbm, 931, rfl⟩
abbrev main_v795 : Ref sig .tc := ⟨.hbm, 932, rfl⟩
abbrev main_v796 : Ref sig .tc := ⟨.hbm, 933, rfl⟩
abbrev main_v797 : Ref sig .tc := ⟨.hbm, 934, rfl⟩
abbrev main_v798 : Ref sig .tc := ⟨.hbm, 935, rfl⟩
abbrev main_v799 : Ref sig .tc := ⟨.hbm, 936, rfl⟩
abbrev main_v800 : Ref sig .tc := ⟨.hbm, 937, rfl⟩
abbrev main_v801 : Ref sig .tc := ⟨.hbm, 938, rfl⟩
abbrev main_v802 : Ref sig .tc := ⟨.hbm, 939, rfl⟩
abbrev main_v803 : Ref sig .tc := ⟨.hbm, 940, rfl⟩
abbrev main_v804 : Ref sig .tc := ⟨.hbm, 941, rfl⟩
abbrev main_v805 : Ref sig .tc := ⟨.hbm, 942, rfl⟩
abbrev main_v806 : Ref sig .tc := ⟨.hbm, 943, rfl⟩
abbrev main_v807 : Ref sig .tc := ⟨.hbm, 944, rfl⟩
abbrev main_v808 : Ref sig .tc := ⟨.hbm, 945, rfl⟩
abbrev main_v809 : Ref sig .tc := ⟨.hbm, 946, rfl⟩
abbrev main_v810 : Ref sig .tc := ⟨.hbm, 947, rfl⟩
abbrev main_v811 : Ref sig .tc := ⟨.hbm, 948, rfl⟩
abbrev main_v812 : Ref sig .tc := ⟨.hbm, 949, rfl⟩
abbrev main_v813 : Ref sig .tc := ⟨.hbm, 950, rfl⟩
abbrev main_v814 : Ref sig .tc := ⟨.hbm, 951, rfl⟩
abbrev main_v815 : Ref sig .tc := ⟨.hbm, 952, rfl⟩
abbrev main_v816 : Ref sig .tc := ⟨.hbm, 953, rfl⟩
abbrev main_v817 : Ref sig .tc := ⟨.hbm, 954, rfl⟩
abbrev main_v818 : Ref sig .tc := ⟨.hbm, 955, rfl⟩
abbrev main_c_92 : Ref sig .tc := ⟨.hbm, 956, rfl⟩
abbrev main_v819 : Ref sig .tc := ⟨.hbm, 957, rfl⟩
abbrev main_v820 : Ref sig .tc := ⟨.hbm, 958, rfl⟩
abbrev main_v821 : Ref sig .tc := ⟨.hbm, 959, rfl⟩
abbrev main_c_93 : Ref sig .tc := ⟨.hbm, 960, rfl⟩
abbrev main_v822 : Ref sig .tc := ⟨.hbm, 961, rfl⟩
abbrev main_v823 : Ref sig .tc := ⟨.hbm, 962, rfl⟩
abbrev main_v824 : Ref sig .tc := ⟨.hbm, 963, rfl⟩
abbrev main_v825 : Ref sig .tc := ⟨.hbm, 964, rfl⟩
abbrev main_v826 : Ref sig .tc := ⟨.hbm, 965, rfl⟩
abbrev main_c_94 : Ref sig .tc := ⟨.hbm, 966, rfl⟩
abbrev main_v827 : Ref sig .tc := ⟨.hbm, 967, rfl⟩
abbrev main_v828 : Ref sig .tc := ⟨.hbm, 968, rfl⟩
abbrev main_v829 : Ref sig .tc := ⟨.hbm, 969, rfl⟩
abbrev main_v830 : Ref sig .tc := ⟨.hbm, 970, rfl⟩
abbrev main_v831 : Ref sig .tc := ⟨.hbm, 971, rfl⟩
abbrev main_c_95 : Ref sig .tc := ⟨.hbm, 972, rfl⟩
abbrev main_v832 : Ref sig .tc := ⟨.hbm, 973, rfl⟩
abbrev main_v833 : Ref sig .tc := ⟨.hbm, 974, rfl⟩
abbrev main_v834 : Ref sig .tc := ⟨.hbm, 975, rfl⟩
abbrev main_c_96 : Ref sig .tc := ⟨.hbm, 976, rfl⟩
abbrev main_v835 : Ref sig .tc := ⟨.hbm, 977, rfl⟩
abbrev main_v836 : Ref sig .tc := ⟨.hbm, 978, rfl⟩
abbrev main_v837 : Ref sig .tc := ⟨.hbm, 979, rfl⟩
abbrev main_c_97 : Ref sig .tc := ⟨.hbm, 980, rfl⟩
abbrev main_v838 : Ref sig .tc := ⟨.hbm, 981, rfl⟩
abbrev main_v839 : Ref sig .tc := ⟨.hbm, 982, rfl⟩
abbrev main_c_98 : Ref sig .tc := ⟨.hbm, 983, rfl⟩
abbrev main_v840 : Ref sig .tc := ⟨.hbm, 984, rfl⟩
abbrev main_v841 : Ref sig .tc := ⟨.hbm, 985, rfl⟩
abbrev main_v842 : Ref sig .tc := ⟨.hbm, 986, rfl⟩
abbrev main_v843 : Ref sig .tc := ⟨.hbm, 987, rfl⟩
abbrev main_v844 : Ref sig .tc := ⟨.hbm, 988, rfl⟩
abbrev main_v845 : Ref sig .tc := ⟨.hbm, 989, rfl⟩
abbrev main_v846 : Ref sig .tc := ⟨.hbm, 990, rfl⟩
abbrev main_v847 : Ref sig .tc := ⟨.hbm, 991, rfl⟩
abbrev main_v848 : Ref sig .tc := ⟨.hbm, 992, rfl⟩
abbrev main_v849 : Ref sig .tc := ⟨.hbm, 993, rfl⟩
abbrev main_v850 : Ref sig .tc := ⟨.hbm, 994, rfl⟩
abbrev main_v851 : Ref sig .tc := ⟨.hbm, 995, rfl⟩
abbrev main_cst_99 : Ref sig .tc := ⟨.hbm, 996, rfl⟩
abbrev main_v852 : Ref sig .tc := ⟨.hbm, 997, rfl⟩
abbrev main_v853 : Ref sig .tc := ⟨.hbm, 998, rfl⟩
abbrev main_v854 : Ref sig .tc := ⟨.hbm, 999, rfl⟩
abbrev main_v855 : Ref sig .tc := ⟨.hbm, 1000, rfl⟩
abbrev main_v856 : Ref sig .tc := ⟨.hbm, 1001, rfl⟩
abbrev main_v857 : Ref sig .tc := ⟨.hbm, 1002, rfl⟩
abbrev main_v858 : Ref sig .tc := ⟨.hbm, 1003, rfl⟩
abbrev main_v859 : Ref sig .tc := ⟨.hbm, 1004, rfl⟩
abbrev main_v860 : Ref sig .tc := ⟨.hbm, 1005, rfl⟩
abbrev main_v861 : Ref sig .tc := ⟨.hbm, 1006, rfl⟩
abbrev main_v862 : Ref sig .tc := ⟨.hbm, 1007, rfl⟩
abbrev main_v863 : Ref sig .tc := ⟨.hbm, 1008, rfl⟩
abbrev main_cst_100 : Ref sig .tc := ⟨.hbm, 1009, rfl⟩
abbrev main_v864 : Ref sig .tc := ⟨.hbm, 1010, rfl⟩
abbrev main_v865 : Ref sig .tc := ⟨.hbm, 1011, rfl⟩
abbrev main_v866 : Ref sig .tc := ⟨.hbm, 1012, rfl⟩
abbrev main_v867 : Ref sig .tc := ⟨.hbm, 1013, rfl⟩
abbrev main_v868 : Ref sig .tc := ⟨.hbm, 1014, rfl⟩
abbrev main_v869 : Ref sig .tc := ⟨.hbm, 1015, rfl⟩
abbrev main_v870 : Ref sig .tc := ⟨.hbm, 1016, rfl⟩
abbrev main_v871 : Ref sig .tc := ⟨.hbm, 1017, rfl⟩
abbrev main_v872 : Ref sig .tc := ⟨.hbm, 1018, rfl⟩
abbrev main_v873 : Ref sig .tc := ⟨.hbm, 1019, rfl⟩
abbrev main_v874 : Ref sig .tc := ⟨.hbm, 1020, rfl⟩
abbrev main_v875 : Ref sig .tc := ⟨.hbm, 1021, rfl⟩
abbrev main_cst_101 : Ref sig .tc := ⟨.hbm, 1022, rfl⟩
abbrev main_v876 : Ref sig .tc := ⟨.hbm, 1023, rfl⟩
abbrev main_v877 : Ref sig .tc := ⟨.hbm, 1024, rfl⟩
abbrev main_v878 : Ref sig .tc := ⟨.hbm, 1025, rfl⟩
abbrev main_v879 : Ref sig .tc := ⟨.hbm, 1026, rfl⟩
abbrev main_v880 : Ref sig .tc := ⟨.hbm, 1027, rfl⟩
abbrev main_v881 : Ref sig .tc := ⟨.hbm, 1028, rfl⟩
abbrev main_v882 : Ref sig .tc := ⟨.hbm, 1029, rfl⟩
abbrev main_v883 : Ref sig .tc := ⟨.hbm, 1030, rfl⟩
abbrev main_v884 : Ref sig .tc := ⟨.hbm, 1031, rfl⟩
abbrev main_v885 : Ref sig .tc := ⟨.hbm, 1032, rfl⟩
abbrev main_v886 : Ref sig .tc := ⟨.hbm, 1033, rfl⟩
abbrev main_v887 : Ref sig .tc := ⟨.hbm, 1034, rfl⟩
abbrev main_cst_102 : Ref sig .tc := ⟨.hbm, 1035, rfl⟩
abbrev main_v888 : Ref sig .tc := ⟨.hbm, 1036, rfl⟩
abbrev main_v889 : Ref sig .tc := ⟨.hbm, 1037, rfl⟩
abbrev main_v890 : Ref sig .tc := ⟨.hbm, 1038, rfl⟩
abbrev main_v891 : Ref sig .tc := ⟨.hbm, 1039, rfl⟩
abbrev main_v892 : Ref sig .tc := ⟨.hbm, 1040, rfl⟩
abbrev main_cst_103 : Ref sig .tc := ⟨.hbm, 1041, rfl⟩
abbrev main_v893 : Ref sig .tc := ⟨.hbm, 1042, rfl⟩
abbrev main_v894 : Ref sig .tc := ⟨.hbm, 1043, rfl⟩
abbrev main_v895 : Ref sig .tc := ⟨.hbm, 1044, rfl⟩
abbrev main_v896 : Ref sig .tc := ⟨.hbm, 1045, rfl⟩
abbrev main_v897 : Ref sig .tc := ⟨.hbm, 1046, rfl⟩
abbrev main_v898 : Ref sig .tc := ⟨.hbm, 1047, rfl⟩
abbrev main_cst_104 : Ref sig .tc := ⟨.hbm, 1048, rfl⟩
abbrev main_v899 : Ref sig .tc := ⟨.hbm, 1049, rfl⟩
abbrev main_v900 : Ref sig .tc := ⟨.hbm, 1050, rfl⟩
abbrev main_v901 : Ref sig .tc := ⟨.hbm, 1051, rfl⟩
abbrev main_v902 : Ref sig .tc := ⟨.hbm, 1052, rfl⟩
abbrev main_call8_v0 : Ref sig .tc := ⟨.hbm, 1053, rfl⟩
abbrev main_call8_v1 : Ref sig .tc := ⟨.hbm, 1054, rfl⟩
abbrev main_call8_v2 : Ref sig .tc := ⟨.hbm, 1055, rfl⟩
abbrev main_call8_v3 : Ref sig .tc := ⟨.hbm, 1056, rfl⟩
abbrev main_call8_v4 : Ref sig .tc := ⟨.hbm, 1057, rfl⟩
abbrev main_v903 : Ref sig .tc := ⟨.hbm, 1058, rfl⟩
abbrev main_v904 : Ref sig .tc := ⟨.hbm, 1059, rfl⟩
abbrev main_v905 : Ref sig .tc := ⟨.hbm, 1060, rfl⟩
abbrev main_v906 : Ref sig .tc := ⟨.hbm, 1061, rfl⟩
abbrev main_v907 : Ref sig .tc := ⟨.hbm, 1062, rfl⟩
abbrev main_v908 : Ref sig .tc := ⟨.hbm, 1063, rfl⟩
abbrev main_v909 : Ref sig .tc := ⟨.hbm, 1064, rfl⟩
abbrev main_v910 : Ref sig .tc := ⟨.hbm, 1065, rfl⟩
abbrev main_v911 : Ref sig .tc := ⟨.hbm, 1066, rfl⟩
abbrev main_v912 : Ref sig .tc := ⟨.hbm, 1067, rfl⟩
abbrev main_v913 : Ref sig .tc := ⟨.hbm, 1068, rfl⟩
abbrev main_v914 : Ref sig .tc := ⟨.hbm, 1069, rfl⟩
abbrev main_v915 : Ref sig .tc := ⟨.hbm, 1070, rfl⟩
abbrev main_v916 : Ref sig .tc := ⟨.hbm, 1071, rfl⟩
abbrev main_v917 : Ref sig .tc := ⟨.hbm, 1072, rfl⟩
abbrev main_v918 : Ref sig .tc := ⟨.hbm, 1073, rfl⟩
abbrev main_v919 : Ref sig .tc := ⟨.hbm, 1074, rfl⟩
abbrev main_v920 : Ref sig .tc := ⟨.hbm, 1075, rfl⟩
abbrev main_v921 : Ref sig .tc := ⟨.hbm, 1076, rfl⟩
abbrev main_v922 : Ref sig .tc := ⟨.hbm, 1077, rfl⟩
abbrev main_v923 : Ref sig .tc := ⟨.hbm, 1078, rfl⟩
abbrev main_v924 : Ref sig .tc := ⟨.hbm, 1079, rfl⟩
abbrev main_v925 : Ref sig .tc := ⟨.hbm, 1080, rfl⟩
abbrev main_v926 : Ref sig .tc := ⟨.hbm, 1081, rfl⟩
abbrev main_v927 : Ref sig .tc := ⟨.hbm, 1082, rfl⟩
abbrev main_c_105 : Ref sig .tc := ⟨.hbm, 1083, rfl⟩
abbrev main_v928 : Ref sig .tc := ⟨.hbm, 1084, rfl⟩
abbrev main_v929 : Ref sig .tc := ⟨.hbm, 1085, rfl⟩
abbrev main_v930 : Ref sig .tc := ⟨.hbm, 1086, rfl⟩
abbrev main_c_106 : Ref sig .tc := ⟨.hbm, 1087, rfl⟩
abbrev main_v931 : Ref sig .tc := ⟨.hbm, 1088, rfl⟩
abbrev main_v932 : Ref sig .tc := ⟨.hbm, 1089, rfl⟩
abbrev main_v933 : Ref sig .tc := ⟨.hbm, 1090, rfl⟩
abbrev main_v934 : Ref sig .tc := ⟨.hbm, 1091, rfl⟩
abbrev main_v935 : Ref sig .tc := ⟨.hbm, 1092, rfl⟩
abbrev main_c_107 : Ref sig .tc := ⟨.hbm, 1093, rfl⟩
abbrev main_v936 : Ref sig .tc := ⟨.hbm, 1094, rfl⟩
abbrev main_v937 : Ref sig .tc := ⟨.hbm, 1095, rfl⟩
abbrev main_v938 : Ref sig .tc := ⟨.hbm, 1096, rfl⟩
abbrev main_v939 : Ref sig .tc := ⟨.hbm, 1097, rfl⟩
abbrev main_v940 : Ref sig .tc := ⟨.hbm, 1098, rfl⟩
abbrev main_c_108 : Ref sig .tc := ⟨.hbm, 1099, rfl⟩
abbrev main_v941 : Ref sig .tc := ⟨.hbm, 1100, rfl⟩
abbrev main_v942 : Ref sig .tc := ⟨.hbm, 1101, rfl⟩
abbrev main_v943 : Ref sig .tc := ⟨.hbm, 1102, rfl⟩
abbrev main_v944 : Ref sig .tc := ⟨.hbm, 1103, rfl⟩
abbrev main_v945 : Ref sig .tc := ⟨.hbm, 1104, rfl⟩
abbrev main_c_109 : Ref sig .tc := ⟨.hbm, 1105, rfl⟩
abbrev main_v946 : Ref sig .tc := ⟨.hbm, 1106, rfl⟩
abbrev main_v947 : Ref sig .tc := ⟨.hbm, 1107, rfl⟩
abbrev main_v948 : Ref sig .tc := ⟨.hbm, 1108, rfl⟩
abbrev main_c_110 : Ref sig .tc := ⟨.hbm, 1109, rfl⟩
abbrev main_v949 : Ref sig .tc := ⟨.hbm, 1110, rfl⟩
abbrev main_v950 : Ref sig .tc := ⟨.hbm, 1111, rfl⟩
abbrev main_v951 : Ref sig .tc := ⟨.hbm, 1112, rfl⟩
abbrev main_c_111 : Ref sig .tc := ⟨.hbm, 1113, rfl⟩
abbrev main_v952 : Ref sig .tc := ⟨.hbm, 1114, rfl⟩
abbrev main_v953 : Ref sig .tc := ⟨.hbm, 1115, rfl⟩
abbrev main_c_112 : Ref sig .tc := ⟨.hbm, 1116, rfl⟩
abbrev main_v954 : Ref sig .tc := ⟨.hbm, 1117, rfl⟩
abbrev main_v955 : Ref sig .tc := ⟨.hbm, 1118, rfl⟩
abbrev main_v956 : Ref sig .tc := ⟨.hbm, 1119, rfl⟩
abbrev main_v957 : Ref sig .tc := ⟨.hbm, 1120, rfl⟩
abbrev main_v958 : Ref sig .tc := ⟨.hbm, 1121, rfl⟩
abbrev main_v959 : Ref sig .tc := ⟨.hbm, 1122, rfl⟩
abbrev main_v960 : Ref sig .tc := ⟨.hbm, 1123, rfl⟩
abbrev main_v961 : Ref sig .tc := ⟨.hbm, 1124, rfl⟩
abbrev main_v962 : Ref sig .tc := ⟨.hbm, 1125, rfl⟩
abbrev main_v963 : Ref sig .tc := ⟨.hbm, 1126, rfl⟩
abbrev main_v964 : Ref sig .tc := ⟨.hbm, 1127, rfl⟩
abbrev main_v965 : Ref sig .tc := ⟨.hbm, 1128, rfl⟩
abbrev main_cst_113 : Ref sig .tc := ⟨.hbm, 1129, rfl⟩
abbrev main_v966 : Ref sig .tc := ⟨.hbm, 1130, rfl⟩
abbrev main_v967 : Ref sig .tc := ⟨.hbm, 1131, rfl⟩
abbrev main_v968 : Ref sig .tc := ⟨.hbm, 1132, rfl⟩
abbrev main_v969 : Ref sig .tc := ⟨.hbm, 1133, rfl⟩
abbrev main_v970 : Ref sig .tc := ⟨.hbm, 1134, rfl⟩
abbrev main_v971 : Ref sig .tc := ⟨.hbm, 1135, rfl⟩
abbrev main_v972 : Ref sig .tc := ⟨.hbm, 1136, rfl⟩
abbrev main_v973 : Ref sig .tc := ⟨.hbm, 1137, rfl⟩
abbrev main_v974 : Ref sig .tc := ⟨.hbm, 1138, rfl⟩
abbrev main_v975 : Ref sig .tc := ⟨.hbm, 1139, rfl⟩
abbrev main_v976 : Ref sig .tc := ⟨.hbm, 1140, rfl⟩
abbrev main_v977 : Ref sig .tc := ⟨.hbm, 1141, rfl⟩
abbrev main_cst_114 : Ref sig .tc := ⟨.hbm, 1142, rfl⟩
abbrev main_v978 : Ref sig .tc := ⟨.hbm, 1143, rfl⟩
abbrev main_v979 : Ref sig .tc := ⟨.hbm, 1144, rfl⟩
abbrev main_v980 : Ref sig .tc := ⟨.hbm, 1145, rfl⟩
abbrev main_v981 : Ref sig .tc := ⟨.hbm, 1146, rfl⟩
abbrev main_v982 : Ref sig .tc := ⟨.hbm, 1147, rfl⟩
abbrev main_v983 : Ref sig .tc := ⟨.hbm, 1148, rfl⟩
abbrev main_v984 : Ref sig .tc := ⟨.hbm, 1149, rfl⟩
abbrev main_v985 : Ref sig .tc := ⟨.hbm, 1150, rfl⟩
abbrev main_v986 : Ref sig .tc := ⟨.hbm, 1151, rfl⟩
abbrev main_v987 : Ref sig .tc := ⟨.hbm, 1152, rfl⟩
abbrev main_v988 : Ref sig .tc := ⟨.hbm, 1153, rfl⟩
abbrev main_v989 : Ref sig .tc := ⟨.hbm, 1154, rfl⟩
abbrev main_cst_115 : Ref sig .tc := ⟨.hbm, 1155, rfl⟩
abbrev main_v990 : Ref sig .tc := ⟨.hbm, 1156, rfl⟩
abbrev main_v991 : Ref sig .tc := ⟨.hbm, 1157, rfl⟩
abbrev main_v992 : Ref sig .tc := ⟨.hbm, 1158, rfl⟩
abbrev main_v993 : Ref sig .tc := ⟨.hbm, 1159, rfl⟩
abbrev main_v994 : Ref sig .tc := ⟨.hbm, 1160, rfl⟩
abbrev main_v995 : Ref sig .tc := ⟨.hbm, 1161, rfl⟩
abbrev main_v996 : Ref sig .tc := ⟨.hbm, 1162, rfl⟩
abbrev main_v997 : Ref sig .tc := ⟨.hbm, 1163, rfl⟩
abbrev main_v998 : Ref sig .tc := ⟨.hbm, 1164, rfl⟩
abbrev main_v999 : Ref sig .tc := ⟨.hbm, 1165, rfl⟩
abbrev main_v1000 : Ref sig .tc := ⟨.hbm, 1166, rfl⟩
abbrev main_v1001 : Ref sig .tc := ⟨.hbm, 1167, rfl⟩
abbrev main_cst_116 : Ref sig .tc := ⟨.hbm, 1168, rfl⟩
abbrev main_v1002 : Ref sig .tc := ⟨.hbm, 1169, rfl⟩
abbrev main_v1003 : Ref sig .tc := ⟨.hbm, 1170, rfl⟩
abbrev main_v1004 : Ref sig .tc := ⟨.hbm, 1171, rfl⟩
abbrev main_v1005 : Ref sig .tc := ⟨.hbm, 1172, rfl⟩
abbrev main_v1006 : Ref sig .tc := ⟨.hbm, 1173, rfl⟩
abbrev main_v1007 : Ref sig .tc := ⟨.hbm, 1174, rfl⟩
abbrev main_v1008 : Ref sig .tc := ⟨.hbm, 1175, rfl⟩
abbrev main_v1009 : Ref sig .tc := ⟨.hbm, 1176, rfl⟩
abbrev main_v1010 : Ref sig .tc := ⟨.hbm, 1177, rfl⟩
abbrev main_v1011 : Ref sig .tc := ⟨.hbm, 1178, rfl⟩
abbrev main_v1012 : Ref sig .tc := ⟨.hbm, 1179, rfl⟩
abbrev main_v1013 : Ref sig .tc := ⟨.hbm, 1180, rfl⟩
abbrev main_v1014 : Ref sig .tc := ⟨.hbm, 1181, rfl⟩
abbrev main_call9_v0 : Ref sig .tc := ⟨.hbm, 1182, rfl⟩
abbrev main_call9_v1 : Ref sig .tc := ⟨.hbm, 1183, rfl⟩
abbrev main_call9_v2 : Ref sig .tc := ⟨.hbm, 1184, rfl⟩
abbrev main_call9_v3 : Ref sig .tc := ⟨.hbm, 1185, rfl⟩
abbrev main_call9_v4 : Ref sig .tc := ⟨.hbm, 1186, rfl⟩
abbrev main_v1015 : Ref sig .tc := ⟨.hbm, 1187, rfl⟩
abbrev main_v1016 : Ref sig .tc := ⟨.hbm, 1188, rfl⟩
abbrev main_v1017 : Ref sig .tc := ⟨.hbm, 1189, rfl⟩
abbrev main_v1018 : Ref sig .tc := ⟨.hbm, 1190, rfl⟩
abbrev main_v1019 : Ref sig .tc := ⟨.hbm, 1191, rfl⟩
abbrev main_v1020 : Ref sig .tc := ⟨.hbm, 1192, rfl⟩
abbrev main_v1021 : Ref sig .tc := ⟨.hbm, 1193, rfl⟩
abbrev main_v1022 : Ref sig .tc := ⟨.hbm, 1194, rfl⟩
abbrev main_v1023 : Ref sig .tc := ⟨.hbm, 1195, rfl⟩
abbrev main_v1024 : Ref sig .tc := ⟨.hbm, 1196, rfl⟩
abbrev main_v1025 : Ref sig .tc := ⟨.hbm, 1197, rfl⟩
abbrev main_v1026 : Ref sig .tc := ⟨.hbm, 1198, rfl⟩
abbrev main_v1027 : Ref sig .tc := ⟨.hbm, 1199, rfl⟩
abbrev main_v1028 : Ref sig .tc := ⟨.hbm, 1200, rfl⟩
abbrev main_v1029 : Ref sig .tc := ⟨.hbm, 1201, rfl⟩
abbrev main_v1030 : Ref sig .tc := ⟨.hbm, 1202, rfl⟩
abbrev main_v1031 : Ref sig .tc := ⟨.hbm, 1203, rfl⟩
abbrev main_v1032 : Ref sig .tc := ⟨.hbm, 1204, rfl⟩
abbrev main_v1033 : Ref sig .tc := ⟨.hbm, 1205, rfl⟩
abbrev main_v1034 : Ref sig .tc := ⟨.hbm, 1206, rfl⟩
abbrev main_v1035 : Ref sig .tc := ⟨.hbm, 1207, rfl⟩
abbrev main_v1036 : Ref sig .tc := ⟨.hbm, 1208, rfl⟩
abbrev main_v1037 : Ref sig .tc := ⟨.hbm, 1209, rfl⟩
abbrev main_v1038 : Ref sig .tc := ⟨.hbm, 1210, rfl⟩
abbrev main_v1039 : Ref sig .tc := ⟨.hbm, 1211, rfl⟩
abbrev main_c_117 : Ref sig .tc := ⟨.hbm, 1212, rfl⟩
abbrev main_v1040 : Ref sig .tc := ⟨.hbm, 1213, rfl⟩
abbrev main_v1041 : Ref sig .tc := ⟨.hbm, 1214, rfl⟩
abbrev main_v1042 : Ref sig .tc := ⟨.hbm, 1215, rfl⟩
abbrev main_c_118 : Ref sig .tc := ⟨.hbm, 1216, rfl⟩
abbrev main_v1043 : Ref sig .tc := ⟨.hbm, 1217, rfl⟩
abbrev main_v1044 : Ref sig .tc := ⟨.hbm, 1218, rfl⟩
abbrev main_v1045 : Ref sig .tc := ⟨.hbm, 1219, rfl⟩
abbrev main_v1046 : Ref sig .tc := ⟨.hbm, 1220, rfl⟩
abbrev main_v1047 : Ref sig .tc := ⟨.hbm, 1221, rfl⟩
abbrev main_c_119 : Ref sig .tc := ⟨.hbm, 1222, rfl⟩
abbrev main_v1048 : Ref sig .tc := ⟨.hbm, 1223, rfl⟩
abbrev main_v1049 : Ref sig .tc := ⟨.hbm, 1224, rfl⟩
abbrev main_v1050 : Ref sig .tc := ⟨.hbm, 1225, rfl⟩
abbrev main_v1051 : Ref sig .tc := ⟨.hbm, 1226, rfl⟩
abbrev main_v1052 : Ref sig .tc := ⟨.hbm, 1227, rfl⟩
abbrev main_c_120 : Ref sig .tc := ⟨.hbm, 1228, rfl⟩
abbrev main_v1053 : Ref sig .tc := ⟨.hbm, 1229, rfl⟩
abbrev main_v1054 : Ref sig .tc := ⟨.hbm, 1230, rfl⟩
abbrev main_v1055 : Ref sig .tc := ⟨.hbm, 1231, rfl⟩
abbrev main_c_121 : Ref sig .tc := ⟨.hbm, 1232, rfl⟩
abbrev main_v1056 : Ref sig .tc := ⟨.hbm, 1233, rfl⟩
abbrev main_v1057 : Ref sig .tc := ⟨.hbm, 1234, rfl⟩
abbrev main_v1058 : Ref sig .tc := ⟨.hbm, 1235, rfl⟩
abbrev main_c_122 : Ref sig .tc := ⟨.hbm, 1236, rfl⟩
abbrev main_v1059 : Ref sig .tc := ⟨.hbm, 1237, rfl⟩
abbrev main_v1060 : Ref sig .tc := ⟨.hbm, 1238, rfl⟩
abbrev main_c_123 : Ref sig .tc := ⟨.hbm, 1239, rfl⟩
abbrev main_v1061 : Ref sig .tc := ⟨.hbm, 1240, rfl⟩
abbrev main_v1062 : Ref sig .tc := ⟨.hbm, 1241, rfl⟩
abbrev main_v1063 : Ref sig .tc := ⟨.hbm, 1242, rfl⟩
abbrev main_v1064 : Ref sig .tc := ⟨.hbm, 1243, rfl⟩
abbrev main_v1065 : Ref sig .tc := ⟨.hbm, 1244, rfl⟩
abbrev main_v1066 : Ref sig .tc := ⟨.hbm, 1245, rfl⟩
abbrev main_v1067 : Ref sig .tc := ⟨.hbm, 1246, rfl⟩
abbrev main_v1068 : Ref sig .tc := ⟨.hbm, 1247, rfl⟩
abbrev main_v1069 : Ref sig .tc := ⟨.hbm, 1248, rfl⟩
abbrev main_v1070 : Ref sig .tc := ⟨.hbm, 1249, rfl⟩
abbrev main_v1071 : Ref sig .tc := ⟨.hbm, 1250, rfl⟩
abbrev main_v1072 : Ref sig .tc := ⟨.hbm, 1251, rfl⟩
abbrev main_cst_124 : Ref sig .tc := ⟨.hbm, 1252, rfl⟩
abbrev main_v1073 : Ref sig .tc := ⟨.hbm, 1253, rfl⟩
abbrev main_v1074 : Ref sig .tc := ⟨.hbm, 1254, rfl⟩
abbrev main_v1075 : Ref sig .tc := ⟨.hbm, 1255, rfl⟩
abbrev main_v1076 : Ref sig .tc := ⟨.hbm, 1256, rfl⟩
abbrev main_v1077 : Ref sig .tc := ⟨.hbm, 1257, rfl⟩
abbrev main_v1078 : Ref sig .tc := ⟨.hbm, 1258, rfl⟩
abbrev main_v1079 : Ref sig .tc := ⟨.hbm, 1259, rfl⟩
abbrev main_v1080 : Ref sig .tc := ⟨.hbm, 1260, rfl⟩
abbrev main_v1081 : Ref sig .tc := ⟨.hbm, 1261, rfl⟩
abbrev main_v1082 : Ref sig .tc := ⟨.hbm, 1262, rfl⟩
abbrev main_v1083 : Ref sig .tc := ⟨.hbm, 1263, rfl⟩
abbrev main_v1084 : Ref sig .tc := ⟨.hbm, 1264, rfl⟩
abbrev main_cst_125 : Ref sig .tc := ⟨.hbm, 1265, rfl⟩
abbrev main_v1085 : Ref sig .tc := ⟨.hbm, 1266, rfl⟩
abbrev main_v1086 : Ref sig .tc := ⟨.hbm, 1267, rfl⟩
abbrev main_v1087 : Ref sig .tc := ⟨.hbm, 1268, rfl⟩
abbrev main_v1088 : Ref sig .tc := ⟨.hbm, 1269, rfl⟩
abbrev main_v1089 : Ref sig .tc := ⟨.hbm, 1270, rfl⟩
abbrev main_v1090 : Ref sig .tc := ⟨.hbm, 1271, rfl⟩
abbrev main_v1091 : Ref sig .tc := ⟨.hbm, 1272, rfl⟩
abbrev main_v1092 : Ref sig .tc := ⟨.hbm, 1273, rfl⟩
abbrev main_v1093 : Ref sig .tc := ⟨.hbm, 1274, rfl⟩
abbrev main_v1094 : Ref sig .tc := ⟨.hbm, 1275, rfl⟩
abbrev main_v1095 : Ref sig .tc := ⟨.hbm, 1276, rfl⟩
abbrev main_v1096 : Ref sig .tc := ⟨.hbm, 1277, rfl⟩
abbrev main_cst_126 : Ref sig .tc := ⟨.hbm, 1278, rfl⟩
abbrev main_v1097 : Ref sig .tc := ⟨.hbm, 1279, rfl⟩
abbrev main_v1098 : Ref sig .tc := ⟨.hbm, 1280, rfl⟩
abbrev main_v1099 : Ref sig .tc := ⟨.hbm, 1281, rfl⟩
abbrev main_v1100 : Ref sig .tc := ⟨.hbm, 1282, rfl⟩
abbrev main_v1101 : Ref sig .tc := ⟨.hbm, 1283, rfl⟩
abbrev main_v1102 : Ref sig .tc := ⟨.hbm, 1284, rfl⟩
abbrev main_v1103 : Ref sig .tc := ⟨.hbm, 1285, rfl⟩
abbrev main_v1104 : Ref sig .tc := ⟨.hbm, 1286, rfl⟩
abbrev main_v1105 : Ref sig .tc := ⟨.hbm, 1287, rfl⟩
abbrev main_v1106 : Ref sig .tc := ⟨.hbm, 1288, rfl⟩
abbrev main_v1107 : Ref sig .tc := ⟨.hbm, 1289, rfl⟩
abbrev main_v1108 : Ref sig .tc := ⟨.hbm, 1290, rfl⟩
abbrev main_cst_127 : Ref sig .tc := ⟨.hbm, 1291, rfl⟩
abbrev main_v1109 : Ref sig .tc := ⟨.hbm, 1292, rfl⟩
abbrev main_v1110 : Ref sig .tc := ⟨.hbm, 1293, rfl⟩
abbrev main_v1111 : Ref sig .tc := ⟨.hbm, 1294, rfl⟩
abbrev main_v1112 : Ref sig .tc := ⟨.hbm, 1295, rfl⟩
abbrev main_v1113 : Ref sig .tc := ⟨.hbm, 1296, rfl⟩
abbrev main_cst_128 : Ref sig .tc := ⟨.hbm, 1297, rfl⟩
abbrev main_v1114 : Ref sig .tc := ⟨.hbm, 1298, rfl⟩
abbrev main_v1115 : Ref sig .tc := ⟨.hbm, 1299, rfl⟩
abbrev main_v1116 : Ref sig .tc := ⟨.hbm, 1300, rfl⟩
abbrev main_v1117 : Ref sig .tc := ⟨.hbm, 1301, rfl⟩
abbrev main_v1118 : Ref sig .tc := ⟨.hbm, 1302, rfl⟩
abbrev main_v1119 : Ref sig .tc := ⟨.hbm, 1303, rfl⟩
abbrev main_cst_129 : Ref sig .tc := ⟨.hbm, 1304, rfl⟩
abbrev main_v1120 : Ref sig .tc := ⟨.hbm, 1305, rfl⟩
abbrev main_v1121 : Ref sig .tc := ⟨.hbm, 1306, rfl⟩
abbrev main_v1122 : Ref sig .tc := ⟨.hbm, 1307, rfl⟩
abbrev main_v1123 : Ref sig .tc := ⟨.hbm, 1308, rfl⟩
abbrev main_call10_v0 : Ref sig .tc := ⟨.hbm, 1309, rfl⟩
abbrev main_call10_v1 : Ref sig .tc := ⟨.hbm, 1310, rfl⟩
abbrev main_call10_v2 : Ref sig .tc := ⟨.hbm, 1311, rfl⟩
abbrev main_call10_v3 : Ref sig .tc := ⟨.hbm, 1312, rfl⟩
abbrev main_call10_v4 : Ref sig .tc := ⟨.hbm, 1313, rfl⟩
abbrev main_v1124 : Ref sig .tc := ⟨.hbm, 1314, rfl⟩
abbrev main_v1125 : Ref sig .tc := ⟨.hbm, 1315, rfl⟩
abbrev main_v1126 : Ref sig .tc := ⟨.hbm, 1316, rfl⟩
abbrev main_v1127 : Ref sig .tc := ⟨.hbm, 1317, rfl⟩
abbrev main_v1128 : Ref sig .tc := ⟨.hbm, 1318, rfl⟩
abbrev main_v1129 : Ref sig .tc := ⟨.hbm, 1319, rfl⟩
abbrev main_v1130 : Ref sig .tc := ⟨.hbm, 1320, rfl⟩
abbrev main_v1131 : Ref sig .tc := ⟨.hbm, 1321, rfl⟩
abbrev main_v1132 : Ref sig .tc := ⟨.hbm, 1322, rfl⟩
abbrev main_v1133 : Ref sig .tc := ⟨.hbm, 1323, rfl⟩
abbrev main_v1134 : Ref sig .tc := ⟨.hbm, 1324, rfl⟩
abbrev main_v1135 : Ref sig .tc := ⟨.hbm, 1325, rfl⟩
abbrev main_v1136 : Ref sig .tc := ⟨.hbm, 1326, rfl⟩
abbrev main_v1137 : Ref sig .tc := ⟨.hbm, 1327, rfl⟩
abbrev main_v1138 : Ref sig .tc := ⟨.hbm, 1328, rfl⟩
abbrev main_v1139 : Ref sig .tc := ⟨.hbm, 1329, rfl⟩
abbrev main_v1140 : Ref sig .tc := ⟨.hbm, 1330, rfl⟩
abbrev main_v1141 : Ref sig .tc := ⟨.hbm, 1331, rfl⟩
abbrev main_v1142 : Ref sig .tc := ⟨.hbm, 1332, rfl⟩
abbrev main_v1143 : Ref sig .tc := ⟨.hbm, 1333, rfl⟩
abbrev main_v1144 : Ref sig .tc := ⟨.hbm, 1334, rfl⟩
abbrev main_v1145 : Ref sig .tc := ⟨.hbm, 1335, rfl⟩
abbrev main_v1146 : Ref sig .tc := ⟨.hbm, 1336, rfl⟩
abbrev main_v1147 : Ref sig .tc := ⟨.hbm, 1337, rfl⟩
abbrev main_v1148 : Ref sig .tc := ⟨.hbm, 1338, rfl⟩
abbrev main_c_130 : Ref sig .tc := ⟨.hbm, 1339, rfl⟩
abbrev main_v1149 : Ref sig .tc := ⟨.hbm, 1340, rfl⟩
abbrev main_v1150 : Ref sig .tc := ⟨.hbm, 1341, rfl⟩
abbrev main_v1151 : Ref sig .tc := ⟨.hbm, 1342, rfl⟩
abbrev main_c_131 : Ref sig .tc := ⟨.hbm, 1343, rfl⟩
abbrev main_v1152 : Ref sig .tc := ⟨.hbm, 1344, rfl⟩
abbrev main_v1153 : Ref sig .tc := ⟨.hbm, 1345, rfl⟩
abbrev main_v1154 : Ref sig .tc := ⟨.hbm, 1346, rfl⟩
abbrev main_v1155 : Ref sig .tc := ⟨.hbm, 1347, rfl⟩
abbrev main_v1156 : Ref sig .tc := ⟨.hbm, 1348, rfl⟩
abbrev main_c_132 : Ref sig .tc := ⟨.hbm, 1349, rfl⟩
abbrev main_v1157 : Ref sig .tc := ⟨.hbm, 1350, rfl⟩
abbrev main_v1158 : Ref sig .tc := ⟨.hbm, 1351, rfl⟩
abbrev main_v1159 : Ref sig .tc := ⟨.hbm, 1352, rfl⟩
abbrev main_v1160 : Ref sig .tc := ⟨.hbm, 1353, rfl⟩
abbrev main_v1161 : Ref sig .tc := ⟨.hbm, 1354, rfl⟩
abbrev main_c_133 : Ref sig .tc := ⟨.hbm, 1355, rfl⟩
abbrev main_v1162 : Ref sig .tc := ⟨.hbm, 1356, rfl⟩
abbrev main_v1163 : Ref sig .tc := ⟨.hbm, 1357, rfl⟩
abbrev main_v1164 : Ref sig .tc := ⟨.hbm, 1358, rfl⟩
abbrev main_v1165 : Ref sig .tc := ⟨.hbm, 1359, rfl⟩
abbrev main_v1166 : Ref sig .tc := ⟨.hbm, 1360, rfl⟩
abbrev main_c_134 : Ref sig .tc := ⟨.hbm, 1361, rfl⟩
abbrev main_v1167 : Ref sig .tc := ⟨.hbm, 1362, rfl⟩
abbrev main_v1168 : Ref sig .tc := ⟨.hbm, 1363, rfl⟩
abbrev main_v1169 : Ref sig .tc := ⟨.hbm, 1364, rfl⟩
abbrev main_c_135 : Ref sig .tc := ⟨.hbm, 1365, rfl⟩
abbrev main_v1170 : Ref sig .tc := ⟨.hbm, 1366, rfl⟩
abbrev main_v1171 : Ref sig .tc := ⟨.hbm, 1367, rfl⟩
abbrev main_v1172 : Ref sig .tc := ⟨.hbm, 1368, rfl⟩
abbrev main_c_136 : Ref sig .tc := ⟨.hbm, 1369, rfl⟩
abbrev main_v1173 : Ref sig .tc := ⟨.hbm, 1370, rfl⟩
abbrev main_v1174 : Ref sig .tc := ⟨.hbm, 1371, rfl⟩
abbrev main_c_137 : Ref sig .tc := ⟨.hbm, 1372, rfl⟩
abbrev main_v1175 : Ref sig .tc := ⟨.hbm, 1373, rfl⟩
abbrev main_v1176 : Ref sig .tc := ⟨.hbm, 1374, rfl⟩
abbrev main_v1177 : Ref sig .tc := ⟨.hbm, 1375, rfl⟩
abbrev main_v1178 : Ref sig .tc := ⟨.hbm, 1376, rfl⟩
abbrev main_v1179 : Ref sig .tc := ⟨.hbm, 1377, rfl⟩
abbrev main_v1180 : Ref sig .tc := ⟨.hbm, 1378, rfl⟩
abbrev main_v1181 : Ref sig .tc := ⟨.hbm, 1379, rfl⟩
abbrev main_v1182 : Ref sig .tc := ⟨.hbm, 1380, rfl⟩
abbrev main_v1183 : Ref sig .tc := ⟨.hbm, 1381, rfl⟩
abbrev main_v1184 : Ref sig .tc := ⟨.hbm, 1382, rfl⟩
abbrev main_v1185 : Ref sig .tc := ⟨.hbm, 1383, rfl⟩
abbrev main_v1186 : Ref sig .tc := ⟨.hbm, 1384, rfl⟩
abbrev main_cst_138 : Ref sig .tc := ⟨.hbm, 1385, rfl⟩
abbrev main_v1187 : Ref sig .tc := ⟨.hbm, 1386, rfl⟩
abbrev main_v1188 : Ref sig .tc := ⟨.hbm, 1387, rfl⟩
abbrev main_v1189 : Ref sig .tc := ⟨.hbm, 1388, rfl⟩
abbrev main_v1190 : Ref sig .tc := ⟨.hbm, 1389, rfl⟩
abbrev main_v1191 : Ref sig .tc := ⟨.hbm, 1390, rfl⟩
abbrev main_v1192 : Ref sig .tc := ⟨.hbm, 1391, rfl⟩
abbrev main_v1193 : Ref sig .tc := ⟨.hbm, 1392, rfl⟩
abbrev main_v1194 : Ref sig .tc := ⟨.hbm, 1393, rfl⟩
abbrev main_v1195 : Ref sig .tc := ⟨.hbm, 1394, rfl⟩
abbrev main_v1196 : Ref sig .tc := ⟨.hbm, 1395, rfl⟩
abbrev main_v1197 : Ref sig .tc := ⟨.hbm, 1396, rfl⟩
abbrev main_v1198 : Ref sig .tc := ⟨.hbm, 1397, rfl⟩
abbrev main_cst_139 : Ref sig .tc := ⟨.hbm, 1398, rfl⟩
abbrev main_v1199 : Ref sig .tc := ⟨.hbm, 1399, rfl⟩
abbrev main_v1200 : Ref sig .tc := ⟨.hbm, 1400, rfl⟩
abbrev main_v1201 : Ref sig .tc := ⟨.hbm, 1401, rfl⟩
abbrev main_v1202 : Ref sig .tc := ⟨.hbm, 1402, rfl⟩
abbrev main_v1203 : Ref sig .tc := ⟨.hbm, 1403, rfl⟩
abbrev main_v1204 : Ref sig .tc := ⟨.hbm, 1404, rfl⟩
abbrev main_v1205 : Ref sig .tc := ⟨.hbm, 1405, rfl⟩
abbrev main_v1206 : Ref sig .tc := ⟨.hbm, 1406, rfl⟩
abbrev main_v1207 : Ref sig .tc := ⟨.hbm, 1407, rfl⟩
abbrev main_v1208 : Ref sig .tc := ⟨.hbm, 1408, rfl⟩
abbrev main_v1209 : Ref sig .tc := ⟨.hbm, 1409, rfl⟩
abbrev main_v1210 : Ref sig .tc := ⟨.hbm, 1410, rfl⟩
abbrev main_cst_140 : Ref sig .tc := ⟨.hbm, 1411, rfl⟩
abbrev main_v1211 : Ref sig .tc := ⟨.hbm, 1412, rfl⟩
abbrev main_v1212 : Ref sig .tc := ⟨.hbm, 1413, rfl⟩
abbrev main_v1213 : Ref sig .tc := ⟨.hbm, 1414, rfl⟩
abbrev main_v1214 : Ref sig .tc := ⟨.hbm, 1415, rfl⟩
abbrev main_v1215 : Ref sig .tc := ⟨.hbm, 1416, rfl⟩
abbrev main_v1216 : Ref sig .tc := ⟨.hbm, 1417, rfl⟩
abbrev main_v1217 : Ref sig .tc := ⟨.hbm, 1418, rfl⟩
abbrev main_v1218 : Ref sig .tc := ⟨.hbm, 1419, rfl⟩
abbrev main_v1219 : Ref sig .tc := ⟨.hbm, 1420, rfl⟩
abbrev main_v1220 : Ref sig .tc := ⟨.hbm, 1421, rfl⟩
abbrev main_v1221 : Ref sig .tc := ⟨.hbm, 1422, rfl⟩
abbrev main_v1222 : Ref sig .tc := ⟨.hbm, 1423, rfl⟩
abbrev main_cst_141 : Ref sig .tc := ⟨.hbm, 1424, rfl⟩
abbrev main_v1223 : Ref sig .tc := ⟨.hbm, 1425, rfl⟩
abbrev main_v1224 : Ref sig .tc := ⟨.hbm, 1426, rfl⟩
abbrev main_v1225 : Ref sig .tc := ⟨.hbm, 1427, rfl⟩
abbrev main_v1226 : Ref sig .tc := ⟨.hbm, 1428, rfl⟩
abbrev main_v1227 : Ref sig .tc := ⟨.hbm, 1429, rfl⟩
abbrev main_v1228 : Ref sig .tc := ⟨.hbm, 1430, rfl⟩
abbrev main_v1229 : Ref sig .tc := ⟨.hbm, 1431, rfl⟩
abbrev main_v1230 : Ref sig .tc := ⟨.hbm, 1432, rfl⟩
abbrev main_v1231 : Ref sig .tc := ⟨.hbm, 1433, rfl⟩
abbrev main_v1232 : Ref sig .tc := ⟨.hbm, 1434, rfl⟩
abbrev main_v1233 : Ref sig .tc := ⟨.hbm, 1435, rfl⟩
abbrev main_v1234 : Ref sig .tc := ⟨.hbm, 1436, rfl⟩
abbrev main_v1235 : Ref sig .tc := ⟨.hbm, 1437, rfl⟩
abbrev main_call11_v0 : Ref sig .tc := ⟨.hbm, 1438, rfl⟩
abbrev main_call11_v1 : Ref sig .tc := ⟨.hbm, 1439, rfl⟩
abbrev main_call11_v2 : Ref sig .tc := ⟨.hbm, 1440, rfl⟩
abbrev main_call11_v3 : Ref sig .tc := ⟨.hbm, 1441, rfl⟩
abbrev main_call11_v4 : Ref sig .tc := ⟨.hbm, 1442, rfl⟩
abbrev main_v1236 : Ref sig .tc := ⟨.hbm, 1443, rfl⟩
abbrev main_v1237 : Ref sig .tc := ⟨.hbm, 1444, rfl⟩
abbrev main_v1238 : Ref sig .tc := ⟨.hbm, 1445, rfl⟩
abbrev main_v1239 : Ref sig .tc := ⟨.hbm, 1446, rfl⟩
abbrev main_v1240 : Ref sig .tc := ⟨.hbm, 1447, rfl⟩
abbrev main_v1241 : Ref sig .tc := ⟨.hbm, 1448, rfl⟩
abbrev main_v1242 : Ref sig .tc := ⟨.hbm, 1449, rfl⟩
abbrev main_v1243 : Ref sig .tc := ⟨.hbm, 1450, rfl⟩
abbrev main_v1244 : Ref sig .tc := ⟨.hbm, 1451, rfl⟩
abbrev main_v1245 : Ref sig .tc := ⟨.hbm, 1452, rfl⟩
abbrev main_v1246 : Ref sig .tc := ⟨.hbm, 1453, rfl⟩
abbrev main_v1247 : Ref sig .tc := ⟨.hbm, 1454, rfl⟩
abbrev main_v1248 : Ref sig .tc := ⟨.hbm, 1455, rfl⟩
abbrev main_v1249 : Ref sig .tc := ⟨.hbm, 1456, rfl⟩
abbrev main_v1250 : Ref sig .tc := ⟨.hbm, 1457, rfl⟩
abbrev main_v1251 : Ref sig .tc := ⟨.hbm, 1458, rfl⟩
abbrev main_v1252 : Ref sig .tc := ⟨.hbm, 1459, rfl⟩
abbrev main_v1253 : Ref sig .tc := ⟨.hbm, 1460, rfl⟩
abbrev main_v1254 : Ref sig .tc := ⟨.hbm, 1461, rfl⟩
abbrev main_v1255 : Ref sig .tc := ⟨.hbm, 1462, rfl⟩
abbrev main_v1256 : Ref sig .tc := ⟨.hbm, 1463, rfl⟩
abbrev main_v1257 : Ref sig .tc := ⟨.hbm, 1464, rfl⟩
abbrev main_v1258 : Ref sig .tc := ⟨.hbm, 1465, rfl⟩
abbrev main_v1259 : Ref sig .tc := ⟨.hbm, 1466, rfl⟩
abbrev main_v1260 : Ref sig .tc := ⟨.hbm, 1467, rfl⟩
abbrev main_c_142 : Ref sig .tc := ⟨.hbm, 1468, rfl⟩
abbrev main_v1261 : Ref sig .tc := ⟨.hbm, 1469, rfl⟩
abbrev main_v1262 : Ref sig .tc := ⟨.hbm, 1470, rfl⟩
abbrev main_v1263 : Ref sig .tc := ⟨.hbm, 1471, rfl⟩
abbrev main_c_143 : Ref sig .tc := ⟨.hbm, 1472, rfl⟩
abbrev main_v1264 : Ref sig .tc := ⟨.hbm, 1473, rfl⟩
abbrev main_v1265 : Ref sig .tc := ⟨.hbm, 1474, rfl⟩
abbrev main_v1266 : Ref sig .tc := ⟨.hbm, 1475, rfl⟩
abbrev main_v1267 : Ref sig .tc := ⟨.hbm, 1476, rfl⟩
abbrev main_v1268 : Ref sig .tc := ⟨.hbm, 1477, rfl⟩
abbrev main_c_144 : Ref sig .tc := ⟨.hbm, 1478, rfl⟩
abbrev main_v1269 : Ref sig .tc := ⟨.hbm, 1479, rfl⟩
abbrev main_v1270 : Ref sig .tc := ⟨.hbm, 1480, rfl⟩
abbrev main_v1271 : Ref sig .tc := ⟨.hbm, 1481, rfl⟩
abbrev main_v1272 : Ref sig .tc := ⟨.hbm, 1482, rfl⟩
abbrev main_v1273 : Ref sig .tc := ⟨.hbm, 1483, rfl⟩
abbrev main_c_145 : Ref sig .tc := ⟨.hbm, 1484, rfl⟩
abbrev main_v1274 : Ref sig .tc := ⟨.hbm, 1485, rfl⟩
abbrev main_v1275 : Ref sig .tc := ⟨.hbm, 1486, rfl⟩
abbrev main_v1276 : Ref sig .tc := ⟨.hbm, 1487, rfl⟩
abbrev main_c_146 : Ref sig .tc := ⟨.hbm, 1488, rfl⟩
abbrev main_v1277 : Ref sig .tc := ⟨.hbm, 1489, rfl⟩
abbrev main_v1278 : Ref sig .tc := ⟨.hbm, 1490, rfl⟩
abbrev main_v1279 : Ref sig .tc := ⟨.hbm, 1491, rfl⟩
abbrev main_c_147 : Ref sig .tc := ⟨.hbm, 1492, rfl⟩
abbrev main_v1280 : Ref sig .tc := ⟨.hbm, 1493, rfl⟩
abbrev main_v1281 : Ref sig .tc := ⟨.hbm, 1494, rfl⟩
abbrev main_c_148 : Ref sig .tc := ⟨.hbm, 1495, rfl⟩
abbrev main_v1282 : Ref sig .tc := ⟨.hbm, 1496, rfl⟩
abbrev main_v1283 : Ref sig .tc := ⟨.hbm, 1497, rfl⟩
abbrev main_v1284 : Ref sig .tc := ⟨.hbm, 1498, rfl⟩
abbrev main_v1285 : Ref sig .tc := ⟨.hbm, 1499, rfl⟩
abbrev main_v1286 : Ref sig .tc := ⟨.hbm, 1500, rfl⟩
abbrev main_v1287 : Ref sig .tc := ⟨.hbm, 1501, rfl⟩
abbrev main_v1288 : Ref sig .tc := ⟨.hbm, 1502, rfl⟩
abbrev main_v1289 : Ref sig .tc := ⟨.hbm, 1503, rfl⟩
abbrev main_v1290 : Ref sig .tc := ⟨.hbm, 1504, rfl⟩
abbrev main_v1291 : Ref sig .tc := ⟨.hbm, 1505, rfl⟩
abbrev main_v1292 : Ref sig .tc := ⟨.hbm, 1506, rfl⟩
abbrev main_v1293 : Ref sig .tc := ⟨.hbm, 1507, rfl⟩
abbrev main_cst_149 : Ref sig .tc := ⟨.hbm, 1508, rfl⟩
abbrev main_v1294 : Ref sig .tc := ⟨.hbm, 1509, rfl⟩
abbrev main_v1295 : Ref sig .tc := ⟨.hbm, 1510, rfl⟩
abbrev main_v1296 : Ref sig .tc := ⟨.hbm, 1511, rfl⟩
abbrev main_v1297 : Ref sig .tc := ⟨.hbm, 1512, rfl⟩
abbrev main_v1298 : Ref sig .tc := ⟨.hbm, 1513, rfl⟩
abbrev main_v1299 : Ref sig .tc := ⟨.hbm, 1514, rfl⟩
abbrev main_v1300 : Ref sig .tc := ⟨.hbm, 1515, rfl⟩
abbrev main_v1301 : Ref sig .tc := ⟨.hbm, 1516, rfl⟩
abbrev main_v1302 : Ref sig .tc := ⟨.hbm, 1517, rfl⟩
abbrev main_v1303 : Ref sig .tc := ⟨.hbm, 1518, rfl⟩
abbrev main_v1304 : Ref sig .tc := ⟨.hbm, 1519, rfl⟩
abbrev main_v1305 : Ref sig .tc := ⟨.hbm, 1520, rfl⟩
abbrev main_cst_150 : Ref sig .tc := ⟨.hbm, 1521, rfl⟩
abbrev main_v1306 : Ref sig .tc := ⟨.hbm, 1522, rfl⟩
abbrev main_v1307 : Ref sig .tc := ⟨.hbm, 1523, rfl⟩
abbrev main_v1308 : Ref sig .tc := ⟨.hbm, 1524, rfl⟩
abbrev main_v1309 : Ref sig .tc := ⟨.hbm, 1525, rfl⟩
abbrev main_v1310 : Ref sig .tc := ⟨.hbm, 1526, rfl⟩
abbrev main_v1311 : Ref sig .tc := ⟨.hbm, 1527, rfl⟩
abbrev main_v1312 : Ref sig .tc := ⟨.hbm, 1528, rfl⟩
abbrev main_v1313 : Ref sig .tc := ⟨.hbm, 1529, rfl⟩
abbrev main_v1314 : Ref sig .tc := ⟨.hbm, 1530, rfl⟩
abbrev main_v1315 : Ref sig .tc := ⟨.hbm, 1531, rfl⟩
abbrev main_v1316 : Ref sig .tc := ⟨.hbm, 1532, rfl⟩
abbrev main_v1317 : Ref sig .tc := ⟨.hbm, 1533, rfl⟩
abbrev main_cst_151 : Ref sig .tc := ⟨.hbm, 1534, rfl⟩
abbrev main_v1318 : Ref sig .tc := ⟨.hbm, 1535, rfl⟩
abbrev main_v1319 : Ref sig .tc := ⟨.hbm, 1536, rfl⟩
abbrev main_v1320 : Ref sig .tc := ⟨.hbm, 1537, rfl⟩
abbrev main_v1321 : Ref sig .tc := ⟨.hbm, 1538, rfl⟩
abbrev main_v1322 : Ref sig .tc := ⟨.hbm, 1539, rfl⟩
abbrev main_v1323 : Ref sig .tc := ⟨.hbm, 1540, rfl⟩
abbrev main_v1324 : Ref sig .tc := ⟨.hbm, 1541, rfl⟩
abbrev main_v1325 : Ref sig .tc := ⟨.hbm, 1542, rfl⟩
abbrev main_v1326 : Ref sig .tc := ⟨.hbm, 1543, rfl⟩
abbrev main_v1327 : Ref sig .tc := ⟨.hbm, 1544, rfl⟩
abbrev main_v1328 : Ref sig .tc := ⟨.hbm, 1545, rfl⟩
abbrev main_v1329 : Ref sig .tc := ⟨.hbm, 1546, rfl⟩
abbrev main_cst_152 : Ref sig .tc := ⟨.hbm, 1547, rfl⟩
abbrev main_v1330 : Ref sig .tc := ⟨.hbm, 1548, rfl⟩
abbrev main_v1331 : Ref sig .tc := ⟨.hbm, 1549, rfl⟩
abbrev main_v1332 : Ref sig .tc := ⟨.hbm, 1550, rfl⟩
abbrev main_v1333 : Ref sig .tc := ⟨.hbm, 1551, rfl⟩
abbrev main_v1334 : Ref sig .tc := ⟨.hbm, 1552, rfl⟩
abbrev main_cst_153 : Ref sig .tc := ⟨.hbm, 1553, rfl⟩
abbrev main_v1335 : Ref sig .tc := ⟨.hbm, 1554, rfl⟩
abbrev main_v1336 : Ref sig .tc := ⟨.hbm, 1555, rfl⟩
abbrev main_v1337 : Ref sig .tc := ⟨.hbm, 1556, rfl⟩
abbrev main_v1338 : Ref sig .tc := ⟨.hbm, 1557, rfl⟩
abbrev main_v1339 : Ref sig .tc := ⟨.hbm, 1558, rfl⟩
abbrev main_v1340 : Ref sig .tc := ⟨.hbm, 1559, rfl⟩
abbrev main_cst_154 : Ref sig .tc := ⟨.hbm, 1560, rfl⟩
abbrev main_v1341 : Ref sig .tc := ⟨.hbm, 1561, rfl⟩
abbrev main_v1342 : Ref sig .tc := ⟨.hbm, 1562, rfl⟩
abbrev main_v1343 : Ref sig .tc := ⟨.hbm, 1563, rfl⟩
abbrev main_v1344 : Ref sig .tc := ⟨.hbm, 1564, rfl⟩
abbrev main_call12_v0 : Ref sig .tc := ⟨.hbm, 1565, rfl⟩
abbrev main_call12_v1 : Ref sig .tc := ⟨.hbm, 1566, rfl⟩
abbrev main_call12_v2 : Ref sig .tc := ⟨.hbm, 1567, rfl⟩
abbrev main_call12_v3 : Ref sig .tc := ⟨.hbm, 1568, rfl⟩
abbrev main_call12_v4 : Ref sig .tc := ⟨.hbm, 1569, rfl⟩
abbrev main_v1345 : Ref sig .tc := ⟨.hbm, 1570, rfl⟩
abbrev main_v1346 : Ref sig .tc := ⟨.hbm, 1571, rfl⟩
abbrev main_v1347 : Ref sig .tc := ⟨.hbm, 1572, rfl⟩
abbrev main_v1348 : Ref sig .tc := ⟨.hbm, 1573, rfl⟩
abbrev main_v1349 : Ref sig .tc := ⟨.hbm, 1574, rfl⟩
abbrev main_v1350 : Ref sig .tc := ⟨.hbm, 1575, rfl⟩
abbrev main_v1351 : Ref sig .tc := ⟨.hbm, 1576, rfl⟩
abbrev main_v1352 : Ref sig .tc := ⟨.hbm, 1577, rfl⟩
abbrev main_v1353 : Ref sig .tc := ⟨.hbm, 1578, rfl⟩
abbrev main_v1354 : Ref sig .tc := ⟨.hbm, 1579, rfl⟩
abbrev main_v1355 : Ref sig .tc := ⟨.hbm, 1580, rfl⟩
abbrev main_v1356 : Ref sig .tc := ⟨.hbm, 1581, rfl⟩
abbrev main_v1357 : Ref sig .tc := ⟨.hbm, 1582, rfl⟩
abbrev main_v1358 : Ref sig .tc := ⟨.hbm, 1583, rfl⟩
abbrev main_v1359 : Ref sig .tc := ⟨.hbm, 1584, rfl⟩
abbrev main_v1360 : Ref sig .tc := ⟨.hbm, 1585, rfl⟩
abbrev main_v1361 : Ref sig .tc := ⟨.hbm, 1586, rfl⟩
abbrev main_v1362 : Ref sig .tc := ⟨.hbm, 1587, rfl⟩
abbrev main_v1363 : Ref sig .tc := ⟨.hbm, 1588, rfl⟩
abbrev main_v1364 : Ref sig .tc := ⟨.hbm, 1589, rfl⟩
abbrev main_v1365 : Ref sig .tc := ⟨.hbm, 1590, rfl⟩
abbrev main_v1366 : Ref sig .tc := ⟨.hbm, 1591, rfl⟩
abbrev main_v1367 : Ref sig .tc := ⟨.hbm, 1592, rfl⟩
abbrev main_v1368 : Ref sig .tc := ⟨.hbm, 1593, rfl⟩
abbrev main_v1369 : Ref sig .tc := ⟨.hbm, 1594, rfl⟩
abbrev main_c_155 : Ref sig .tc := ⟨.hbm, 1595, rfl⟩
abbrev main_v1370 : Ref sig .tc := ⟨.hbm, 1596, rfl⟩
abbrev main_v1371 : Ref sig .tc := ⟨.hbm, 1597, rfl⟩
abbrev main_v1372 : Ref sig .tc := ⟨.hbm, 1598, rfl⟩
abbrev main_c_156 : Ref sig .tc := ⟨.hbm, 1599, rfl⟩
abbrev main_v1373 : Ref sig .tc := ⟨.hbm, 1600, rfl⟩
abbrev main_v1374 : Ref sig .tc := ⟨.hbm, 1601, rfl⟩
abbrev main_v1375 : Ref sig .tc := ⟨.hbm, 1602, rfl⟩
abbrev main_v1376 : Ref sig .tc := ⟨.hbm, 1603, rfl⟩
abbrev main_v1377 : Ref sig .tc := ⟨.hbm, 1604, rfl⟩
abbrev main_c_157 : Ref sig .tc := ⟨.hbm, 1605, rfl⟩
abbrev main_v1378 : Ref sig .tc := ⟨.hbm, 1606, rfl⟩
abbrev main_v1379 : Ref sig .tc := ⟨.hbm, 1607, rfl⟩
abbrev main_v1380 : Ref sig .tc := ⟨.hbm, 1608, rfl⟩
abbrev main_v1381 : Ref sig .tc := ⟨.hbm, 1609, rfl⟩
abbrev main_v1382 : Ref sig .tc := ⟨.hbm, 1610, rfl⟩
abbrev main_c_158 : Ref sig .tc := ⟨.hbm, 1611, rfl⟩
abbrev main_v1383 : Ref sig .tc := ⟨.hbm, 1612, rfl⟩
abbrev main_v1384 : Ref sig .tc := ⟨.hbm, 1613, rfl⟩
abbrev main_v1385 : Ref sig .tc := ⟨.hbm, 1614, rfl⟩
abbrev main_v1386 : Ref sig .tc := ⟨.hbm, 1615, rfl⟩
abbrev main_v1387 : Ref sig .tc := ⟨.hbm, 1616, rfl⟩
abbrev main_c_159 : Ref sig .tc := ⟨.hbm, 1617, rfl⟩
abbrev main_v1388 : Ref sig .tc := ⟨.hbm, 1618, rfl⟩
abbrev main_v1389 : Ref sig .tc := ⟨.hbm, 1619, rfl⟩
abbrev main_v1390 : Ref sig .tc := ⟨.hbm, 1620, rfl⟩
abbrev main_c_160 : Ref sig .tc := ⟨.hbm, 1621, rfl⟩
abbrev main_v1391 : Ref sig .tc := ⟨.hbm, 1622, rfl⟩
abbrev main_v1392 : Ref sig .tc := ⟨.hbm, 1623, rfl⟩
abbrev main_v1393 : Ref sig .tc := ⟨.hbm, 1624, rfl⟩
abbrev main_c_161 : Ref sig .tc := ⟨.hbm, 1625, rfl⟩
abbrev main_v1394 : Ref sig .tc := ⟨.hbm, 1626, rfl⟩
abbrev main_v1395 : Ref sig .tc := ⟨.hbm, 1627, rfl⟩
abbrev main_c_162 : Ref sig .tc := ⟨.hbm, 1628, rfl⟩
abbrev main_v1396 : Ref sig .tc := ⟨.hbm, 1629, rfl⟩
abbrev main_v1397 : Ref sig .tc := ⟨.hbm, 1630, rfl⟩
abbrev main_v1398 : Ref sig .tc := ⟨.hbm, 1631, rfl⟩
abbrev main_v1399 : Ref sig .tc := ⟨.hbm, 1632, rfl⟩
abbrev main_v1400 : Ref sig .tc := ⟨.hbm, 1633, rfl⟩
abbrev main_v1401 : Ref sig .tc := ⟨.hbm, 1634, rfl⟩
abbrev main_v1402 : Ref sig .tc := ⟨.hbm, 1635, rfl⟩
abbrev main_v1403 : Ref sig .tc := ⟨.hbm, 1636, rfl⟩
abbrev main_v1404 : Ref sig .tc := ⟨.hbm, 1637, rfl⟩
abbrev main_v1405 : Ref sig .tc := ⟨.hbm, 1638, rfl⟩
abbrev main_v1406 : Ref sig .tc := ⟨.hbm, 1639, rfl⟩
abbrev main_v1407 : Ref sig .tc := ⟨.hbm, 1640, rfl⟩
abbrev main_cst_163 : Ref sig .tc := ⟨.hbm, 1641, rfl⟩
abbrev main_v1408 : Ref sig .tc := ⟨.hbm, 1642, rfl⟩
abbrev main_v1409 : Ref sig .tc := ⟨.hbm, 1643, rfl⟩
abbrev main_v1410 : Ref sig .tc := ⟨.hbm, 1644, rfl⟩
abbrev main_v1411 : Ref sig .tc := ⟨.hbm, 1645, rfl⟩
abbrev main_v1412 : Ref sig .tc := ⟨.hbm, 1646, rfl⟩
abbrev main_v1413 : Ref sig .tc := ⟨.hbm, 1647, rfl⟩
abbrev main_v1414 : Ref sig .tc := ⟨.hbm, 1648, rfl⟩
abbrev main_v1415 : Ref sig .tc := ⟨.hbm, 1649, rfl⟩
abbrev main_v1416 : Ref sig .tc := ⟨.hbm, 1650, rfl⟩
abbrev main_v1417 : Ref sig .tc := ⟨.hbm, 1651, rfl⟩
abbrev main_v1418 : Ref sig .tc := ⟨.hbm, 1652, rfl⟩
abbrev main_v1419 : Ref sig .tc := ⟨.hbm, 1653, rfl⟩
abbrev main_cst_164 : Ref sig .tc := ⟨.hbm, 1654, rfl⟩
abbrev main_v1420 : Ref sig .tc := ⟨.hbm, 1655, rfl⟩
abbrev main_v1421 : Ref sig .tc := ⟨.hbm, 1656, rfl⟩
abbrev main_v1422 : Ref sig .tc := ⟨.hbm, 1657, rfl⟩
abbrev main_v1423 : Ref sig .tc := ⟨.hbm, 1658, rfl⟩
abbrev main_v1424 : Ref sig .tc := ⟨.hbm, 1659, rfl⟩
abbrev main_v1425 : Ref sig .tc := ⟨.hbm, 1660, rfl⟩
abbrev main_v1426 : Ref sig .tc := ⟨.hbm, 1661, rfl⟩
abbrev main_v1427 : Ref sig .tc := ⟨.hbm, 1662, rfl⟩
abbrev main_v1428 : Ref sig .tc := ⟨.hbm, 1663, rfl⟩
abbrev main_v1429 : Ref sig .tc := ⟨.hbm, 1664, rfl⟩
abbrev main_v1430 : Ref sig .tc := ⟨.hbm, 1665, rfl⟩
abbrev main_v1431 : Ref sig .tc := ⟨.hbm, 1666, rfl⟩
abbrev main_cst_165 : Ref sig .tc := ⟨.hbm, 1667, rfl⟩
abbrev main_v1432 : Ref sig .tc := ⟨.hbm, 1668, rfl⟩
abbrev main_v1433 : Ref sig .tc := ⟨.hbm, 1669, rfl⟩
abbrev main_v1434 : Ref sig .tc := ⟨.hbm, 1670, rfl⟩
abbrev main_v1435 : Ref sig .tc := ⟨.hbm, 1671, rfl⟩
abbrev main_v1436 : Ref sig .tc := ⟨.hbm, 1672, rfl⟩
abbrev main_v1437 : Ref sig .tc := ⟨.hbm, 1673, rfl⟩
abbrev main_v1438 : Ref sig .tc := ⟨.hbm, 1674, rfl⟩
abbrev main_v1439 : Ref sig .tc := ⟨.hbm, 1675, rfl⟩
abbrev main_v1440 : Ref sig .tc := ⟨.hbm, 1676, rfl⟩
abbrev main_v1441 : Ref sig .tc := ⟨.hbm, 1677, rfl⟩
abbrev main_v1442 : Ref sig .tc := ⟨.hbm, 1678, rfl⟩
abbrev main_v1443 : Ref sig .tc := ⟨.hbm, 1679, rfl⟩
abbrev main_cst_166 : Ref sig .tc := ⟨.hbm, 1680, rfl⟩
abbrev main_v1444 : Ref sig .tc := ⟨.hbm, 1681, rfl⟩
abbrev main_v1445 : Ref sig .tc := ⟨.hbm, 1682, rfl⟩
abbrev main_v1446 : Ref sig .tc := ⟨.hbm, 1683, rfl⟩
abbrev main_v1447 : Ref sig .tc := ⟨.hbm, 1684, rfl⟩
abbrev main_v1448 : Ref sig .tc := ⟨.hbm, 1685, rfl⟩
abbrev main_v1449 : Ref sig .tc := ⟨.hbm, 1686, rfl⟩
abbrev main_v1450 : Ref sig .tc := ⟨.hbm, 1687, rfl⟩
abbrev main_v1451 : Ref sig .tc := ⟨.hbm, 1688, rfl⟩
abbrev main_v1452 : Ref sig .tc := ⟨.hbm, 1689, rfl⟩
abbrev main_v1453 : Ref sig .tc := ⟨.hbm, 1690, rfl⟩
abbrev main_v1454 : Ref sig .tc := ⟨.hbm, 1691, rfl⟩
abbrev main_v1455 : Ref sig .tc := ⟨.hbm, 1692, rfl⟩
abbrev main_v1456 : Ref sig .tc := ⟨.hbm, 1693, rfl⟩
abbrev main_call13_v0 : Ref sig .tc := ⟨.hbm, 1694, rfl⟩
abbrev main_call13_v1 : Ref sig .tc := ⟨.hbm, 1695, rfl⟩
abbrev main_call13_v2 : Ref sig .tc := ⟨.hbm, 1696, rfl⟩
abbrev main_call13_v3 : Ref sig .tc := ⟨.hbm, 1697, rfl⟩
abbrev main_call13_v4 : Ref sig .tc := ⟨.hbm, 1698, rfl⟩
abbrev main_v1457 : Ref sig .tc := ⟨.hbm, 1699, rfl⟩
abbrev main_v1458 : Ref sig .tc := ⟨.hbm, 1700, rfl⟩
abbrev main_v1459 : Ref sig .tc := ⟨.hbm, 1701, rfl⟩
abbrev main_v1460 : Ref sig .tc := ⟨.hbm, 1702, rfl⟩
abbrev main_v1461 : Ref sig .tc := ⟨.hbm, 1703, rfl⟩
abbrev main_v1462 : Ref sig .tc := ⟨.hbm, 1704, rfl⟩
abbrev main_v1463 : Ref sig .tc := ⟨.hbm, 1705, rfl⟩
abbrev main_v1464 : Ref sig .tc := ⟨.hbm, 1706, rfl⟩
abbrev main_v1465 : Ref sig .tc := ⟨.hbm, 1707, rfl⟩
abbrev main_v1466 : Ref sig .tc := ⟨.hbm, 1708, rfl⟩
abbrev main_v1467 : Ref sig .tc := ⟨.hbm, 1709, rfl⟩
abbrev main_v1468 : Ref sig .tc := ⟨.hbm, 1710, rfl⟩
abbrev main_v1469 : Ref sig .tc := ⟨.hbm, 1711, rfl⟩
abbrev main_v1470 : Ref sig .tc := ⟨.hbm, 1712, rfl⟩
abbrev main_v1471 : Ref sig .tc := ⟨.hbm, 1713, rfl⟩
abbrev main_v1472 : Ref sig .tc := ⟨.hbm, 1714, rfl⟩
abbrev main_v1473 : Ref sig .tc := ⟨.hbm, 1715, rfl⟩
abbrev main_v1474 : Ref sig .tc := ⟨.hbm, 1716, rfl⟩
abbrev main_v1475 : Ref sig .tc := ⟨.hbm, 1717, rfl⟩
abbrev main_v1476 : Ref sig .tc := ⟨.hbm, 1718, rfl⟩
abbrev main_v1477 : Ref sig .tc := ⟨.hbm, 1719, rfl⟩
abbrev main_v1478 : Ref sig .tc := ⟨.hbm, 1720, rfl⟩
abbrev main_v1479 : Ref sig .tc := ⟨.hbm, 1721, rfl⟩
abbrev main_v1480 : Ref sig .tc := ⟨.hbm, 1722, rfl⟩
abbrev main_v1481 : Ref sig .tc := ⟨.hbm, 1723, rfl⟩
abbrev main_c_167 : Ref sig .tc := ⟨.hbm, 1724, rfl⟩
abbrev main_v1482 : Ref sig .tc := ⟨.hbm, 1725, rfl⟩
abbrev main_v1483 : Ref sig .tc := ⟨.hbm, 1726, rfl⟩
abbrev main_v1484 : Ref sig .tc := ⟨.hbm, 1727, rfl⟩
abbrev main_c_168 : Ref sig .tc := ⟨.hbm, 1728, rfl⟩
abbrev main_v1485 : Ref sig .tc := ⟨.hbm, 1729, rfl⟩
abbrev main_v1486 : Ref sig .tc := ⟨.hbm, 1730, rfl⟩
abbrev main_v1487 : Ref sig .tc := ⟨.hbm, 1731, rfl⟩
abbrev main_v1488 : Ref sig .tc := ⟨.hbm, 1732, rfl⟩
abbrev main_v1489 : Ref sig .tc := ⟨.hbm, 1733, rfl⟩
abbrev main_c_169 : Ref sig .tc := ⟨.hbm, 1734, rfl⟩
abbrev main_v1490 : Ref sig .tc := ⟨.hbm, 1735, rfl⟩
abbrev main_v1491 : Ref sig .tc := ⟨.hbm, 1736, rfl⟩
abbrev main_v1492 : Ref sig .tc := ⟨.hbm, 1737, rfl⟩
abbrev main_v1493 : Ref sig .tc := ⟨.hbm, 1738, rfl⟩
abbrev main_v1494 : Ref sig .tc := ⟨.hbm, 1739, rfl⟩
abbrev main_c_170 : Ref sig .tc := ⟨.hbm, 1740, rfl⟩
abbrev main_v1495 : Ref sig .tc := ⟨.hbm, 1741, rfl⟩
abbrev main_v1496 : Ref sig .tc := ⟨.hbm, 1742, rfl⟩
abbrev main_v1497 : Ref sig .tc := ⟨.hbm, 1743, rfl⟩
abbrev main_c_171 : Ref sig .tc := ⟨.hbm, 1744, rfl⟩
abbrev main_v1498 : Ref sig .tc := ⟨.hbm, 1745, rfl⟩
abbrev main_v1499 : Ref sig .tc := ⟨.hbm, 1746, rfl⟩
abbrev main_v1500 : Ref sig .tc := ⟨.hbm, 1747, rfl⟩
abbrev main_c_172 : Ref sig .tc := ⟨.hbm, 1748, rfl⟩
abbrev main_v1501 : Ref sig .tc := ⟨.hbm, 1749, rfl⟩
abbrev main_v1502 : Ref sig .tc := ⟨.hbm, 1750, rfl⟩
abbrev main_c_173 : Ref sig .tc := ⟨.hbm, 1751, rfl⟩
abbrev main_v1503 : Ref sig .tc := ⟨.hbm, 1752, rfl⟩
abbrev main_v1504 : Ref sig .tc := ⟨.hbm, 1753, rfl⟩
abbrev main_v1505 : Ref sig .tc := ⟨.hbm, 1754, rfl⟩
abbrev main_v1506 : Ref sig .tc := ⟨.hbm, 1755, rfl⟩
abbrev main_v1507 : Ref sig .tc := ⟨.hbm, 1756, rfl⟩
abbrev main_v1508 : Ref sig .tc := ⟨.hbm, 1757, rfl⟩
abbrev main_v1509 : Ref sig .tc := ⟨.hbm, 1758, rfl⟩
abbrev main_v1510 : Ref sig .tc := ⟨.hbm, 1759, rfl⟩
abbrev main_v1511 : Ref sig .tc := ⟨.hbm, 1760, rfl⟩
abbrev main_v1512 : Ref sig .tc := ⟨.hbm, 1761, rfl⟩
abbrev main_v1513 : Ref sig .tc := ⟨.hbm, 1762, rfl⟩
abbrev main_v1514 : Ref sig .tc := ⟨.hbm, 1763, rfl⟩
abbrev main_cst_174 : Ref sig .tc := ⟨.hbm, 1764, rfl⟩
abbrev main_v1515 : Ref sig .tc := ⟨.hbm, 1765, rfl⟩
abbrev main_v1516 : Ref sig .tc := ⟨.hbm, 1766, rfl⟩
abbrev main_v1517 : Ref sig .tc := ⟨.hbm, 1767, rfl⟩
abbrev main_v1518 : Ref sig .tc := ⟨.hbm, 1768, rfl⟩
abbrev main_v1519 : Ref sig .tc := ⟨.hbm, 1769, rfl⟩
abbrev main_v1520 : Ref sig .tc := ⟨.hbm, 1770, rfl⟩
abbrev main_v1521 : Ref sig .tc := ⟨.hbm, 1771, rfl⟩
abbrev main_v1522 : Ref sig .tc := ⟨.hbm, 1772, rfl⟩
abbrev main_v1523 : Ref sig .tc := ⟨.hbm, 1773, rfl⟩
abbrev main_v1524 : Ref sig .tc := ⟨.hbm, 1774, rfl⟩
abbrev main_v1525 : Ref sig .tc := ⟨.hbm, 1775, rfl⟩
abbrev main_v1526 : Ref sig .tc := ⟨.hbm, 1776, rfl⟩
abbrev main_cst_175 : Ref sig .tc := ⟨.hbm, 1777, rfl⟩
abbrev main_v1527 : Ref sig .tc := ⟨.hbm, 1778, rfl⟩
abbrev main_v1528 : Ref sig .tc := ⟨.hbm, 1779, rfl⟩
abbrev main_v1529 : Ref sig .tc := ⟨.hbm, 1780, rfl⟩
abbrev main_v1530 : Ref sig .tc := ⟨.hbm, 1781, rfl⟩
abbrev main_v1531 : Ref sig .tc := ⟨.hbm, 1782, rfl⟩
abbrev main_v1532 : Ref sig .tc := ⟨.hbm, 1783, rfl⟩
abbrev main_v1533 : Ref sig .tc := ⟨.hbm, 1784, rfl⟩
abbrev main_v1534 : Ref sig .tc := ⟨.hbm, 1785, rfl⟩
abbrev main_v1535 : Ref sig .tc := ⟨.hbm, 1786, rfl⟩
abbrev main_v1536 : Ref sig .tc := ⟨.hbm, 1787, rfl⟩
abbrev main_v1537 : Ref sig .tc := ⟨.hbm, 1788, rfl⟩
abbrev main_v1538 : Ref sig .tc := ⟨.hbm, 1789, rfl⟩
abbrev main_cst_176 : Ref sig .tc := ⟨.hbm, 1790, rfl⟩
abbrev main_v1539 : Ref sig .tc := ⟨.hbm, 1791, rfl⟩
abbrev main_v1540 : Ref sig .tc := ⟨.hbm, 1792, rfl⟩
abbrev main_v1541 : Ref sig .tc := ⟨.hbm, 1793, rfl⟩
abbrev main_v1542 : Ref sig .tc := ⟨.hbm, 1794, rfl⟩
abbrev main_v1543 : Ref sig .tc := ⟨.hbm, 1795, rfl⟩
abbrev main_v1544 : Ref sig .tc := ⟨.hbm, 1796, rfl⟩
abbrev main_v1545 : Ref sig .tc := ⟨.hbm, 1797, rfl⟩
abbrev main_v1546 : Ref sig .tc := ⟨.hbm, 1798, rfl⟩
abbrev main_v1547 : Ref sig .tc := ⟨.hbm, 1799, rfl⟩
abbrev main_v1548 : Ref sig .tc := ⟨.hbm, 1800, rfl⟩
abbrev main_v1549 : Ref sig .tc := ⟨.hbm, 1801, rfl⟩
abbrev main_v1550 : Ref sig .tc := ⟨.hbm, 1802, rfl⟩
abbrev main_cst_177 : Ref sig .tc := ⟨.hbm, 1803, rfl⟩
abbrev main_v1551 : Ref sig .tc := ⟨.hbm, 1804, rfl⟩
abbrev main_v1552 : Ref sig .tc := ⟨.hbm, 1805, rfl⟩
abbrev main_v1553 : Ref sig .tc := ⟨.hbm, 1806, rfl⟩
abbrev main_v1554 : Ref sig .tc := ⟨.hbm, 1807, rfl⟩
abbrev main_v1555 : Ref sig .tc := ⟨.hbm, 1808, rfl⟩
abbrev main_cst_178 : Ref sig .tc := ⟨.hbm, 1809, rfl⟩
abbrev main_v1556 : Ref sig .tc := ⟨.hbm, 1810, rfl⟩
abbrev main_v1557 : Ref sig .tc := ⟨.hbm, 1811, rfl⟩
abbrev main_v1558 : Ref sig .tc := ⟨.hbm, 1812, rfl⟩
abbrev main_v1559 : Ref sig .tc := ⟨.hbm, 1813, rfl⟩
abbrev main_v1560 : Ref sig .tc := ⟨.hbm, 1814, rfl⟩
abbrev main_v1561 : Ref sig .tc := ⟨.hbm, 1815, rfl⟩
abbrev main_cst_179 : Ref sig .tc := ⟨.hbm, 1816, rfl⟩
abbrev main_v1562 : Ref sig .tc := ⟨.hbm, 1817, rfl⟩
abbrev main_v1563 : Ref sig .tc := ⟨.hbm, 1818, rfl⟩
abbrev main_v1564 : Ref sig .tc := ⟨.hbm, 1819, rfl⟩
abbrev main_v1565 : Ref sig .tc := ⟨.hbm, 1820, rfl⟩
abbrev main_call14_v0 : Ref sig .tc := ⟨.hbm, 1821, rfl⟩
abbrev main_call14_v1 : Ref sig .tc := ⟨.hbm, 1822, rfl⟩
abbrev main_call14_v2 : Ref sig .tc := ⟨.hbm, 1823, rfl⟩
abbrev main_call14_v3 : Ref sig .tc := ⟨.hbm, 1824, rfl⟩
abbrev main_call14_v4 : Ref sig .tc := ⟨.hbm, 1825, rfl⟩
abbrev main_v1566 : Ref sig .tc := ⟨.hbm, 1826, rfl⟩
abbrev main_v1567 : Ref sig .tc := ⟨.hbm, 1827, rfl⟩
abbrev main_v1568 : Ref sig .tc := ⟨.hbm, 1828, rfl⟩
abbrev main_v1569 : Ref sig .tc := ⟨.hbm, 1829, rfl⟩
abbrev main_v1570 : Ref sig .tc := ⟨.hbm, 1830, rfl⟩
abbrev main_v1571 : Ref sig .tc := ⟨.hbm, 1831, rfl⟩
abbrev main_v1572 : Ref sig .tc := ⟨.hbm, 1832, rfl⟩
abbrev main_v1573 : Ref sig .tc := ⟨.hbm, 1833, rfl⟩
abbrev main_v1574 : Ref sig .tc := ⟨.hbm, 1834, rfl⟩
abbrev main_v1575 : Ref sig .tc := ⟨.hbm, 1835, rfl⟩
abbrev main_v1576 : Ref sig .tc := ⟨.hbm, 1836, rfl⟩
abbrev main_v1577 : Ref sig .tc := ⟨.hbm, 1837, rfl⟩
abbrev main_v1578 : Ref sig .tc := ⟨.hbm, 1838, rfl⟩
abbrev main_v1579 : Ref sig .tc := ⟨.hbm, 1839, rfl⟩
abbrev main_v1580 : Ref sig .tc := ⟨.hbm, 1840, rfl⟩
abbrev main_v1581 : Ref sig .tc := ⟨.hbm, 1841, rfl⟩
abbrev main_v1582 : Ref sig .tc := ⟨.hbm, 1842, rfl⟩
abbrev main_v1583 : Ref sig .tc := ⟨.hbm, 1843, rfl⟩
abbrev main_v1584 : Ref sig .tc := ⟨.hbm, 1844, rfl⟩
abbrev main_v1585 : Ref sig .tc := ⟨.hbm, 1845, rfl⟩
abbrev main_v1586 : Ref sig .tc := ⟨.hbm, 1846, rfl⟩
abbrev main_v1587 : Ref sig .tc := ⟨.hbm, 1847, rfl⟩
abbrev main_v1588 : Ref sig .tc := ⟨.hbm, 1848, rfl⟩
abbrev main_v1589 : Ref sig .tc := ⟨.hbm, 1849, rfl⟩
abbrev main_v1590 : Ref sig .tc := ⟨.hbm, 1850, rfl⟩
abbrev main_c_180 : Ref sig .tc := ⟨.hbm, 1851, rfl⟩
abbrev main_v1591 : Ref sig .tc := ⟨.hbm, 1852, rfl⟩
abbrev main_v1592 : Ref sig .tc := ⟨.hbm, 1853, rfl⟩
abbrev main_v1593 : Ref sig .tc := ⟨.hbm, 1854, rfl⟩
abbrev main_c_181 : Ref sig .tc := ⟨.hbm, 1855, rfl⟩
abbrev main_v1594 : Ref sig .tc := ⟨.hbm, 1856, rfl⟩
abbrev main_v1595 : Ref sig .tc := ⟨.hbm, 1857, rfl⟩
abbrev main_v1596 : Ref sig .tc := ⟨.hbm, 1858, rfl⟩
abbrev main_v1597 : Ref sig .tc := ⟨.hbm, 1859, rfl⟩
abbrev main_v1598 : Ref sig .tc := ⟨.hbm, 1860, rfl⟩
abbrev main_c_182 : Ref sig .tc := ⟨.hbm, 1861, rfl⟩
abbrev main_v1599 : Ref sig .tc := ⟨.hbm, 1862, rfl⟩
abbrev main_v1600 : Ref sig .tc := ⟨.hbm, 1863, rfl⟩
abbrev main_v1601 : Ref sig .tc := ⟨.hbm, 1864, rfl⟩
abbrev main_v1602 : Ref sig .tc := ⟨.hbm, 1865, rfl⟩
abbrev main_v1603 : Ref sig .tc := ⟨.hbm, 1866, rfl⟩
abbrev main_c_183 : Ref sig .tc := ⟨.hbm, 1867, rfl⟩
abbrev main_v1604 : Ref sig .tc := ⟨.hbm, 1868, rfl⟩
abbrev main_v1605 : Ref sig .tc := ⟨.hbm, 1869, rfl⟩
abbrev main_v1606 : Ref sig .tc := ⟨.hbm, 1870, rfl⟩
abbrev main_v1607 : Ref sig .tc := ⟨.hbm, 1871, rfl⟩
abbrev main_v1608 : Ref sig .tc := ⟨.hbm, 1872, rfl⟩
abbrev main_c_184 : Ref sig .tc := ⟨.hbm, 1873, rfl⟩
abbrev main_v1609 : Ref sig .tc := ⟨.hbm, 1874, rfl⟩
abbrev main_v1610 : Ref sig .tc := ⟨.hbm, 1875, rfl⟩
abbrev main_v1611 : Ref sig .tc := ⟨.hbm, 1876, rfl⟩
abbrev main_c_185 : Ref sig .tc := ⟨.hbm, 1877, rfl⟩
abbrev main_v1612 : Ref sig .tc := ⟨.hbm, 1878, rfl⟩
abbrev main_v1613 : Ref sig .tc := ⟨.hbm, 1879, rfl⟩
abbrev main_v1614 : Ref sig .tc := ⟨.hbm, 1880, rfl⟩
abbrev main_c_186 : Ref sig .tc := ⟨.hbm, 1881, rfl⟩
abbrev main_v1615 : Ref sig .tc := ⟨.hbm, 1882, rfl⟩
abbrev main_v1616 : Ref sig .tc := ⟨.hbm, 1883, rfl⟩
abbrev main_c_187 : Ref sig .tc := ⟨.hbm, 1884, rfl⟩
abbrev main_v1617 : Ref sig .tc := ⟨.hbm, 1885, rfl⟩
abbrev main_v1618 : Ref sig .tc := ⟨.hbm, 1886, rfl⟩
abbrev main_v1619 : Ref sig .tc := ⟨.hbm, 1887, rfl⟩
abbrev main_v1620 : Ref sig .tc := ⟨.hbm, 1888, rfl⟩
abbrev main_v1621 : Ref sig .tc := ⟨.hbm, 1889, rfl⟩
abbrev main_v1622 : Ref sig .tc := ⟨.hbm, 1890, rfl⟩
abbrev main_v1623 : Ref sig .tc := ⟨.hbm, 1891, rfl⟩
abbrev main_v1624 : Ref sig .tc := ⟨.hbm, 1892, rfl⟩
abbrev main_v1625 : Ref sig .tc := ⟨.hbm, 1893, rfl⟩
abbrev main_v1626 : Ref sig .tc := ⟨.hbm, 1894, rfl⟩
abbrev main_v1627 : Ref sig .tc := ⟨.hbm, 1895, rfl⟩
abbrev main_v1628 : Ref sig .tc := ⟨.hbm, 1896, rfl⟩
abbrev main_cst_188 : Ref sig .tc := ⟨.hbm, 1897, rfl⟩
abbrev main_v1629 : Ref sig .tc := ⟨.hbm, 1898, rfl⟩
abbrev main_v1630 : Ref sig .tc := ⟨.hbm, 1899, rfl⟩
abbrev main_v1631 : Ref sig .tc := ⟨.hbm, 1900, rfl⟩
abbrev main_v1632 : Ref sig .tc := ⟨.hbm, 1901, rfl⟩
abbrev main_v1633 : Ref sig .tc := ⟨.hbm, 1902, rfl⟩
abbrev main_v1634 : Ref sig .tc := ⟨.hbm, 1903, rfl⟩
abbrev main_v1635 : Ref sig .tc := ⟨.hbm, 1904, rfl⟩
abbrev main_v1636 : Ref sig .tc := ⟨.hbm, 1905, rfl⟩
abbrev main_v1637 : Ref sig .tc := ⟨.hbm, 1906, rfl⟩
abbrev main_v1638 : Ref sig .tc := ⟨.hbm, 1907, rfl⟩
abbrev main_v1639 : Ref sig .tc := ⟨.hbm, 1908, rfl⟩
abbrev main_v1640 : Ref sig .tc := ⟨.hbm, 1909, rfl⟩
abbrev main_cst_189 : Ref sig .tc := ⟨.hbm, 1910, rfl⟩
abbrev main_v1641 : Ref sig .tc := ⟨.hbm, 1911, rfl⟩
abbrev main_v1642 : Ref sig .tc := ⟨.hbm, 1912, rfl⟩
abbrev main_v1643 : Ref sig .tc := ⟨.hbm, 1913, rfl⟩
abbrev main_v1644 : Ref sig .tc := ⟨.hbm, 1914, rfl⟩
abbrev main_v1645 : Ref sig .tc := ⟨.hbm, 1915, rfl⟩
abbrev main_v1646 : Ref sig .tc := ⟨.hbm, 1916, rfl⟩
abbrev main_v1647 : Ref sig .tc := ⟨.hbm, 1917, rfl⟩
abbrev main_v1648 : Ref sig .tc := ⟨.hbm, 1918, rfl⟩
abbrev main_v1649 : Ref sig .tc := ⟨.hbm, 1919, rfl⟩
abbrev main_v1650 : Ref sig .tc := ⟨.hbm, 1920, rfl⟩
abbrev main_v1651 : Ref sig .tc := ⟨.hbm, 1921, rfl⟩
abbrev main_v1652 : Ref sig .tc := ⟨.hbm, 1922, rfl⟩
abbrev main_cst_190 : Ref sig .tc := ⟨.hbm, 1923, rfl⟩
abbrev main_v1653 : Ref sig .tc := ⟨.hbm, 1924, rfl⟩
abbrev main_v1654 : Ref sig .tc := ⟨.hbm, 1925, rfl⟩
abbrev main_v1655 : Ref sig .tc := ⟨.hbm, 1926, rfl⟩
abbrev main_v1656 : Ref sig .tc := ⟨.hbm, 1927, rfl⟩
abbrev main_v1657 : Ref sig .tc := ⟨.hbm, 1928, rfl⟩
abbrev main_v1658 : Ref sig .tc := ⟨.hbm, 1929, rfl⟩
abbrev main_v1659 : Ref sig .tc := ⟨.hbm, 1930, rfl⟩
abbrev main_v1660 : Ref sig .tc := ⟨.hbm, 1931, rfl⟩
abbrev main_v1661 : Ref sig .tc := ⟨.hbm, 1932, rfl⟩
abbrev main_v1662 : Ref sig .tc := ⟨.hbm, 1933, rfl⟩
abbrev main_v1663 : Ref sig .tc := ⟨.hbm, 1934, rfl⟩
abbrev main_v1664 : Ref sig .tc := ⟨.hbm, 1935, rfl⟩
abbrev main_cst_191 : Ref sig .tc := ⟨.hbm, 1936, rfl⟩
abbrev main_v1665 : Ref sig .tc := ⟨.hbm, 1937, rfl⟩
abbrev main_v1666 : Ref sig .tc := ⟨.hbm, 1938, rfl⟩
abbrev main_v1667 : Ref sig .tc := ⟨.hbm, 1939, rfl⟩
abbrev main_v1668 : Ref sig .tc := ⟨.hbm, 1940, rfl⟩
abbrev main_v1669 : Ref sig .tc := ⟨.hbm, 1941, rfl⟩
abbrev main_v1670 : Ref sig .tc := ⟨.hbm, 1942, rfl⟩
abbrev main_v1671 : Ref sig .tc := ⟨.hbm, 1943, rfl⟩
abbrev main_v1672 : Ref sig .tc := ⟨.hbm, 1944, rfl⟩
abbrev main_v1673 : Ref sig .tc := ⟨.hbm, 1945, rfl⟩
abbrev main_v1674 : Ref sig .tc := ⟨.hbm, 1946, rfl⟩
abbrev main_v1675 : Ref sig .tc := ⟨.hbm, 1947, rfl⟩
abbrev main_v1676 : Ref sig .tc := ⟨.hbm, 1948, rfl⟩
abbrev main_v1677 : Ref sig .tc := ⟨.hbm, 1949, rfl⟩
abbrev main_call15_v0 : Ref sig .tc := ⟨.hbm, 1950, rfl⟩
abbrev main_call15_v1 : Ref sig .tc := ⟨.hbm, 1951, rfl⟩
abbrev main_call15_v2 : Ref sig .tc := ⟨.hbm, 1952, rfl⟩
abbrev main_call15_v3 : Ref sig .tc := ⟨.hbm, 1953, rfl⟩
abbrev main_call15_v4 : Ref sig .tc := ⟨.hbm, 1954, rfl⟩
abbrev main_v1678 : Ref sig .tc := ⟨.hbm, 1955, rfl⟩
abbrev main_v1679 : Ref sig .tc := ⟨.hbm, 1956, rfl⟩
abbrev main_v1680 : Ref sig .tc := ⟨.hbm, 1957, rfl⟩
abbrev main_v1681 : Ref sig .tc := ⟨.hbm, 1958, rfl⟩
abbrev main_v1682 : Ref sig .tc := ⟨.hbm, 1959, rfl⟩
abbrev main_v1683 : Ref sig .tc := ⟨.hbm, 1960, rfl⟩
abbrev main_v1684 : Ref sig .tc := ⟨.hbm, 1961, rfl⟩
abbrev main_v1685 : Ref sig .tc := ⟨.hbm, 1962, rfl⟩
abbrev main_v1686 : Ref sig .tc := ⟨.hbm, 1963, rfl⟩
abbrev main_v1687 : Ref sig .tc := ⟨.hbm, 1964, rfl⟩
abbrev main_v1688 : Ref sig .tc := ⟨.hbm, 1965, rfl⟩
abbrev main_v1689 : Ref sig .tc := ⟨.hbm, 1966, rfl⟩
abbrev main_v1690 : Ref sig .tc := ⟨.hbm, 1967, rfl⟩
abbrev main_v1691 : Ref sig .tc := ⟨.hbm, 1968, rfl⟩
abbrev main_v1692 : Ref sig .tc := ⟨.hbm, 1969, rfl⟩
abbrev main_v1693 : Ref sig .tc := ⟨.hbm, 1970, rfl⟩
abbrev main_v1694 : Ref sig .tc := ⟨.hbm, 1971, rfl⟩
abbrev main_v1695 : Ref sig .tc := ⟨.hbm, 1972, rfl⟩
abbrev main_v1696 : Ref sig .tc := ⟨.hbm, 1973, rfl⟩
abbrev main_v1697 : Ref sig .tc := ⟨.hbm, 1974, rfl⟩
abbrev main_v1698 : Ref sig .tc := ⟨.hbm, 1975, rfl⟩
abbrev main_v1699 : Ref sig .tc := ⟨.hbm, 1976, rfl⟩
abbrev main_v1700 : Ref sig .tc := ⟨.hbm, 1977, rfl⟩
abbrev main_v1701 : Ref sig .tc := ⟨.hbm, 1978, rfl⟩
abbrev main_v1702 : Ref sig .tc := ⟨.hbm, 1979, rfl⟩
abbrev main_c_192 : Ref sig .tc := ⟨.hbm, 1980, rfl⟩
abbrev main_v1703 : Ref sig .tc := ⟨.hbm, 1981, rfl⟩
abbrev main_v1704 : Ref sig .tc := ⟨.hbm, 1982, rfl⟩
abbrev main_v1705 : Ref sig .tc := ⟨.hbm, 1983, rfl⟩
abbrev main_c_193 : Ref sig .tc := ⟨.hbm, 1984, rfl⟩
abbrev main_v1706 : Ref sig .tc := ⟨.hbm, 1985, rfl⟩
abbrev main_v1707 : Ref sig .tc := ⟨.hbm, 1986, rfl⟩
abbrev main_v1708 : Ref sig .tc := ⟨.hbm, 1987, rfl⟩
abbrev main_v1709 : Ref sig .tc := ⟨.hbm, 1988, rfl⟩
abbrev main_v1710 : Ref sig .tc := ⟨.hbm, 1989, rfl⟩
abbrev main_c_194 : Ref sig .tc := ⟨.hbm, 1990, rfl⟩
abbrev main_v1711 : Ref sig .tc := ⟨.hbm, 1991, rfl⟩
abbrev main_v1712 : Ref sig .tc := ⟨.hbm, 1992, rfl⟩
abbrev main_v1713 : Ref sig .tc := ⟨.hbm, 1993, rfl⟩
abbrev main_v1714 : Ref sig .tc := ⟨.hbm, 1994, rfl⟩
abbrev main_v1715 : Ref sig .tc := ⟨.hbm, 1995, rfl⟩
abbrev main_c_195 : Ref sig .tc := ⟨.hbm, 1996, rfl⟩
abbrev main_v1716 : Ref sig .tc := ⟨.hbm, 1997, rfl⟩
abbrev main_v1717 : Ref sig .tc := ⟨.hbm, 1998, rfl⟩
abbrev main_v1718 : Ref sig .tc := ⟨.hbm, 1999, rfl⟩
abbrev main_c_196 : Ref sig .tc := ⟨.hbm, 2000, rfl⟩
abbrev main_v1719 : Ref sig .tc := ⟨.hbm, 2001, rfl⟩
abbrev main_v1720 : Ref sig .tc := ⟨.hbm, 2002, rfl⟩
abbrev main_v1721 : Ref sig .tc := ⟨.hbm, 2003, rfl⟩
abbrev main_c_197 : Ref sig .tc := ⟨.hbm, 2004, rfl⟩
abbrev main_v1722 : Ref sig .tc := ⟨.hbm, 2005, rfl⟩
abbrev main_v1723 : Ref sig .tc := ⟨.hbm, 2006, rfl⟩
abbrev main_c_198 : Ref sig .tc := ⟨.hbm, 2007, rfl⟩
abbrev main_v1724 : Ref sig .tc := ⟨.hbm, 2008, rfl⟩
abbrev main_v1725 : Ref sig .tc := ⟨.hbm, 2009, rfl⟩
abbrev main_v1726 : Ref sig .tc := ⟨.hbm, 2010, rfl⟩
abbrev main_v1727 : Ref sig .tc := ⟨.hbm, 2011, rfl⟩
abbrev main_v1728 : Ref sig .tc := ⟨.hbm, 2012, rfl⟩
abbrev main_v1729 : Ref sig .tc := ⟨.hbm, 2013, rfl⟩
abbrev main_v1730 : Ref sig .tc := ⟨.hbm, 2014, rfl⟩
abbrev main_v1731 : Ref sig .tc := ⟨.hbm, 2015, rfl⟩
abbrev main_v1732 : Ref sig .tc := ⟨.hbm, 2016, rfl⟩
abbrev main_v1733 : Ref sig .tc := ⟨.hbm, 2017, rfl⟩
abbrev main_v1734 : Ref sig .tc := ⟨.hbm, 2018, rfl⟩
abbrev main_v1735 : Ref sig .tc := ⟨.hbm, 2019, rfl⟩
abbrev main_cst_199 : Ref sig .tc := ⟨.hbm, 2020, rfl⟩
abbrev main_v1736 : Ref sig .tc := ⟨.hbm, 2021, rfl⟩
abbrev main_v1737 : Ref sig .tc := ⟨.hbm, 2022, rfl⟩
abbrev main_v1738 : Ref sig .tc := ⟨.hbm, 2023, rfl⟩
abbrev main_v1739 : Ref sig .tc := ⟨.hbm, 2024, rfl⟩
abbrev main_v1740 : Ref sig .tc := ⟨.hbm, 2025, rfl⟩
abbrev main_v1741 : Ref sig .tc := ⟨.hbm, 2026, rfl⟩
abbrev main_v1742 : Ref sig .tc := ⟨.hbm, 2027, rfl⟩
abbrev main_v1743 : Ref sig .tc := ⟨.hbm, 2028, rfl⟩
abbrev main_v1744 : Ref sig .tc := ⟨.hbm, 2029, rfl⟩
abbrev main_v1745 : Ref sig .tc := ⟨.hbm, 2030, rfl⟩
abbrev main_v1746 : Ref sig .tc := ⟨.hbm, 2031, rfl⟩
abbrev main_v1747 : Ref sig .tc := ⟨.hbm, 2032, rfl⟩
abbrev main_cst_200 : Ref sig .tc := ⟨.hbm, 2033, rfl⟩
abbrev main_v1748 : Ref sig .tc := ⟨.hbm, 2034, rfl⟩
abbrev main_v1749 : Ref sig .tc := ⟨.hbm, 2035, rfl⟩
abbrev main_v1750 : Ref sig .tc := ⟨.hbm, 2036, rfl⟩
abbrev main_v1751 : Ref sig .tc := ⟨.hbm, 2037, rfl⟩
abbrev main_v1752 : Ref sig .tc := ⟨.hbm, 2038, rfl⟩
abbrev main_v1753 : Ref sig .tc := ⟨.hbm, 2039, rfl⟩
abbrev main_v1754 : Ref sig .tc := ⟨.hbm, 2040, rfl⟩
abbrev main_v1755 : Ref sig .tc := ⟨.hbm, 2041, rfl⟩
abbrev main_v1756 : Ref sig .tc := ⟨.hbm, 2042, rfl⟩
abbrev main_v1757 : Ref sig .tc := ⟨.hbm, 2043, rfl⟩
abbrev main_v1758 : Ref sig .tc := ⟨.hbm, 2044, rfl⟩
abbrev main_v1759 : Ref sig .tc := ⟨.hbm, 2045, rfl⟩
abbrev main_cst_201 : Ref sig .tc := ⟨.hbm, 2046, rfl⟩
abbrev main_v1760 : Ref sig .tc := ⟨.hbm, 2047, rfl⟩
abbrev main_v1761 : Ref sig .tc := ⟨.hbm, 2048, rfl⟩
abbrev main_v1762 : Ref sig .tc := ⟨.hbm, 2049, rfl⟩
abbrev main_v1763 : Ref sig .tc := ⟨.hbm, 2050, rfl⟩
abbrev main_v1764 : Ref sig .tc := ⟨.hbm, 2051, rfl⟩
abbrev main_v1765 : Ref sig .tc := ⟨.hbm, 2052, rfl⟩
abbrev main_v1766 : Ref sig .tc := ⟨.hbm, 2053, rfl⟩
abbrev main_v1767 : Ref sig .tc := ⟨.hbm, 2054, rfl⟩
abbrev main_v1768 : Ref sig .tc := ⟨.hbm, 2055, rfl⟩
abbrev main_v1769 : Ref sig .tc := ⟨.hbm, 2056, rfl⟩
abbrev main_v1770 : Ref sig .tc := ⟨.hbm, 2057, rfl⟩
abbrev main_v1771 : Ref sig .tc := ⟨.hbm, 2058, rfl⟩
abbrev main_cst_202 : Ref sig .tc := ⟨.hbm, 2059, rfl⟩
abbrev main_v1772 : Ref sig .tc := ⟨.hbm, 2060, rfl⟩
abbrev main_v1773 : Ref sig .tc := ⟨.hbm, 2061, rfl⟩
abbrev main_v1774 : Ref sig .tc := ⟨.hbm, 2062, rfl⟩
abbrev main_v1775 : Ref sig .tc := ⟨.hbm, 2063, rfl⟩
abbrev main_v1776 : Ref sig .tc := ⟨.hbm, 2064, rfl⟩
abbrev main_cst_203 : Ref sig .tc := ⟨.hbm, 2065, rfl⟩
abbrev main_v1777 : Ref sig .tc := ⟨.hbm, 2066, rfl⟩
abbrev main_v1778 : Ref sig .tc := ⟨.hbm, 2067, rfl⟩
abbrev main_v1779 : Ref sig .tc := ⟨.hbm, 2068, rfl⟩
abbrev main_v1780 : Ref sig .tc := ⟨.hbm, 2069, rfl⟩
abbrev main_v1781 : Ref sig .tc := ⟨.hbm, 2070, rfl⟩
abbrev main_v1782 : Ref sig .tc := ⟨.hbm, 2071, rfl⟩
abbrev main_cst_204 : Ref sig .tc := ⟨.hbm, 2072, rfl⟩
abbrev main_v1783 : Ref sig .tc := ⟨.hbm, 2073, rfl⟩
abbrev main_v1784 : Ref sig .tc := ⟨.hbm, 2074, rfl⟩
abbrev main_v1785 : Ref sig .tc := ⟨.hbm, 2075, rfl⟩
abbrev main_v1786 : Ref sig .tc := ⟨.hbm, 2076, rfl⟩
abbrev main_call16_v0 : Ref sig .tc := ⟨.hbm, 2077, rfl⟩
abbrev main_call16_v1 : Ref sig .tc := ⟨.hbm, 2078, rfl⟩
abbrev main_call16_v2 : Ref sig .tc := ⟨.hbm, 2079, rfl⟩
abbrev main_call16_v3 : Ref sig .tc := ⟨.hbm, 2080, rfl⟩
abbrev main_call16_v4 : Ref sig .tc := ⟨.hbm, 2081, rfl⟩
abbrev main_v1787 : Ref sig .tc := ⟨.hbm, 2082, rfl⟩
abbrev main_v1788 : Ref sig .tc := ⟨.hbm, 2083, rfl⟩
abbrev main_v1789 : Ref sig .tc := ⟨.hbm, 2084, rfl⟩
abbrev main_v1790 : Ref sig .tc := ⟨.hbm, 2085, rfl⟩
abbrev main_v1791 : Ref sig .tc := ⟨.hbm, 2086, rfl⟩
abbrev main_v1792 : Ref sig .tc := ⟨.hbm, 2087, rfl⟩
abbrev main_v1793 : Ref sig .tc := ⟨.hbm, 2088, rfl⟩
abbrev main_v1794 : Ref sig .tc := ⟨.hbm, 2089, rfl⟩
abbrev main_v1795 : Ref sig .tc := ⟨.hbm, 2090, rfl⟩
abbrev main_v1796 : Ref sig .tc := ⟨.hbm, 2091, rfl⟩
abbrev main_v1797 : Ref sig .tc := ⟨.hbm, 2092, rfl⟩
abbrev main_v1798 : Ref sig .tc := ⟨.hbm, 2093, rfl⟩
abbrev main_v1799 : Ref sig .tc := ⟨.hbm, 2094, rfl⟩
abbrev main_v1800 : Ref sig .tc := ⟨.hbm, 2095, rfl⟩
abbrev main_v1801 : Ref sig .tc := ⟨.hbm, 2096, rfl⟩
abbrev main_v1802 : Ref sig .tc := ⟨.hbm, 2097, rfl⟩
abbrev main_v1803 : Ref sig .tc := ⟨.hbm, 2098, rfl⟩
abbrev main_v1804 : Ref sig .tc := ⟨.hbm, 2099, rfl⟩
abbrev main_v1805 : Ref sig .tc := ⟨.hbm, 2100, rfl⟩
abbrev main_v1806 : Ref sig .tc := ⟨.hbm, 2101, rfl⟩
abbrev main_v1807 : Ref sig .tc := ⟨.hbm, 2102, rfl⟩
abbrev main_v1808 : Ref sig .tc := ⟨.hbm, 2103, rfl⟩
abbrev main_v1809 : Ref sig .tc := ⟨.hbm, 2104, rfl⟩
abbrev main_v1810 : Ref sig .tc := ⟨.hbm, 2105, rfl⟩
abbrev main_v1811 : Ref sig .tc := ⟨.hbm, 2106, rfl⟩
abbrev main_c_205 : Ref sig .tc := ⟨.hbm, 2107, rfl⟩
abbrev main_v1812 : Ref sig .tc := ⟨.hbm, 2108, rfl⟩
abbrev main_v1813 : Ref sig .tc := ⟨.hbm, 2109, rfl⟩
abbrev main_v1814 : Ref sig .tc := ⟨.hbm, 2110, rfl⟩
abbrev main_c_206 : Ref sig .tc := ⟨.hbm, 2111, rfl⟩
abbrev main_v1815 : Ref sig .tc := ⟨.hbm, 2112, rfl⟩
abbrev main_v1816 : Ref sig .tc := ⟨.hbm, 2113, rfl⟩
abbrev main_v1817 : Ref sig .tc := ⟨.hbm, 2114, rfl⟩
abbrev main_v1818 : Ref sig .tc := ⟨.hbm, 2115, rfl⟩
abbrev main_v1819 : Ref sig .tc := ⟨.hbm, 2116, rfl⟩
abbrev main_c_207 : Ref sig .tc := ⟨.hbm, 2117, rfl⟩
abbrev main_v1820 : Ref sig .tc := ⟨.hbm, 2118, rfl⟩
abbrev main_v1821 : Ref sig .tc := ⟨.hbm, 2119, rfl⟩
abbrev main_v1822 : Ref sig .tc := ⟨.hbm, 2120, rfl⟩
abbrev main_v1823 : Ref sig .tc := ⟨.hbm, 2121, rfl⟩
abbrev main_v1824 : Ref sig .tc := ⟨.hbm, 2122, rfl⟩
abbrev main_c_208 : Ref sig .tc := ⟨.hbm, 2123, rfl⟩
abbrev main_v1825 : Ref sig .tc := ⟨.hbm, 2124, rfl⟩
abbrev main_v1826 : Ref sig .tc := ⟨.hbm, 2125, rfl⟩
abbrev main_v1827 : Ref sig .tc := ⟨.hbm, 2126, rfl⟩
abbrev main_v1828 : Ref sig .tc := ⟨.hbm, 2127, rfl⟩
abbrev main_v1829 : Ref sig .tc := ⟨.hbm, 2128, rfl⟩
abbrev main_c_209 : Ref sig .tc := ⟨.hbm, 2129, rfl⟩
abbrev main_v1830 : Ref sig .tc := ⟨.hbm, 2130, rfl⟩
abbrev main_v1831 : Ref sig .tc := ⟨.hbm, 2131, rfl⟩
abbrev main_v1832 : Ref sig .tc := ⟨.hbm, 2132, rfl⟩
abbrev main_c_210 : Ref sig .tc := ⟨.hbm, 2133, rfl⟩
abbrev main_v1833 : Ref sig .tc := ⟨.hbm, 2134, rfl⟩
abbrev main_v1834 : Ref sig .tc := ⟨.hbm, 2135, rfl⟩
abbrev main_v1835 : Ref sig .tc := ⟨.hbm, 2136, rfl⟩
abbrev main_c_211 : Ref sig .tc := ⟨.hbm, 2137, rfl⟩
abbrev main_v1836 : Ref sig .tc := ⟨.hbm, 2138, rfl⟩
abbrev main_v1837 : Ref sig .tc := ⟨.hbm, 2139, rfl⟩
abbrev main_c_212 : Ref sig .tc := ⟨.hbm, 2140, rfl⟩
abbrev main_v1838 : Ref sig .tc := ⟨.hbm, 2141, rfl⟩
abbrev main_v1839 : Ref sig .tc := ⟨.hbm, 2142, rfl⟩
abbrev main_v1840 : Ref sig .tc := ⟨.hbm, 2143, rfl⟩
abbrev main_v1841 : Ref sig .tc := ⟨.hbm, 2144, rfl⟩
abbrev main_v1842 : Ref sig .tc := ⟨.hbm, 2145, rfl⟩
abbrev main_v1843 : Ref sig .tc := ⟨.hbm, 2146, rfl⟩
abbrev main_v1844 : Ref sig .tc := ⟨.hbm, 2147, rfl⟩
abbrev main_v1845 : Ref sig .tc := ⟨.hbm, 2148, rfl⟩
abbrev main_v1846 : Ref sig .tc := ⟨.hbm, 2149, rfl⟩
abbrev main_v1847 : Ref sig .tc := ⟨.hbm, 2150, rfl⟩
abbrev main_v1848 : Ref sig .tc := ⟨.hbm, 2151, rfl⟩
abbrev main_v1849 : Ref sig .tc := ⟨.hbm, 2152, rfl⟩
abbrev main_cst_213 : Ref sig .tc := ⟨.hbm, 2153, rfl⟩
abbrev main_v1850 : Ref sig .tc := ⟨.hbm, 2154, rfl⟩
abbrev main_v1851 : Ref sig .tc := ⟨.hbm, 2155, rfl⟩
abbrev main_v1852 : Ref sig .tc := ⟨.hbm, 2156, rfl⟩
abbrev main_v1853 : Ref sig .tc := ⟨.hbm, 2157, rfl⟩
abbrev main_v1854 : Ref sig .tc := ⟨.hbm, 2158, rfl⟩
abbrev main_v1855 : Ref sig .tc := ⟨.hbm, 2159, rfl⟩
abbrev main_v1856 : Ref sig .tc := ⟨.hbm, 2160, rfl⟩
abbrev main_v1857 : Ref sig .tc := ⟨.hbm, 2161, rfl⟩
abbrev main_v1858 : Ref sig .tc := ⟨.hbm, 2162, rfl⟩
abbrev main_v1859 : Ref sig .tc := ⟨.hbm, 2163, rfl⟩
abbrev main_v1860 : Ref sig .tc := ⟨.hbm, 2164, rfl⟩
abbrev main_v1861 : Ref sig .tc := ⟨.hbm, 2165, rfl⟩
abbrev main_cst_214 : Ref sig .tc := ⟨.hbm, 2166, rfl⟩
abbrev main_v1862 : Ref sig .tc := ⟨.hbm, 2167, rfl⟩
abbrev main_v1863 : Ref sig .tc := ⟨.hbm, 2168, rfl⟩
abbrev main_v1864 : Ref sig .tc := ⟨.hbm, 2169, rfl⟩
abbrev main_v1865 : Ref sig .tc := ⟨.hbm, 2170, rfl⟩
abbrev main_v1866 : Ref sig .tc := ⟨.hbm, 2171, rfl⟩
abbrev main_v1867 : Ref sig .tc := ⟨.hbm, 2172, rfl⟩
abbrev main_v1868 : Ref sig .tc := ⟨.hbm, 2173, rfl⟩
abbrev main_v1869 : Ref sig .tc := ⟨.hbm, 2174, rfl⟩
abbrev main_v1870 : Ref sig .tc := ⟨.hbm, 2175, rfl⟩
abbrev main_v1871 : Ref sig .tc := ⟨.hbm, 2176, rfl⟩
abbrev main_v1872 : Ref sig .tc := ⟨.hbm, 2177, rfl⟩
abbrev main_v1873 : Ref sig .tc := ⟨.hbm, 2178, rfl⟩
abbrev main_cst_215 : Ref sig .tc := ⟨.hbm, 2179, rfl⟩
abbrev main_v1874 : Ref sig .tc := ⟨.hbm, 2180, rfl⟩
abbrev main_v1875 : Ref sig .tc := ⟨.hbm, 2181, rfl⟩
abbrev main_v1876 : Ref sig .tc := ⟨.hbm, 2182, rfl⟩
abbrev main_v1877 : Ref sig .tc := ⟨.hbm, 2183, rfl⟩
abbrev main_v1878 : Ref sig .tc := ⟨.hbm, 2184, rfl⟩
abbrev main_v1879 : Ref sig .tc := ⟨.hbm, 2185, rfl⟩
abbrev main_v1880 : Ref sig .tc := ⟨.hbm, 2186, rfl⟩
abbrev main_v1881 : Ref sig .tc := ⟨.hbm, 2187, rfl⟩
abbrev main_v1882 : Ref sig .tc := ⟨.hbm, 2188, rfl⟩
abbrev main_v1883 : Ref sig .tc := ⟨.hbm, 2189, rfl⟩
abbrev main_v1884 : Ref sig .tc := ⟨.hbm, 2190, rfl⟩
abbrev main_v1885 : Ref sig .tc := ⟨.hbm, 2191, rfl⟩
abbrev main_cst_216 : Ref sig .tc := ⟨.hbm, 2192, rfl⟩
abbrev main_v1886 : Ref sig .tc := ⟨.hbm, 2193, rfl⟩
abbrev main_v1887 : Ref sig .tc := ⟨.hbm, 2194, rfl⟩
abbrev main_v1888 : Ref sig .tc := ⟨.hbm, 2195, rfl⟩
abbrev main_v1889 : Ref sig .tc := ⟨.hbm, 2196, rfl⟩
abbrev main_v1890 : Ref sig .tc := ⟨.hbm, 2197, rfl⟩
abbrev main_v1891 : Ref sig .tc := ⟨.hbm, 2198, rfl⟩
abbrev main_v1892 : Ref sig .tc := ⟨.hbm, 2199, rfl⟩
abbrev main_v1893 : Ref sig .tc := ⟨.hbm, 2200, rfl⟩
abbrev main_v1894 : Ref sig .tc := ⟨.hbm, 2201, rfl⟩
abbrev main_v1895 : Ref sig .tc := ⟨.hbm, 2202, rfl⟩
abbrev main_v1896 : Ref sig .tc := ⟨.hbm, 2203, rfl⟩
abbrev main_v1897 : Ref sig .tc := ⟨.hbm, 2204, rfl⟩
abbrev main_v1898 : Ref sig .tc := ⟨.hbm, 2205, rfl⟩
abbrev main_call17_v0 : Ref sig .tc := ⟨.hbm, 2206, rfl⟩
abbrev main_call17_v1 : Ref sig .tc := ⟨.hbm, 2207, rfl⟩
abbrev main_call17_v2 : Ref sig .tc := ⟨.hbm, 2208, rfl⟩
abbrev main_call17_v3 : Ref sig .tc := ⟨.hbm, 2209, rfl⟩
abbrev main_call17_v4 : Ref sig .tc := ⟨.hbm, 2210, rfl⟩
abbrev main_v1899 : Ref sig .tc := ⟨.hbm, 2211, rfl⟩
abbrev main_v1900 : Ref sig .tc := ⟨.hbm, 2212, rfl⟩
abbrev main_v1901 : Ref sig .tc := ⟨.hbm, 2213, rfl⟩
abbrev main_v1902 : Ref sig .tc := ⟨.hbm, 2214, rfl⟩
abbrev main_v1903 : Ref sig .tc := ⟨.hbm, 2215, rfl⟩
abbrev main_v1904 : Ref sig .tc := ⟨.hbm, 2216, rfl⟩
abbrev main_v1905 : Ref sig .tc := ⟨.hbm, 2217, rfl⟩
abbrev main_v1906 : Ref sig .tc := ⟨.hbm, 2218, rfl⟩
abbrev main_v1907 : Ref sig .tc := ⟨.hbm, 2219, rfl⟩
abbrev main_v1908 : Ref sig .tc := ⟨.hbm, 2220, rfl⟩
abbrev main_v1909 : Ref sig .tc := ⟨.hbm, 2221, rfl⟩
abbrev main_v1910 : Ref sig .tc := ⟨.hbm, 2222, rfl⟩
abbrev main_v1911 : Ref sig .tc := ⟨.hbm, 2223, rfl⟩
abbrev main_v1912 : Ref sig .tc := ⟨.hbm, 2224, rfl⟩
abbrev main_v1913 : Ref sig .tc := ⟨.hbm, 2225, rfl⟩
abbrev main_v1914 : Ref sig .tc := ⟨.hbm, 2226, rfl⟩
abbrev main_v1915 : Ref sig .tc := ⟨.hbm, 2227, rfl⟩
abbrev main_v1916 : Ref sig .tc := ⟨.hbm, 2228, rfl⟩
abbrev main_v1917 : Ref sig .tc := ⟨.hbm, 2229, rfl⟩
abbrev main_v1918 : Ref sig .tc := ⟨.hbm, 2230, rfl⟩
abbrev main_v1919 : Ref sig .tc := ⟨.hbm, 2231, rfl⟩
abbrev main_v1920 : Ref sig .tc := ⟨.hbm, 2232, rfl⟩
abbrev main_v1921 : Ref sig .tc := ⟨.hbm, 2233, rfl⟩
abbrev main_v1922 : Ref sig .tc := ⟨.hbm, 2234, rfl⟩
abbrev main_v1923 : Ref sig .tc := ⟨.hbm, 2235, rfl⟩
abbrev main_c_217 : Ref sig .tc := ⟨.hbm, 2236, rfl⟩
abbrev main_v1924 : Ref sig .tc := ⟨.hbm, 2237, rfl⟩
abbrev main_v1925 : Ref sig .tc := ⟨.hbm, 2238, rfl⟩
abbrev main_v1926 : Ref sig .tc := ⟨.hbm, 2239, rfl⟩
abbrev main_c_218 : Ref sig .tc := ⟨.hbm, 2240, rfl⟩
abbrev main_v1927 : Ref sig .tc := ⟨.hbm, 2241, rfl⟩
abbrev main_v1928 : Ref sig .tc := ⟨.hbm, 2242, rfl⟩
abbrev main_v1929 : Ref sig .tc := ⟨.hbm, 2243, rfl⟩
abbrev main_v1930 : Ref sig .tc := ⟨.hbm, 2244, rfl⟩
abbrev main_v1931 : Ref sig .tc := ⟨.hbm, 2245, rfl⟩
abbrev main_c_219 : Ref sig .tc := ⟨.hbm, 2246, rfl⟩
abbrev main_v1932 : Ref sig .tc := ⟨.hbm, 2247, rfl⟩
abbrev main_v1933 : Ref sig .tc := ⟨.hbm, 2248, rfl⟩
abbrev main_v1934 : Ref sig .tc := ⟨.hbm, 2249, rfl⟩
abbrev main_v1935 : Ref sig .tc := ⟨.hbm, 2250, rfl⟩
abbrev main_v1936 : Ref sig .tc := ⟨.hbm, 2251, rfl⟩
abbrev main_c_220 : Ref sig .tc := ⟨.hbm, 2252, rfl⟩
abbrev main_v1937 : Ref sig .tc := ⟨.hbm, 2253, rfl⟩
abbrev main_v1938 : Ref sig .tc := ⟨.hbm, 2254, rfl⟩
abbrev main_v1939 : Ref sig .tc := ⟨.hbm, 2255, rfl⟩
abbrev main_c_221 : Ref sig .tc := ⟨.hbm, 2256, rfl⟩
abbrev main_v1940 : Ref sig .tc := ⟨.hbm, 2257, rfl⟩
abbrev main_v1941 : Ref sig .tc := ⟨.hbm, 2258, rfl⟩
abbrev main_v1942 : Ref sig .tc := ⟨.hbm, 2259, rfl⟩
abbrev main_c_222 : Ref sig .tc := ⟨.hbm, 2260, rfl⟩
abbrev main_v1943 : Ref sig .tc := ⟨.hbm, 2261, rfl⟩
abbrev main_v1944 : Ref sig .tc := ⟨.hbm, 2262, rfl⟩
abbrev main_c_223 : Ref sig .tc := ⟨.hbm, 2263, rfl⟩
abbrev main_v1945 : Ref sig .tc := ⟨.hbm, 2264, rfl⟩
abbrev main_v1946 : Ref sig .tc := ⟨.hbm, 2265, rfl⟩
abbrev main_v1947 : Ref sig .tc := ⟨.hbm, 2266, rfl⟩
abbrev main_v1948 : Ref sig .tc := ⟨.hbm, 2267, rfl⟩
abbrev main_v1949 : Ref sig .tc := ⟨.hbm, 2268, rfl⟩
abbrev main_v1950 : Ref sig .tc := ⟨.hbm, 2269, rfl⟩
abbrev main_v1951 : Ref sig .tc := ⟨.hbm, 2270, rfl⟩
abbrev main_v1952 : Ref sig .tc := ⟨.hbm, 2271, rfl⟩
abbrev main_v1953 : Ref sig .tc := ⟨.hbm, 2272, rfl⟩
abbrev main_v1954 : Ref sig .tc := ⟨.hbm, 2273, rfl⟩
abbrev main_v1955 : Ref sig .tc := ⟨.hbm, 2274, rfl⟩
abbrev main_v1956 : Ref sig .tc := ⟨.hbm, 2275, rfl⟩
abbrev main_cst_224 : Ref sig .tc := ⟨.hbm, 2276, rfl⟩
abbrev main_v1957 : Ref sig .tc := ⟨.hbm, 2277, rfl⟩
abbrev main_v1958 : Ref sig .tc := ⟨.hbm, 2278, rfl⟩
abbrev main_v1959 : Ref sig .tc := ⟨.hbm, 2279, rfl⟩
abbrev main_v1960 : Ref sig .tc := ⟨.hbm, 2280, rfl⟩
abbrev main_v1961 : Ref sig .tc := ⟨.hbm, 2281, rfl⟩
abbrev main_v1962 : Ref sig .tc := ⟨.hbm, 2282, rfl⟩
abbrev main_v1963 : Ref sig .tc := ⟨.hbm, 2283, rfl⟩
abbrev main_v1964 : Ref sig .tc := ⟨.hbm, 2284, rfl⟩
abbrev main_v1965 : Ref sig .tc := ⟨.hbm, 2285, rfl⟩
abbrev main_v1966 : Ref sig .tc := ⟨.hbm, 2286, rfl⟩
abbrev main_v1967 : Ref sig .tc := ⟨.hbm, 2287, rfl⟩
abbrev main_v1968 : Ref sig .tc := ⟨.hbm, 2288, rfl⟩
abbrev main_cst_225 : Ref sig .tc := ⟨.hbm, 2289, rfl⟩
abbrev main_v1969 : Ref sig .tc := ⟨.hbm, 2290, rfl⟩
abbrev main_v1970 : Ref sig .tc := ⟨.hbm, 2291, rfl⟩
abbrev main_v1971 : Ref sig .tc := ⟨.hbm, 2292, rfl⟩
abbrev main_v1972 : Ref sig .tc := ⟨.hbm, 2293, rfl⟩
abbrev main_v1973 : Ref sig .tc := ⟨.hbm, 2294, rfl⟩
abbrev main_v1974 : Ref sig .tc := ⟨.hbm, 2295, rfl⟩
abbrev main_v1975 : Ref sig .tc := ⟨.hbm, 2296, rfl⟩
abbrev main_v1976 : Ref sig .tc := ⟨.hbm, 2297, rfl⟩
abbrev main_v1977 : Ref sig .tc := ⟨.hbm, 2298, rfl⟩
abbrev main_v1978 : Ref sig .tc := ⟨.hbm, 2299, rfl⟩
abbrev main_v1979 : Ref sig .tc := ⟨.hbm, 2300, rfl⟩
abbrev main_v1980 : Ref sig .tc := ⟨.hbm, 2301, rfl⟩
abbrev main_cst_226 : Ref sig .tc := ⟨.hbm, 2302, rfl⟩
abbrev main_v1981 : Ref sig .tc := ⟨.hbm, 2303, rfl⟩
abbrev main_v1982 : Ref sig .tc := ⟨.hbm, 2304, rfl⟩
abbrev main_v1983 : Ref sig .tc := ⟨.hbm, 2305, rfl⟩
abbrev main_v1984 : Ref sig .tc := ⟨.hbm, 2306, rfl⟩
abbrev main_v1985 : Ref sig .tc := ⟨.hbm, 2307, rfl⟩
abbrev main_v1986 : Ref sig .tc := ⟨.hbm, 2308, rfl⟩
abbrev main_v1987 : Ref sig .tc := ⟨.hbm, 2309, rfl⟩
abbrev main_v1988 : Ref sig .tc := ⟨.hbm, 2310, rfl⟩
abbrev main_v1989 : Ref sig .tc := ⟨.hbm, 2311, rfl⟩
abbrev main_v1990 : Ref sig .tc := ⟨.hbm, 2312, rfl⟩
abbrev main_v1991 : Ref sig .tc := ⟨.hbm, 2313, rfl⟩
abbrev main_v1992 : Ref sig .tc := ⟨.hbm, 2314, rfl⟩
abbrev main_cst_227 : Ref sig .tc := ⟨.hbm, 2315, rfl⟩
abbrev main_v1993 : Ref sig .tc := ⟨.hbm, 2316, rfl⟩
abbrev main_v1994 : Ref sig .tc := ⟨.hbm, 2317, rfl⟩
abbrev main_v1995 : Ref sig .tc := ⟨.hbm, 2318, rfl⟩
abbrev main_v1996 : Ref sig .tc := ⟨.hbm, 2319, rfl⟩
abbrev main_v1997 : Ref sig .tc := ⟨.hbm, 2320, rfl⟩
abbrev main_cst_228 : Ref sig .tc := ⟨.hbm, 2321, rfl⟩
abbrev main_v1998 : Ref sig .tc := ⟨.hbm, 2322, rfl⟩
abbrev main_v1999 : Ref sig .tc := ⟨.hbm, 2323, rfl⟩
abbrev main_v2000 : Ref sig .tc := ⟨.hbm, 2324, rfl⟩
abbrev main_v2001 : Ref sig .tc := ⟨.hbm, 2325, rfl⟩
abbrev main_v2002 : Ref sig .tc := ⟨.hbm, 2326, rfl⟩
abbrev main_v2003 : Ref sig .tc := ⟨.hbm, 2327, rfl⟩
abbrev main_cst_229 : Ref sig .tc := ⟨.hbm, 2328, rfl⟩
abbrev main_v2004 : Ref sig .tc := ⟨.hbm, 2329, rfl⟩
abbrev main_v2005 : Ref sig .tc := ⟨.hbm, 2330, rfl⟩
abbrev main_v2006 : Ref sig .tc := ⟨.hbm, 2331, rfl⟩
abbrev main_v2007 : Ref sig .tc := ⟨.hbm, 2332, rfl⟩
abbrev main_call18_v0 : Ref sig .tc := ⟨.hbm, 2333, rfl⟩
abbrev main_call18_v1 : Ref sig .tc := ⟨.hbm, 2334, rfl⟩
abbrev main_call18_v2 : Ref sig .tc := ⟨.hbm, 2335, rfl⟩
abbrev main_call18_v3 : Ref sig .tc := ⟨.hbm, 2336, rfl⟩
abbrev main_call18_v4 : Ref sig .tc := ⟨.hbm, 2337, rfl⟩
abbrev main_v2008 : Ref sig .tc := ⟨.hbm, 2338, rfl⟩
abbrev main_v2009 : Ref sig .tc := ⟨.hbm, 2339, rfl⟩
abbrev main_v2010 : Ref sig .tc := ⟨.hbm, 2340, rfl⟩
abbrev main_v2011 : Ref sig .tc := ⟨.hbm, 2341, rfl⟩
abbrev main_v2012 : Ref sig .tc := ⟨.hbm, 2342, rfl⟩
abbrev main_v2013 : Ref sig .tc := ⟨.hbm, 2343, rfl⟩
abbrev main_v2014 : Ref sig .tc := ⟨.hbm, 2344, rfl⟩
abbrev main_v2015 : Ref sig .tc := ⟨.hbm, 2345, rfl⟩
abbrev main_v2016 : Ref sig .tc := ⟨.hbm, 2346, rfl⟩
abbrev main_v2017 : Ref sig .tc := ⟨.hbm, 2347, rfl⟩
abbrev main_v2018 : Ref sig .tc := ⟨.hbm, 2348, rfl⟩
abbrev main_v2019 : Ref sig .tc := ⟨.hbm, 2349, rfl⟩
abbrev main_v2020 : Ref sig .tc := ⟨.hbm, 2350, rfl⟩
abbrev main_v2021 : Ref sig .tc := ⟨.hbm, 2351, rfl⟩
abbrev main_v2022 : Ref sig .tc := ⟨.hbm, 2352, rfl⟩
abbrev main_v2023 : Ref sig .tc := ⟨.hbm, 2353, rfl⟩
abbrev main_v2024 : Ref sig .tc := ⟨.hbm, 2354, rfl⟩
abbrev main_v2025 : Ref sig .tc := ⟨.hbm, 2355, rfl⟩
abbrev main_v2026 : Ref sig .tc := ⟨.hbm, 2356, rfl⟩
abbrev main_v2027 : Ref sig .tc := ⟨.hbm, 2357, rfl⟩
abbrev main_v2028 : Ref sig .tc := ⟨.hbm, 2358, rfl⟩
abbrev main_v2029 : Ref sig .tc := ⟨.hbm, 2359, rfl⟩
abbrev main_v2030 : Ref sig .tc := ⟨.hbm, 2360, rfl⟩
abbrev main_v2031 : Ref sig .tc := ⟨.hbm, 2361, rfl⟩
abbrev main_v2032 : Ref sig .tc := ⟨.hbm, 2362, rfl⟩
abbrev main_c_230 : Ref sig .tc := ⟨.hbm, 2363, rfl⟩
abbrev main_v2033 : Ref sig .tc := ⟨.hbm, 2364, rfl⟩
abbrev main_v2034 : Ref sig .tc := ⟨.hbm, 2365, rfl⟩
abbrev main_v2035 : Ref sig .tc := ⟨.hbm, 2366, rfl⟩
abbrev main_c_231 : Ref sig .tc := ⟨.hbm, 2367, rfl⟩
abbrev main_v2036 : Ref sig .tc := ⟨.hbm, 2368, rfl⟩
abbrev main_v2037 : Ref sig .tc := ⟨.hbm, 2369, rfl⟩
abbrev main_v2038 : Ref sig .tc := ⟨.hbm, 2370, rfl⟩
abbrev main_v2039 : Ref sig .tc := ⟨.hbm, 2371, rfl⟩
abbrev main_v2040 : Ref sig .tc := ⟨.hbm, 2372, rfl⟩
abbrev main_c_232 : Ref sig .tc := ⟨.hbm, 2373, rfl⟩
abbrev main_v2041 : Ref sig .tc := ⟨.hbm, 2374, rfl⟩
abbrev main_v2042 : Ref sig .tc := ⟨.hbm, 2375, rfl⟩
abbrev main_v2043 : Ref sig .tc := ⟨.hbm, 2376, rfl⟩
abbrev main_v2044 : Ref sig .tc := ⟨.hbm, 2377, rfl⟩
abbrev main_v2045 : Ref sig .tc := ⟨.hbm, 2378, rfl⟩
abbrev main_c_233 : Ref sig .tc := ⟨.hbm, 2379, rfl⟩
abbrev main_v2046 : Ref sig .tc := ⟨.hbm, 2380, rfl⟩
abbrev main_v2047 : Ref sig .tc := ⟨.hbm, 2381, rfl⟩
abbrev main_v2048 : Ref sig .tc := ⟨.hbm, 2382, rfl⟩
abbrev main_v2049 : Ref sig .tc := ⟨.hbm, 2383, rfl⟩
abbrev main_v2050 : Ref sig .tc := ⟨.hbm, 2384, rfl⟩
abbrev main_c_234 : Ref sig .tc := ⟨.hbm, 2385, rfl⟩
abbrev main_v2051 : Ref sig .tc := ⟨.hbm, 2386, rfl⟩
abbrev main_v2052 : Ref sig .tc := ⟨.hbm, 2387, rfl⟩
abbrev main_v2053 : Ref sig .tc := ⟨.hbm, 2388, rfl⟩
abbrev main_c_235 : Ref sig .tc := ⟨.hbm, 2389, rfl⟩
abbrev main_v2054 : Ref sig .tc := ⟨.hbm, 2390, rfl⟩
abbrev main_v2055 : Ref sig .tc := ⟨.hbm, 2391, rfl⟩
abbrev main_v2056 : Ref sig .tc := ⟨.hbm, 2392, rfl⟩
abbrev main_c_236 : Ref sig .tc := ⟨.hbm, 2393, rfl⟩
abbrev main_v2057 : Ref sig .tc := ⟨.hbm, 2394, rfl⟩
abbrev main_v2058 : Ref sig .tc := ⟨.hbm, 2395, rfl⟩
abbrev main_c_237 : Ref sig .tc := ⟨.hbm, 2396, rfl⟩
abbrev main_v2059 : Ref sig .tc := ⟨.hbm, 2397, rfl⟩
abbrev main_v2060 : Ref sig .tc := ⟨.hbm, 2398, rfl⟩
abbrev main_v2061 : Ref sig .tc := ⟨.hbm, 2399, rfl⟩
abbrev main_v2062 : Ref sig .tc := ⟨.hbm, 2400, rfl⟩
abbrev main_v2063 : Ref sig .tc := ⟨.hbm, 2401, rfl⟩
abbrev main_v2064 : Ref sig .tc := ⟨.hbm, 2402, rfl⟩
abbrev main_v2065 : Ref sig .tc := ⟨.hbm, 2403, rfl⟩
abbrev main_v2066 : Ref sig .tc := ⟨.hbm, 2404, rfl⟩
abbrev main_v2067 : Ref sig .tc := ⟨.hbm, 2405, rfl⟩
abbrev main_v2068 : Ref sig .tc := ⟨.hbm, 2406, rfl⟩
abbrev main_v2069 : Ref sig .tc := ⟨.hbm, 2407, rfl⟩
abbrev main_v2070 : Ref sig .tc := ⟨.hbm, 2408, rfl⟩
abbrev main_cst_238 : Ref sig .tc := ⟨.hbm, 2409, rfl⟩
abbrev main_v2071 : Ref sig .tc := ⟨.hbm, 2410, rfl⟩
abbrev main_v2072 : Ref sig .tc := ⟨.hbm, 2411, rfl⟩
abbrev main_v2073 : Ref sig .tc := ⟨.hbm, 2412, rfl⟩
abbrev main_v2074 : Ref sig .tc := ⟨.hbm, 2413, rfl⟩
abbrev main_v2075 : Ref sig .tc := ⟨.hbm, 2414, rfl⟩
abbrev main_v2076 : Ref sig .tc := ⟨.hbm, 2415, rfl⟩
abbrev main_v2077 : Ref sig .tc := ⟨.hbm, 2416, rfl⟩
abbrev main_v2078 : Ref sig .tc := ⟨.hbm, 2417, rfl⟩
abbrev main_v2079 : Ref sig .tc := ⟨.hbm, 2418, rfl⟩
abbrev main_v2080 : Ref sig .tc := ⟨.hbm, 2419, rfl⟩
abbrev main_v2081 : Ref sig .tc := ⟨.hbm, 2420, rfl⟩
abbrev main_v2082 : Ref sig .tc := ⟨.hbm, 2421, rfl⟩
abbrev main_cst_239 : Ref sig .tc := ⟨.hbm, 2422, rfl⟩
abbrev main_v2083 : Ref sig .tc := ⟨.hbm, 2423, rfl⟩
abbrev main_v2084 : Ref sig .tc := ⟨.hbm, 2424, rfl⟩
abbrev main_v2085 : Ref sig .tc := ⟨.hbm, 2425, rfl⟩
abbrev main_v2086 : Ref sig .tc := ⟨.hbm, 2426, rfl⟩
abbrev main_v2087 : Ref sig .tc := ⟨.hbm, 2427, rfl⟩
abbrev main_v2088 : Ref sig .tc := ⟨.hbm, 2428, rfl⟩
abbrev main_v2089 : Ref sig .tc := ⟨.hbm, 2429, rfl⟩
abbrev main_v2090 : Ref sig .tc := ⟨.hbm, 2430, rfl⟩
abbrev main_v2091 : Ref sig .tc := ⟨.hbm, 2431, rfl⟩
abbrev main_v2092 : Ref sig .tc := ⟨.hbm, 2432, rfl⟩
abbrev main_v2093 : Ref sig .tc := ⟨.hbm, 2433, rfl⟩
abbrev main_v2094 : Ref sig .tc := ⟨.hbm, 2434, rfl⟩
abbrev main_cst_240 : Ref sig .tc := ⟨.hbm, 2435, rfl⟩
abbrev main_v2095 : Ref sig .tc := ⟨.hbm, 2436, rfl⟩
abbrev main_v2096 : Ref sig .tc := ⟨.hbm, 2437, rfl⟩
abbrev main_v2097 : Ref sig .tc := ⟨.hbm, 2438, rfl⟩
abbrev main_v2098 : Ref sig .tc := ⟨.hbm, 2439, rfl⟩
abbrev main_v2099 : Ref sig .tc := ⟨.hbm, 2440, rfl⟩
abbrev main_v2100 : Ref sig .tc := ⟨.hbm, 2441, rfl⟩
abbrev main_v2101 : Ref sig .tc := ⟨.hbm, 2442, rfl⟩
abbrev main_v2102 : Ref sig .tc := ⟨.hbm, 2443, rfl⟩
abbrev main_v2103 : Ref sig .tc := ⟨.hbm, 2444, rfl⟩
abbrev main_v2104 : Ref sig .tc := ⟨.hbm, 2445, rfl⟩
abbrev main_v2105 : Ref sig .tc := ⟨.hbm, 2446, rfl⟩
abbrev main_v2106 : Ref sig .tc := ⟨.hbm, 2447, rfl⟩
abbrev main_cst_241 : Ref sig .tc := ⟨.hbm, 2448, rfl⟩
abbrev main_v2107 : Ref sig .tc := ⟨.hbm, 2449, rfl⟩
abbrev main_v2108 : Ref sig .tc := ⟨.hbm, 2450, rfl⟩
abbrev main_v2109 : Ref sig .tc := ⟨.hbm, 2451, rfl⟩
abbrev main_v2110 : Ref sig .tc := ⟨.hbm, 2452, rfl⟩
abbrev main_v2111 : Ref sig .tc := ⟨.hbm, 2453, rfl⟩
abbrev main_v2112 : Ref sig .tc := ⟨.hbm, 2454, rfl⟩
abbrev main_v2113 : Ref sig .tc := ⟨.hbm, 2455, rfl⟩
abbrev main_v2114 : Ref sig .tc := ⟨.hbm, 2456, rfl⟩
abbrev main_v2115 : Ref sig .tc := ⟨.hbm, 2457, rfl⟩
abbrev main_v2116 : Ref sig .tc := ⟨.hbm, 2458, rfl⟩
abbrev main_v2117 : Ref sig .tc := ⟨.hbm, 2459, rfl⟩
abbrev main_v2118 : Ref sig .tc := ⟨.hbm, 2460, rfl⟩
abbrev main_v2119 : Ref sig .tc := ⟨.hbm, 2461, rfl⟩
abbrev main_call19_v0 : Ref sig .tc := ⟨.hbm, 2462, rfl⟩
abbrev main_call19_v1 : Ref sig .tc := ⟨.hbm, 2463, rfl⟩
abbrev main_call19_v2 : Ref sig .tc := ⟨.hbm, 2464, rfl⟩
abbrev main_call19_v3 : Ref sig .tc := ⟨.hbm, 2465, rfl⟩
abbrev main_call19_v4 : Ref sig .tc := ⟨.hbm, 2466, rfl⟩
abbrev main_v2120 : Ref sig .tc := ⟨.hbm, 2467, rfl⟩
abbrev main_v2121 : Ref sig .tc := ⟨.hbm, 2468, rfl⟩
abbrev main_v2122 : Ref sig .tc := ⟨.hbm, 2469, rfl⟩
abbrev main_v2123 : Ref sig .tc := ⟨.hbm, 2470, rfl⟩
abbrev main_v2124 : Ref sig .tc := ⟨.hbm, 2471, rfl⟩
abbrev main_v2125 : Ref sig .tc := ⟨.hbm, 2472, rfl⟩
abbrev main_v2126 : Ref sig .tc := ⟨.hbm, 2473, rfl⟩
abbrev main_v2127 : Ref sig .tc := ⟨.hbm, 2474, rfl⟩
abbrev main_v2128 : Ref sig .tc := ⟨.hbm, 2475, rfl⟩
abbrev main_v2129 : Ref sig .tc := ⟨.hbm, 2476, rfl⟩
abbrev main_v2130 : Ref sig .tc := ⟨.hbm, 2477, rfl⟩
abbrev main_v2131 : Ref sig .tc := ⟨.hbm, 2478, rfl⟩
abbrev main_v2132 : Ref sig .tc := ⟨.hbm, 2479, rfl⟩
abbrev main_v2133 : Ref sig .tc := ⟨.hbm, 2480, rfl⟩
abbrev main_v2134 : Ref sig .tc := ⟨.hbm, 2481, rfl⟩
abbrev main_v2135 : Ref sig .tc := ⟨.hbm, 2482, rfl⟩
abbrev main_v2136 : Ref sig .tc := ⟨.hbm, 2483, rfl⟩
abbrev main_v2137 : Ref sig .tc := ⟨.hbm, 2484, rfl⟩
abbrev main_v2138 : Ref sig .tc := ⟨.hbm, 2485, rfl⟩
abbrev main_v2139 : Ref sig .tc := ⟨.hbm, 2486, rfl⟩
abbrev main_v2140 : Ref sig .tc := ⟨.hbm, 2487, rfl⟩
abbrev main_v2141 : Ref sig .tc := ⟨.hbm, 2488, rfl⟩
abbrev main_v2142 : Ref sig .tc := ⟨.hbm, 2489, rfl⟩
abbrev main_v2143 : Ref sig .tc := ⟨.hbm, 2490, rfl⟩
abbrev main_v2144 : Ref sig .tc := ⟨.hbm, 2491, rfl⟩
abbrev main_c_242 : Ref sig .tc := ⟨.hbm, 2492, rfl⟩
abbrev main_v2145 : Ref sig .tc := ⟨.hbm, 2493, rfl⟩
abbrev main_v2146 : Ref sig .tc := ⟨.hbm, 2494, rfl⟩
abbrev main_v2147 : Ref sig .tc := ⟨.hbm, 2495, rfl⟩
abbrev main_c_243 : Ref sig .tc := ⟨.hbm, 2496, rfl⟩
abbrev main_v2148 : Ref sig .tc := ⟨.hbm, 2497, rfl⟩
abbrev main_v2149 : Ref sig .tc := ⟨.hbm, 2498, rfl⟩
abbrev main_v2150 : Ref sig .tc := ⟨.hbm, 2499, rfl⟩
abbrev main_v2151 : Ref sig .tc := ⟨.hbm, 2500, rfl⟩
abbrev main_v2152 : Ref sig .tc := ⟨.hbm, 2501, rfl⟩
abbrev main_c_244 : Ref sig .tc := ⟨.hbm, 2502, rfl⟩
abbrev main_v2153 : Ref sig .tc := ⟨.hbm, 2503, rfl⟩
abbrev main_v2154 : Ref sig .tc := ⟨.hbm, 2504, rfl⟩
abbrev main_v2155 : Ref sig .tc := ⟨.hbm, 2505, rfl⟩
abbrev main_v2156 : Ref sig .tc := ⟨.hbm, 2506, rfl⟩
abbrev main_v2157 : Ref sig .tc := ⟨.hbm, 2507, rfl⟩
abbrev main_c_245 : Ref sig .tc := ⟨.hbm, 2508, rfl⟩
abbrev main_v2158 : Ref sig .tc := ⟨.hbm, 2509, rfl⟩
abbrev main_v2159 : Ref sig .tc := ⟨.hbm, 2510, rfl⟩
abbrev main_v2160 : Ref sig .tc := ⟨.hbm, 2511, rfl⟩
abbrev main_c_246 : Ref sig .tc := ⟨.hbm, 2512, rfl⟩
abbrev main_v2161 : Ref sig .tc := ⟨.hbm, 2513, rfl⟩
abbrev main_v2162 : Ref sig .tc := ⟨.hbm, 2514, rfl⟩
abbrev main_v2163 : Ref sig .tc := ⟨.hbm, 2515, rfl⟩
abbrev main_c_247 : Ref sig .tc := ⟨.hbm, 2516, rfl⟩
abbrev main_v2164 : Ref sig .tc := ⟨.hbm, 2517, rfl⟩
abbrev main_v2165 : Ref sig .tc := ⟨.hbm, 2518, rfl⟩
abbrev main_c_248 : Ref sig .tc := ⟨.hbm, 2519, rfl⟩
abbrev main_v2166 : Ref sig .tc := ⟨.hbm, 2520, rfl⟩
abbrev main_v2167 : Ref sig .tc := ⟨.hbm, 2521, rfl⟩
abbrev main_v2168 : Ref sig .tc := ⟨.hbm, 2522, rfl⟩
abbrev main_v2169 : Ref sig .tc := ⟨.hbm, 2523, rfl⟩
abbrev main_v2170 : Ref sig .tc := ⟨.hbm, 2524, rfl⟩
abbrev main_v2171 : Ref sig .tc := ⟨.hbm, 2525, rfl⟩
abbrev main_v2172 : Ref sig .tc := ⟨.hbm, 2526, rfl⟩
abbrev main_v2173 : Ref sig .tc := ⟨.hbm, 2527, rfl⟩
abbrev main_v2174 : Ref sig .tc := ⟨.hbm, 2528, rfl⟩
abbrev main_v2175 : Ref sig .tc := ⟨.hbm, 2529, rfl⟩
abbrev main_v2176 : Ref sig .tc := ⟨.hbm, 2530, rfl⟩
abbrev main_v2177 : Ref sig .tc := ⟨.hbm, 2531, rfl⟩
abbrev main_cst_249 : Ref sig .tc := ⟨.hbm, 2532, rfl⟩
abbrev main_v2178 : Ref sig .tc := ⟨.hbm, 2533, rfl⟩
abbrev main_v2179 : Ref sig .tc := ⟨.hbm, 2534, rfl⟩
abbrev main_v2180 : Ref sig .tc := ⟨.hbm, 2535, rfl⟩
abbrev main_v2181 : Ref sig .tc := ⟨.hbm, 2536, rfl⟩
abbrev main_v2182 : Ref sig .tc := ⟨.hbm, 2537, rfl⟩
abbrev main_v2183 : Ref sig .tc := ⟨.hbm, 2538, rfl⟩
abbrev main_v2184 : Ref sig .tc := ⟨.hbm, 2539, rfl⟩
abbrev main_v2185 : Ref sig .tc := ⟨.hbm, 2540, rfl⟩
abbrev main_v2186 : Ref sig .tc := ⟨.hbm, 2541, rfl⟩
abbrev main_v2187 : Ref sig .tc := ⟨.hbm, 2542, rfl⟩
abbrev main_v2188 : Ref sig .tc := ⟨.hbm, 2543, rfl⟩
abbrev main_v2189 : Ref sig .tc := ⟨.hbm, 2544, rfl⟩
abbrev main_cst_250 : Ref sig .tc := ⟨.hbm, 2545, rfl⟩
abbrev main_v2190 : Ref sig .tc := ⟨.hbm, 2546, rfl⟩
abbrev main_v2191 : Ref sig .tc := ⟨.hbm, 2547, rfl⟩
abbrev main_v2192 : Ref sig .tc := ⟨.hbm, 2548, rfl⟩
abbrev main_v2193 : Ref sig .tc := ⟨.hbm, 2549, rfl⟩
abbrev main_v2194 : Ref sig .tc := ⟨.hbm, 2550, rfl⟩
abbrev main_v2195 : Ref sig .tc := ⟨.hbm, 2551, rfl⟩
abbrev main_v2196 : Ref sig .tc := ⟨.hbm, 2552, rfl⟩
abbrev main_v2197 : Ref sig .tc := ⟨.hbm, 2553, rfl⟩
abbrev main_v2198 : Ref sig .tc := ⟨.hbm, 2554, rfl⟩
abbrev main_v2199 : Ref sig .tc := ⟨.hbm, 2555, rfl⟩
abbrev main_v2200 : Ref sig .tc := ⟨.hbm, 2556, rfl⟩
abbrev main_v2201 : Ref sig .tc := ⟨.hbm, 2557, rfl⟩
abbrev main_cst_251 : Ref sig .tc := ⟨.hbm, 2558, rfl⟩
abbrev main_v2202 : Ref sig .tc := ⟨.hbm, 2559, rfl⟩
abbrev main_v2203 : Ref sig .tc := ⟨.hbm, 2560, rfl⟩
abbrev main_v2204 : Ref sig .tc := ⟨.hbm, 2561, rfl⟩
abbrev main_v2205 : Ref sig .tc := ⟨.hbm, 2562, rfl⟩
abbrev main_v2206 : Ref sig .tc := ⟨.hbm, 2563, rfl⟩
abbrev main_v2207 : Ref sig .tc := ⟨.hbm, 2564, rfl⟩
abbrev main_v2208 : Ref sig .tc := ⟨.hbm, 2565, rfl⟩
abbrev main_v2209 : Ref sig .tc := ⟨.hbm, 2566, rfl⟩
abbrev main_v2210 : Ref sig .tc := ⟨.hbm, 2567, rfl⟩
abbrev main_v2211 : Ref sig .tc := ⟨.hbm, 2568, rfl⟩
abbrev main_v2212 : Ref sig .tc := ⟨.hbm, 2569, rfl⟩
abbrev main_v2213 : Ref sig .tc := ⟨.hbm, 2570, rfl⟩
abbrev main_cst_252 : Ref sig .tc := ⟨.hbm, 2571, rfl⟩
abbrev main_v2214 : Ref sig .tc := ⟨.hbm, 2572, rfl⟩
abbrev main_v2215 : Ref sig .tc := ⟨.hbm, 2573, rfl⟩
abbrev main_v2216 : Ref sig .tc := ⟨.hbm, 2574, rfl⟩
abbrev main_v2217 : Ref sig .tc := ⟨.hbm, 2575, rfl⟩
abbrev main_v2218 : Ref sig .tc := ⟨.hbm, 2576, rfl⟩
abbrev main_cst_253 : Ref sig .tc := ⟨.hbm, 2577, rfl⟩
abbrev main_v2219 : Ref sig .tc := ⟨.hbm, 2578, rfl⟩
abbrev main_v2220 : Ref sig .tc := ⟨.hbm, 2579, rfl⟩
abbrev main_v2221 : Ref sig .tc := ⟨.hbm, 2580, rfl⟩
abbrev main_v2222 : Ref sig .tc := ⟨.hbm, 2581, rfl⟩
abbrev main_v2223 : Ref sig .tc := ⟨.hbm, 2582, rfl⟩
abbrev main_v2224 : Ref sig .tc := ⟨.hbm, 2583, rfl⟩
abbrev main_cst_254 : Ref sig .tc := ⟨.hbm, 2584, rfl⟩
abbrev main_v2225 : Ref sig .tc := ⟨.hbm, 2585, rfl⟩
abbrev main_v2226 : Ref sig .tc := ⟨.hbm, 2586, rfl⟩
abbrev main_v2227 : Ref sig .tc := ⟨.hbm, 2587, rfl⟩
abbrev main_v2228 : Ref sig .tc := ⟨.hbm, 2588, rfl⟩
abbrev main_call20_v0 : Ref sig .tc := ⟨.hbm, 2589, rfl⟩
abbrev main_call20_v1 : Ref sig .tc := ⟨.hbm, 2590, rfl⟩
abbrev main_call20_v2 : Ref sig .tc := ⟨.hbm, 2591, rfl⟩
abbrev main_call20_v3 : Ref sig .tc := ⟨.hbm, 2592, rfl⟩
abbrev main_call20_v4 : Ref sig .tc := ⟨.hbm, 2593, rfl⟩
abbrev main_v2229 : Ref sig .tc := ⟨.hbm, 2594, rfl⟩
abbrev main_v2230 : Ref sig .tc := ⟨.hbm, 2595, rfl⟩
abbrev main_v2231 : Ref sig .tc := ⟨.hbm, 2596, rfl⟩
abbrev main_v2232 : Ref sig .tc := ⟨.hbm, 2597, rfl⟩
abbrev main_v2233 : Ref sig .tc := ⟨.hbm, 2598, rfl⟩
abbrev main_v2234 : Ref sig .tc := ⟨.hbm, 2599, rfl⟩
abbrev main_v2235 : Ref sig .tc := ⟨.hbm, 2600, rfl⟩
abbrev main_v2236 : Ref sig .tc := ⟨.hbm, 2601, rfl⟩
abbrev main_v2237 : Ref sig .tc := ⟨.hbm, 2602, rfl⟩
abbrev main_v2238 : Ref sig .tc := ⟨.hbm, 2603, rfl⟩
abbrev main_v2239 : Ref sig .tc := ⟨.hbm, 2604, rfl⟩
abbrev main_v2240 : Ref sig .tc := ⟨.hbm, 2605, rfl⟩
abbrev main_v2241 : Ref sig .tc := ⟨.hbm, 2606, rfl⟩
abbrev main_v2242 : Ref sig .tc := ⟨.hbm, 2607, rfl⟩
abbrev main_v2243 : Ref sig .tc := ⟨.hbm, 2608, rfl⟩
abbrev main_v2244 : Ref sig .tc := ⟨.hbm, 2609, rfl⟩
abbrev main_v2245 : Ref sig .tc := ⟨.hbm, 2610, rfl⟩
abbrev main_v2246 : Ref sig .tc := ⟨.hbm, 2611, rfl⟩
abbrev main_v2247 : Ref sig .tc := ⟨.hbm, 2612, rfl⟩
abbrev main_v2248 : Ref sig .tc := ⟨.hbm, 2613, rfl⟩
abbrev main_v2249 : Ref sig .tc := ⟨.hbm, 2614, rfl⟩
abbrev main_v2250 : Ref sig .tc := ⟨.hbm, 2615, rfl⟩
abbrev main_v2251 : Ref sig .tc := ⟨.hbm, 2616, rfl⟩
abbrev main_v2252 : Ref sig .tc := ⟨.hbm, 2617, rfl⟩
abbrev main_v2253 : Ref sig .tc := ⟨.hbm, 2618, rfl⟩
abbrev main_c_255 : Ref sig .tc := ⟨.hbm, 2619, rfl⟩
abbrev main_v2254 : Ref sig .tc := ⟨.hbm, 2620, rfl⟩
abbrev main_v2255 : Ref sig .tc := ⟨.hbm, 2621, rfl⟩
abbrev main_v2256 : Ref sig .tc := ⟨.hbm, 2622, rfl⟩
abbrev main_c_256 : Ref sig .tc := ⟨.hbm, 2623, rfl⟩
abbrev main_v2257 : Ref sig .tc := ⟨.hbm, 2624, rfl⟩
abbrev main_v2258 : Ref sig .tc := ⟨.hbm, 2625, rfl⟩
abbrev main_v2259 : Ref sig .tc := ⟨.hbm, 2626, rfl⟩
abbrev main_v2260 : Ref sig .tc := ⟨.hbm, 2627, rfl⟩
abbrev main_v2261 : Ref sig .tc := ⟨.hbm, 2628, rfl⟩
abbrev main_c_257 : Ref sig .tc := ⟨.hbm, 2629, rfl⟩
abbrev main_v2262 : Ref sig .tc := ⟨.hbm, 2630, rfl⟩
abbrev main_v2263 : Ref sig .tc := ⟨.hbm, 2631, rfl⟩
abbrev main_v2264 : Ref sig .tc := ⟨.hbm, 2632, rfl⟩
abbrev main_v2265 : Ref sig .tc := ⟨.hbm, 2633, rfl⟩
abbrev main_v2266 : Ref sig .tc := ⟨.hbm, 2634, rfl⟩
abbrev main_c_258 : Ref sig .tc := ⟨.hbm, 2635, rfl⟩
abbrev main_v2267 : Ref sig .tc := ⟨.hbm, 2636, rfl⟩
abbrev main_v2268 : Ref sig .tc := ⟨.hbm, 2637, rfl⟩
abbrev main_v2269 : Ref sig .tc := ⟨.hbm, 2638, rfl⟩
abbrev main_v2270 : Ref sig .tc := ⟨.hbm, 2639, rfl⟩
abbrev main_v2271 : Ref sig .tc := ⟨.hbm, 2640, rfl⟩
abbrev main_c_259 : Ref sig .tc := ⟨.hbm, 2641, rfl⟩
abbrev main_v2272 : Ref sig .tc := ⟨.hbm, 2642, rfl⟩
abbrev main_v2273 : Ref sig .tc := ⟨.hbm, 2643, rfl⟩
abbrev main_v2274 : Ref sig .tc := ⟨.hbm, 2644, rfl⟩
abbrev main_c_260 : Ref sig .tc := ⟨.hbm, 2645, rfl⟩
abbrev main_v2275 : Ref sig .tc := ⟨.hbm, 2646, rfl⟩
abbrev main_v2276 : Ref sig .tc := ⟨.hbm, 2647, rfl⟩
abbrev main_v2277 : Ref sig .tc := ⟨.hbm, 2648, rfl⟩
abbrev main_c_261 : Ref sig .tc := ⟨.hbm, 2649, rfl⟩
abbrev main_v2278 : Ref sig .tc := ⟨.hbm, 2650, rfl⟩
abbrev main_v2279 : Ref sig .tc := ⟨.hbm, 2651, rfl⟩
abbrev main_c_262 : Ref sig .tc := ⟨.hbm, 2652, rfl⟩
abbrev main_v2280 : Ref sig .tc := ⟨.hbm, 2653, rfl⟩
abbrev main_v2281 : Ref sig .tc := ⟨.hbm, 2654, rfl⟩
abbrev main_v2282 : Ref sig .tc := ⟨.hbm, 2655, rfl⟩
abbrev main_v2283 : Ref sig .tc := ⟨.hbm, 2656, rfl⟩
abbrev main_v2284 : Ref sig .tc := ⟨.hbm, 2657, rfl⟩
abbrev main_v2285 : Ref sig .tc := ⟨.hbm, 2658, rfl⟩
abbrev main_v2286 : Ref sig .tc := ⟨.hbm, 2659, rfl⟩
abbrev main_v2287 : Ref sig .tc := ⟨.hbm, 2660, rfl⟩
abbrev main_v2288 : Ref sig .tc := ⟨.hbm, 2661, rfl⟩
abbrev main_v2289 : Ref sig .tc := ⟨.hbm, 2662, rfl⟩
abbrev main_v2290 : Ref sig .tc := ⟨.hbm, 2663, rfl⟩
abbrev main_v2291 : Ref sig .tc := ⟨.hbm, 2664, rfl⟩
abbrev main_cst_263 : Ref sig .tc := ⟨.hbm, 2665, rfl⟩
abbrev main_v2292 : Ref sig .tc := ⟨.hbm, 2666, rfl⟩
abbrev main_v2293 : Ref sig .tc := ⟨.hbm, 2667, rfl⟩
abbrev main_v2294 : Ref sig .tc := ⟨.hbm, 2668, rfl⟩
abbrev main_v2295 : Ref sig .tc := ⟨.hbm, 2669, rfl⟩
abbrev main_v2296 : Ref sig .tc := ⟨.hbm, 2670, rfl⟩
abbrev main_v2297 : Ref sig .tc := ⟨.hbm, 2671, rfl⟩
abbrev main_v2298 : Ref sig .tc := ⟨.hbm, 2672, rfl⟩
abbrev main_v2299 : Ref sig .tc := ⟨.hbm, 2673, rfl⟩
abbrev main_v2300 : Ref sig .tc := ⟨.hbm, 2674, rfl⟩
abbrev main_v2301 : Ref sig .tc := ⟨.hbm, 2675, rfl⟩
abbrev main_v2302 : Ref sig .tc := ⟨.hbm, 2676, rfl⟩
abbrev main_v2303 : Ref sig .tc := ⟨.hbm, 2677, rfl⟩
abbrev main_cst_264 : Ref sig .tc := ⟨.hbm, 2678, rfl⟩
abbrev main_v2304 : Ref sig .tc := ⟨.hbm, 2679, rfl⟩
abbrev main_v2305 : Ref sig .tc := ⟨.hbm, 2680, rfl⟩
abbrev main_v2306 : Ref sig .tc := ⟨.hbm, 2681, rfl⟩
abbrev main_v2307 : Ref sig .tc := ⟨.hbm, 2682, rfl⟩
abbrev main_v2308 : Ref sig .tc := ⟨.hbm, 2683, rfl⟩
abbrev main_v2309 : Ref sig .tc := ⟨.hbm, 2684, rfl⟩
abbrev main_v2310 : Ref sig .tc := ⟨.hbm, 2685, rfl⟩
abbrev main_v2311 : Ref sig .tc := ⟨.hbm, 2686, rfl⟩
abbrev main_v2312 : Ref sig .tc := ⟨.hbm, 2687, rfl⟩
abbrev main_v2313 : Ref sig .tc := ⟨.hbm, 2688, rfl⟩
abbrev main_v2314 : Ref sig .tc := ⟨.hbm, 2689, rfl⟩
abbrev main_v2315 : Ref sig .tc := ⟨.hbm, 2690, rfl⟩
abbrev main_cst_265 : Ref sig .tc := ⟨.hbm, 2691, rfl⟩
abbrev main_v2316 : Ref sig .tc := ⟨.hbm, 2692, rfl⟩
abbrev main_v2317 : Ref sig .tc := ⟨.hbm, 2693, rfl⟩
abbrev main_v2318 : Ref sig .tc := ⟨.hbm, 2694, rfl⟩
abbrev main_v2319 : Ref sig .tc := ⟨.hbm, 2695, rfl⟩
abbrev main_v2320 : Ref sig .tc := ⟨.hbm, 2696, rfl⟩
abbrev main_v2321 : Ref sig .tc := ⟨.hbm, 2697, rfl⟩
abbrev main_v2322 : Ref sig .tc := ⟨.hbm, 2698, rfl⟩
abbrev main_v2323 : Ref sig .tc := ⟨.hbm, 2699, rfl⟩
abbrev main_v2324 : Ref sig .tc := ⟨.hbm, 2700, rfl⟩
abbrev main_v2325 : Ref sig .tc := ⟨.hbm, 2701, rfl⟩
abbrev main_v2326 : Ref sig .tc := ⟨.hbm, 2702, rfl⟩
abbrev main_v2327 : Ref sig .tc := ⟨.hbm, 2703, rfl⟩
abbrev main_cst_266 : Ref sig .tc := ⟨.hbm, 2704, rfl⟩
abbrev main_v2328 : Ref sig .tc := ⟨.hbm, 2705, rfl⟩
abbrev main_v2329 : Ref sig .tc := ⟨.hbm, 2706, rfl⟩
abbrev main_v2330 : Ref sig .tc := ⟨.hbm, 2707, rfl⟩
abbrev main_v2331 : Ref sig .tc := ⟨.hbm, 2708, rfl⟩
abbrev main_v2332 : Ref sig .tc := ⟨.hbm, 2709, rfl⟩
abbrev main_v2333 : Ref sig .tc := ⟨.hbm, 2710, rfl⟩
abbrev main_v2334 : Ref sig .tc := ⟨.hbm, 2711, rfl⟩
abbrev main_v2335 : Ref sig .tc := ⟨.hbm, 2712, rfl⟩
abbrev main_v2336 : Ref sig .tc := ⟨.hbm, 2713, rfl⟩
abbrev main_v2337 : Ref sig .tc := ⟨.hbm, 2714, rfl⟩
abbrev main_v2338 : Ref sig .tc := ⟨.hbm, 2715, rfl⟩
abbrev main_v2339 : Ref sig .tc := ⟨.hbm, 2716, rfl⟩
abbrev main_v2340 : Ref sig .tc := ⟨.hbm, 2717, rfl⟩
abbrev main_call21_v0 : Ref sig .tc := ⟨.hbm, 2718, rfl⟩
abbrev main_call21_v1 : Ref sig .tc := ⟨.hbm, 2719, rfl⟩
abbrev main_call21_v2 : Ref sig .tc := ⟨.hbm, 2720, rfl⟩
abbrev main_call21_v3 : Ref sig .tc := ⟨.hbm, 2721, rfl⟩
abbrev main_call21_v4 : Ref sig .tc := ⟨.hbm, 2722, rfl⟩
abbrev main_v2341 : Ref sig .tc := ⟨.hbm, 2723, rfl⟩
abbrev main_v2342 : Ref sig .tc := ⟨.hbm, 2724, rfl⟩
abbrev main_v2343 : Ref sig .tc := ⟨.hbm, 2725, rfl⟩
abbrev main_v2344 : Ref sig .tc := ⟨.hbm, 2726, rfl⟩
abbrev main_v2345 : Ref sig .tc := ⟨.hbm, 2727, rfl⟩
abbrev main_v2346 : Ref sig .tc := ⟨.hbm, 2728, rfl⟩
abbrev main_v2347 : Ref sig .tc := ⟨.hbm, 2729, rfl⟩
abbrev main_v2348 : Ref sig .tc := ⟨.hbm, 2730, rfl⟩
abbrev main_v2349 : Ref sig .tc := ⟨.hbm, 2731, rfl⟩
abbrev main_v2350 : Ref sig .tc := ⟨.hbm, 2732, rfl⟩
abbrev main_v2351 : Ref sig .tc := ⟨.hbm, 2733, rfl⟩
abbrev main_v2352 : Ref sig .tc := ⟨.hbm, 2734, rfl⟩
abbrev main_v2353 : Ref sig .tc := ⟨.hbm, 2735, rfl⟩
abbrev main_v2354 : Ref sig .tc := ⟨.hbm, 2736, rfl⟩
abbrev main_v2355 : Ref sig .tc := ⟨.hbm, 2737, rfl⟩
abbrev main_v2356 : Ref sig .tc := ⟨.hbm, 2738, rfl⟩
abbrev main_v2357 : Ref sig .tc := ⟨.hbm, 2739, rfl⟩
abbrev main_v2358 : Ref sig .tc := ⟨.hbm, 2740, rfl⟩
abbrev main_v2359 : Ref sig .tc := ⟨.hbm, 2741, rfl⟩
abbrev main_v2360 : Ref sig .tc := ⟨.hbm, 2742, rfl⟩
abbrev main_v2361 : Ref sig .tc := ⟨.hbm, 2743, rfl⟩
abbrev main_v2362 : Ref sig .tc := ⟨.hbm, 2744, rfl⟩
abbrev main_v2363 : Ref sig .tc := ⟨.hbm, 2745, rfl⟩
abbrev main_v2364 : Ref sig .tc := ⟨.hbm, 2746, rfl⟩
abbrev main_v2365 : Ref sig .tc := ⟨.hbm, 2747, rfl⟩
abbrev main_c_267 : Ref sig .tc := ⟨.hbm, 2748, rfl⟩
abbrev main_v2366 : Ref sig .tc := ⟨.hbm, 2749, rfl⟩
abbrev main_v2367 : Ref sig .tc := ⟨.hbm, 2750, rfl⟩
abbrev main_v2368 : Ref sig .tc := ⟨.hbm, 2751, rfl⟩
abbrev main_c_268 : Ref sig .tc := ⟨.hbm, 2752, rfl⟩
abbrev main_v2369 : Ref sig .tc := ⟨.hbm, 2753, rfl⟩
abbrev main_v2370 : Ref sig .tc := ⟨.hbm, 2754, rfl⟩
abbrev main_v2371 : Ref sig .tc := ⟨.hbm, 2755, rfl⟩
abbrev main_v2372 : Ref sig .tc := ⟨.hbm, 2756, rfl⟩
abbrev main_v2373 : Ref sig .tc := ⟨.hbm, 2757, rfl⟩
abbrev main_c_269 : Ref sig .tc := ⟨.hbm, 2758, rfl⟩
abbrev main_v2374 : Ref sig .tc := ⟨.hbm, 2759, rfl⟩
abbrev main_v2375 : Ref sig .tc := ⟨.hbm, 2760, rfl⟩
abbrev main_v2376 : Ref sig .tc := ⟨.hbm, 2761, rfl⟩
abbrev main_v2377 : Ref sig .tc := ⟨.hbm, 2762, rfl⟩
abbrev main_v2378 : Ref sig .tc := ⟨.hbm, 2763, rfl⟩
abbrev main_c_270 : Ref sig .tc := ⟨.hbm, 2764, rfl⟩
abbrev main_v2379 : Ref sig .tc := ⟨.hbm, 2765, rfl⟩
abbrev main_v2380 : Ref sig .tc := ⟨.hbm, 2766, rfl⟩
abbrev main_v2381 : Ref sig .tc := ⟨.hbm, 2767, rfl⟩
abbrev main_c_271 : Ref sig .tc := ⟨.hbm, 2768, rfl⟩
abbrev main_v2382 : Ref sig .tc := ⟨.hbm, 2769, rfl⟩
abbrev main_v2383 : Ref sig .tc := ⟨.hbm, 2770, rfl⟩
abbrev main_v2384 : Ref sig .tc := ⟨.hbm, 2771, rfl⟩
abbrev main_c_272 : Ref sig .tc := ⟨.hbm, 2772, rfl⟩
abbrev main_v2385 : Ref sig .tc := ⟨.hbm, 2773, rfl⟩
abbrev main_v2386 : Ref sig .tc := ⟨.hbm, 2774, rfl⟩
abbrev main_c_273 : Ref sig .tc := ⟨.hbm, 2775, rfl⟩
abbrev main_v2387 : Ref sig .tc := ⟨.hbm, 2776, rfl⟩
abbrev main_v2388 : Ref sig .tc := ⟨.hbm, 2777, rfl⟩
abbrev main_v2389 : Ref sig .tc := ⟨.hbm, 2778, rfl⟩
abbrev main_v2390 : Ref sig .tc := ⟨.hbm, 2779, rfl⟩
abbrev main_v2391 : Ref sig .tc := ⟨.hbm, 2780, rfl⟩
abbrev main_v2392 : Ref sig .tc := ⟨.hbm, 2781, rfl⟩
abbrev main_v2393 : Ref sig .tc := ⟨.hbm, 2782, rfl⟩
abbrev main_v2394 : Ref sig .tc := ⟨.hbm, 2783, rfl⟩
abbrev main_v2395 : Ref sig .tc := ⟨.hbm, 2784, rfl⟩
abbrev main_v2396 : Ref sig .tc := ⟨.hbm, 2785, rfl⟩
abbrev main_v2397 : Ref sig .tc := ⟨.hbm, 2786, rfl⟩
abbrev main_v2398 : Ref sig .tc := ⟨.hbm, 2787, rfl⟩
abbrev main_cst_274 : Ref sig .tc := ⟨.hbm, 2788, rfl⟩
abbrev main_v2399 : Ref sig .tc := ⟨.hbm, 2789, rfl⟩
abbrev main_v2400 : Ref sig .tc := ⟨.hbm, 2790, rfl⟩
abbrev main_v2401 : Ref sig .tc := ⟨.hbm, 2791, rfl⟩
abbrev main_v2402 : Ref sig .tc := ⟨.hbm, 2792, rfl⟩
abbrev main_v2403 : Ref sig .tc := ⟨.hbm, 2793, rfl⟩
abbrev main_v2404 : Ref sig .tc := ⟨.hbm, 2794, rfl⟩
abbrev main_v2405 : Ref sig .tc := ⟨.hbm, 2795, rfl⟩
abbrev main_v2406 : Ref sig .tc := ⟨.hbm, 2796, rfl⟩
abbrev main_v2407 : Ref sig .tc := ⟨.hbm, 2797, rfl⟩
abbrev main_v2408 : Ref sig .tc := ⟨.hbm, 2798, rfl⟩
abbrev main_v2409 : Ref sig .tc := ⟨.hbm, 2799, rfl⟩
abbrev main_v2410 : Ref sig .tc := ⟨.hbm, 2800, rfl⟩
abbrev main_cst_275 : Ref sig .tc := ⟨.hbm, 2801, rfl⟩
abbrev main_v2411 : Ref sig .tc := ⟨.hbm, 2802, rfl⟩
abbrev main_v2412 : Ref sig .tc := ⟨.hbm, 2803, rfl⟩
abbrev main_v2413 : Ref sig .tc := ⟨.hbm, 2804, rfl⟩
abbrev main_v2414 : Ref sig .tc := ⟨.hbm, 2805, rfl⟩
abbrev main_v2415 : Ref sig .tc := ⟨.hbm, 2806, rfl⟩
abbrev main_v2416 : Ref sig .tc := ⟨.hbm, 2807, rfl⟩
abbrev main_v2417 : Ref sig .tc := ⟨.hbm, 2808, rfl⟩
abbrev main_v2418 : Ref sig .tc := ⟨.hbm, 2809, rfl⟩
abbrev main_v2419 : Ref sig .tc := ⟨.hbm, 2810, rfl⟩
abbrev main_v2420 : Ref sig .tc := ⟨.hbm, 2811, rfl⟩
abbrev main_v2421 : Ref sig .tc := ⟨.hbm, 2812, rfl⟩
abbrev main_v2422 : Ref sig .tc := ⟨.hbm, 2813, rfl⟩
abbrev main_cst_276 : Ref sig .tc := ⟨.hbm, 2814, rfl⟩
abbrev main_v2423 : Ref sig .tc := ⟨.hbm, 2815, rfl⟩
abbrev main_v2424 : Ref sig .tc := ⟨.hbm, 2816, rfl⟩
abbrev main_v2425 : Ref sig .tc := ⟨.hbm, 2817, rfl⟩
abbrev main_v2426 : Ref sig .tc := ⟨.hbm, 2818, rfl⟩
abbrev main_v2427 : Ref sig .tc := ⟨.hbm, 2819, rfl⟩
abbrev main_v2428 : Ref sig .tc := ⟨.hbm, 2820, rfl⟩
abbrev main_v2429 : Ref sig .tc := ⟨.hbm, 2821, rfl⟩
abbrev main_v2430 : Ref sig .tc := ⟨.hbm, 2822, rfl⟩
abbrev main_v2431 : Ref sig .tc := ⟨.hbm, 2823, rfl⟩
abbrev main_v2432 : Ref sig .tc := ⟨.hbm, 2824, rfl⟩
abbrev main_v2433 : Ref sig .tc := ⟨.hbm, 2825, rfl⟩
abbrev main_v2434 : Ref sig .tc := ⟨.hbm, 2826, rfl⟩
abbrev main_cst_277 : Ref sig .tc := ⟨.hbm, 2827, rfl⟩
abbrev main_v2435 : Ref sig .tc := ⟨.hbm, 2828, rfl⟩
abbrev main_v2436 : Ref sig .tc := ⟨.hbm, 2829, rfl⟩
abbrev main_v2437 : Ref sig .tc := ⟨.hbm, 2830, rfl⟩
abbrev main_v2438 : Ref sig .tc := ⟨.hbm, 2831, rfl⟩
abbrev main_v2439 : Ref sig .tc := ⟨.hbm, 2832, rfl⟩
abbrev main_cst_278 : Ref sig .tc := ⟨.hbm, 2833, rfl⟩
abbrev main_v2440 : Ref sig .tc := ⟨.hbm, 2834, rfl⟩
abbrev main_v2441 : Ref sig .tc := ⟨.hbm, 2835, rfl⟩
abbrev main_v2442 : Ref sig .tc := ⟨.hbm, 2836, rfl⟩
abbrev main_v2443 : Ref sig .tc := ⟨.hbm, 2837, rfl⟩
abbrev main_v2444 : Ref sig .tc := ⟨.hbm, 2838, rfl⟩
abbrev main_v2445 : Ref sig .tc := ⟨.hbm, 2839, rfl⟩
abbrev main_cst_279 : Ref sig .tc := ⟨.hbm, 2840, rfl⟩
abbrev main_v2446 : Ref sig .tc := ⟨.hbm, 2841, rfl⟩
abbrev main_v2447 : Ref sig .tc := ⟨.hbm, 2842, rfl⟩
abbrev main_v2448 : Ref sig .tc := ⟨.hbm, 2843, rfl⟩
abbrev main_v2449 : Ref sig .tc := ⟨.hbm, 2844, rfl⟩
abbrev main_call22_v0 : Ref sig .tc := ⟨.hbm, 2845, rfl⟩
abbrev main_call22_v1 : Ref sig .tc := ⟨.hbm, 2846, rfl⟩
abbrev main_call22_v2 : Ref sig .tc := ⟨.hbm, 2847, rfl⟩
abbrev main_call22_v3 : Ref sig .tc := ⟨.hbm, 2848, rfl⟩
abbrev main_call22_v4 : Ref sig .tc := ⟨.hbm, 2849, rfl⟩
abbrev main_v2450 : Ref sig .tc := ⟨.hbm, 2850, rfl⟩
abbrev main_v2451 : Ref sig .tc := ⟨.hbm, 2851, rfl⟩
abbrev main_v2452 : Ref sig .tc := ⟨.hbm, 2852, rfl⟩
abbrev main_v2453 : Ref sig .tc := ⟨.hbm, 2853, rfl⟩
abbrev main_v2454 : Ref sig .tc := ⟨.hbm, 2854, rfl⟩
abbrev main_v2455 : Ref sig .tc := ⟨.hbm, 2855, rfl⟩
abbrev main_v2456 : Ref sig .tc := ⟨.hbm, 2856, rfl⟩
abbrev main_v2457 : Ref sig .tc := ⟨.hbm, 2857, rfl⟩
abbrev main_v2458 : Ref sig .tc := ⟨.hbm, 2858, rfl⟩
abbrev main_v2459 : Ref sig .tc := ⟨.hbm, 2859, rfl⟩
abbrev main_v2460 : Ref sig .tc := ⟨.hbm, 2860, rfl⟩
abbrev main_v2461 : Ref sig .tc := ⟨.hbm, 2861, rfl⟩
abbrev main_v2462 : Ref sig .tc := ⟨.hbm, 2862, rfl⟩
abbrev main_v2463 : Ref sig .tc := ⟨.hbm, 2863, rfl⟩
abbrev main_v2464 : Ref sig .tc := ⟨.hbm, 2864, rfl⟩
abbrev main_v2465 : Ref sig .tc := ⟨.hbm, 2865, rfl⟩
abbrev main_v2466 : Ref sig .tc := ⟨.hbm, 2866, rfl⟩
abbrev main_v2467 : Ref sig .tc := ⟨.hbm, 2867, rfl⟩
abbrev main_v2468 : Ref sig .tc := ⟨.hbm, 2868, rfl⟩
abbrev main_v2469 : Ref sig .tc := ⟨.hbm, 2869, rfl⟩
abbrev main_v2470 : Ref sig .tc := ⟨.hbm, 2870, rfl⟩
abbrev main_v2471 : Ref sig .tc := ⟨.hbm, 2871, rfl⟩
abbrev main_v2472 : Ref sig .tc := ⟨.hbm, 2872, rfl⟩
abbrev main_v2473 : Ref sig .tc := ⟨.hbm, 2873, rfl⟩
abbrev main_v2474 : Ref sig .tc := ⟨.hbm, 2874, rfl⟩
abbrev main_c_280 : Ref sig .tc := ⟨.hbm, 2875, rfl⟩
abbrev main_v2475 : Ref sig .tc := ⟨.hbm, 2876, rfl⟩
abbrev main_v2476 : Ref sig .tc := ⟨.hbm, 2877, rfl⟩
abbrev main_v2477 : Ref sig .tc := ⟨.hbm, 2878, rfl⟩
abbrev main_c_281 : Ref sig .tc := ⟨.hbm, 2879, rfl⟩
abbrev main_v2478 : Ref sig .tc := ⟨.hbm, 2880, rfl⟩
abbrev main_v2479 : Ref sig .tc := ⟨.hbm, 2881, rfl⟩
abbrev main_v2480 : Ref sig .tc := ⟨.hbm, 2882, rfl⟩
abbrev main_v2481 : Ref sig .tc := ⟨.hbm, 2883, rfl⟩
abbrev main_v2482 : Ref sig .tc := ⟨.hbm, 2884, rfl⟩
abbrev main_c_282 : Ref sig .tc := ⟨.hbm, 2885, rfl⟩
abbrev main_v2483 : Ref sig .tc := ⟨.hbm, 2886, rfl⟩
abbrev main_v2484 : Ref sig .tc := ⟨.hbm, 2887, rfl⟩
abbrev main_v2485 : Ref sig .tc := ⟨.hbm, 2888, rfl⟩
abbrev main_v2486 : Ref sig .tc := ⟨.hbm, 2889, rfl⟩
abbrev main_v2487 : Ref sig .tc := ⟨.hbm, 2890, rfl⟩
abbrev main_c_283 : Ref sig .tc := ⟨.hbm, 2891, rfl⟩
abbrev main_v2488 : Ref sig .tc := ⟨.hbm, 2892, rfl⟩
abbrev main_v2489 : Ref sig .tc := ⟨.hbm, 2893, rfl⟩
abbrev main_v2490 : Ref sig .tc := ⟨.hbm, 2894, rfl⟩
abbrev main_v2491 : Ref sig .tc := ⟨.hbm, 2895, rfl⟩
abbrev main_v2492 : Ref sig .tc := ⟨.hbm, 2896, rfl⟩
abbrev main_c_284 : Ref sig .tc := ⟨.hbm, 2897, rfl⟩
abbrev main_v2493 : Ref sig .tc := ⟨.hbm, 2898, rfl⟩
abbrev main_v2494 : Ref sig .tc := ⟨.hbm, 2899, rfl⟩
abbrev main_v2495 : Ref sig .tc := ⟨.hbm, 2900, rfl⟩
abbrev main_c_285 : Ref sig .tc := ⟨.hbm, 2901, rfl⟩
abbrev main_v2496 : Ref sig .tc := ⟨.hbm, 2902, rfl⟩
abbrev main_v2497 : Ref sig .tc := ⟨.hbm, 2903, rfl⟩
abbrev main_v2498 : Ref sig .tc := ⟨.hbm, 2904, rfl⟩
abbrev main_c_286 : Ref sig .tc := ⟨.hbm, 2905, rfl⟩
abbrev main_v2499 : Ref sig .tc := ⟨.hbm, 2906, rfl⟩
abbrev main_v2500 : Ref sig .tc := ⟨.hbm, 2907, rfl⟩
abbrev main_c_287 : Ref sig .tc := ⟨.hbm, 2908, rfl⟩
abbrev main_v2501 : Ref sig .tc := ⟨.hbm, 2909, rfl⟩
abbrev main_v2502 : Ref sig .tc := ⟨.hbm, 2910, rfl⟩
abbrev main_v2503 : Ref sig .tc := ⟨.hbm, 2911, rfl⟩
abbrev main_v2504 : Ref sig .tc := ⟨.hbm, 2912, rfl⟩
abbrev main_v2505 : Ref sig .tc := ⟨.hbm, 2913, rfl⟩
abbrev main_v2506 : Ref sig .tc := ⟨.hbm, 2914, rfl⟩
abbrev main_v2507 : Ref sig .tc := ⟨.hbm, 2915, rfl⟩
abbrev main_v2508 : Ref sig .tc := ⟨.hbm, 2916, rfl⟩
abbrev main_v2509 : Ref sig .tc := ⟨.hbm, 2917, rfl⟩
abbrev main_v2510 : Ref sig .tc := ⟨.hbm, 2918, rfl⟩
abbrev main_v2511 : Ref sig .tc := ⟨.hbm, 2919, rfl⟩
abbrev main_v2512 : Ref sig .tc := ⟨.hbm, 2920, rfl⟩
abbrev main_cst_288 : Ref sig .tc := ⟨.hbm, 2921, rfl⟩
abbrev main_v2513 : Ref sig .tc := ⟨.hbm, 2922, rfl⟩
abbrev main_v2514 : Ref sig .tc := ⟨.hbm, 2923, rfl⟩
abbrev main_v2515 : Ref sig .tc := ⟨.hbm, 2924, rfl⟩
abbrev main_v2516 : Ref sig .tc := ⟨.hbm, 2925, rfl⟩
abbrev main_v2517 : Ref sig .tc := ⟨.hbm, 2926, rfl⟩
abbrev main_v2518 : Ref sig .tc := ⟨.hbm, 2927, rfl⟩
abbrev main_v2519 : Ref sig .tc := ⟨.hbm, 2928, rfl⟩
abbrev main_v2520 : Ref sig .tc := ⟨.hbm, 2929, rfl⟩
abbrev main_v2521 : Ref sig .tc := ⟨.hbm, 2930, rfl⟩
abbrev main_v2522 : Ref sig .tc := ⟨.hbm, 2931, rfl⟩
abbrev main_v2523 : Ref sig .tc := ⟨.hbm, 2932, rfl⟩
abbrev main_v2524 : Ref sig .tc := ⟨.hbm, 2933, rfl⟩
abbrev main_cst_289 : Ref sig .tc := ⟨.hbm, 2934, rfl⟩
abbrev main_v2525 : Ref sig .tc := ⟨.hbm, 2935, rfl⟩
abbrev main_v2526 : Ref sig .tc := ⟨.hbm, 2936, rfl⟩
abbrev main_v2527 : Ref sig .tc := ⟨.hbm, 2937, rfl⟩
abbrev main_v2528 : Ref sig .tc := ⟨.hbm, 2938, rfl⟩
abbrev main_v2529 : Ref sig .tc := ⟨.hbm, 2939, rfl⟩
abbrev main_v2530 : Ref sig .tc := ⟨.hbm, 2940, rfl⟩
abbrev main_v2531 : Ref sig .tc := ⟨.hbm, 2941, rfl⟩
abbrev main_v2532 : Ref sig .tc := ⟨.hbm, 2942, rfl⟩
abbrev main_v2533 : Ref sig .tc := ⟨.hbm, 2943, rfl⟩
abbrev main_v2534 : Ref sig .tc := ⟨.hbm, 2944, rfl⟩
abbrev main_v2535 : Ref sig .tc := ⟨.hbm, 2945, rfl⟩
abbrev main_v2536 : Ref sig .tc := ⟨.hbm, 2946, rfl⟩
abbrev main_cst_290 : Ref sig .tc := ⟨.hbm, 2947, rfl⟩
abbrev main_v2537 : Ref sig .tc := ⟨.hbm, 2948, rfl⟩
abbrev main_v2538 : Ref sig .tc := ⟨.hbm, 2949, rfl⟩
abbrev main_v2539 : Ref sig .tc := ⟨.hbm, 2950, rfl⟩
abbrev main_v2540 : Ref sig .tc := ⟨.hbm, 2951, rfl⟩
abbrev main_v2541 : Ref sig .tc := ⟨.hbm, 2952, rfl⟩
abbrev main_v2542 : Ref sig .tc := ⟨.hbm, 2953, rfl⟩
abbrev main_v2543 : Ref sig .tc := ⟨.hbm, 2954, rfl⟩
abbrev main_v2544 : Ref sig .tc := ⟨.hbm, 2955, rfl⟩
abbrev main_v2545 : Ref sig .tc := ⟨.hbm, 2956, rfl⟩
abbrev main_v2546 : Ref sig .tc := ⟨.hbm, 2957, rfl⟩
abbrev main_v2547 : Ref sig .tc := ⟨.hbm, 2958, rfl⟩
abbrev main_v2548 : Ref sig .tc := ⟨.hbm, 2959, rfl⟩
abbrev main_cst_291 : Ref sig .tc := ⟨.hbm, 2960, rfl⟩
abbrev main_v2549 : Ref sig .tc := ⟨.hbm, 2961, rfl⟩
abbrev main_v2550 : Ref sig .tc := ⟨.hbm, 2962, rfl⟩
abbrev main_v2551 : Ref sig .tc := ⟨.hbm, 2963, rfl⟩
abbrev main_v2552 : Ref sig .tc := ⟨.hbm, 2964, rfl⟩
abbrev main_v2553 : Ref sig .tc := ⟨.hbm, 2965, rfl⟩
abbrev main_v2554 : Ref sig .tc := ⟨.hbm, 2966, rfl⟩
abbrev main_v2555 : Ref sig .tc := ⟨.hbm, 2967, rfl⟩
abbrev main_v2556 : Ref sig .tc := ⟨.hbm, 2968, rfl⟩
abbrev main_v2557 : Ref sig .tc := ⟨.hbm, 2969, rfl⟩
abbrev main_v2558 : Ref sig .tc := ⟨.hbm, 2970, rfl⟩
abbrev main_v2559 : Ref sig .tc := ⟨.hbm, 2971, rfl⟩
abbrev main_v2560 : Ref sig .tc := ⟨.hbm, 2972, rfl⟩
abbrev main_v2561 : Ref sig .tc := ⟨.hbm, 2973, rfl⟩
abbrev main_call23_v0 : Ref sig .tc := ⟨.hbm, 2974, rfl⟩
abbrev main_call23_v1 : Ref sig .tc := ⟨.hbm, 2975, rfl⟩
abbrev main_call23_v2 : Ref sig .tc := ⟨.hbm, 2976, rfl⟩
abbrev main_call23_v3 : Ref sig .tc := ⟨.hbm, 2977, rfl⟩
abbrev main_call23_v4 : Ref sig .tc := ⟨.hbm, 2978, rfl⟩
abbrev main_v2562 : Ref sig .tc := ⟨.hbm, 2979, rfl⟩
abbrev main_v2563 : Ref sig .tc := ⟨.hbm, 2980, rfl⟩
abbrev main_v2564 : Ref sig .tc := ⟨.hbm, 2981, rfl⟩
abbrev main_v2565 : Ref sig .tc := ⟨.hbm, 2982, rfl⟩
abbrev main_v2566 : Ref sig .tc := ⟨.hbm, 2983, rfl⟩
abbrev main_v2567 : Ref sig .tc := ⟨.hbm, 2984, rfl⟩
abbrev main_v2568 : Ref sig .tc := ⟨.hbm, 2985, rfl⟩
abbrev main_v2569 : Ref sig .tc := ⟨.hbm, 2986, rfl⟩
abbrev main_v2570 : Ref sig .tc := ⟨.hbm, 2987, rfl⟩
abbrev main_v2571 : Ref sig .tc := ⟨.hbm, 2988, rfl⟩
abbrev main_v2572 : Ref sig .tc := ⟨.hbm, 2989, rfl⟩
abbrev main_v2573 : Ref sig .tc := ⟨.hbm, 2990, rfl⟩
abbrev main_v2574 : Ref sig .tc := ⟨.hbm, 2991, rfl⟩
abbrev main_v2575 : Ref sig .tc := ⟨.hbm, 2992, rfl⟩
abbrev main_v2576 : Ref sig .tc := ⟨.hbm, 2993, rfl⟩
abbrev main_v2577 : Ref sig .tc := ⟨.hbm, 2994, rfl⟩
abbrev main_v2578 : Ref sig .tc := ⟨.hbm, 2995, rfl⟩
abbrev main_v2579 : Ref sig .tc := ⟨.hbm, 2996, rfl⟩
abbrev main_v2580 : Ref sig .tc := ⟨.hbm, 2997, rfl⟩
abbrev main_v2581 : Ref sig .tc := ⟨.hbm, 2998, rfl⟩
abbrev main_v2582 : Ref sig .tc := ⟨.hbm, 2999, rfl⟩
abbrev main_v2583 : Ref sig .tc := ⟨.hbm, 3000, rfl⟩
abbrev main_v2584 : Ref sig .tc := ⟨.hbm, 3001, rfl⟩
abbrev main_v2585 : Ref sig .tc := ⟨.hbm, 3002, rfl⟩
abbrev main_v2586 : Ref sig .tc := ⟨.hbm, 3003, rfl⟩
abbrev main_c_292 : Ref sig .tc := ⟨.hbm, 3004, rfl⟩
abbrev main_v2587 : Ref sig .tc := ⟨.hbm, 3005, rfl⟩
abbrev main_v2588 : Ref sig .tc := ⟨.hbm, 3006, rfl⟩
abbrev main_v2589 : Ref sig .tc := ⟨.hbm, 3007, rfl⟩
abbrev main_c_293 : Ref sig .tc := ⟨.hbm, 3008, rfl⟩
abbrev main_v2590 : Ref sig .tc := ⟨.hbm, 3009, rfl⟩
abbrev main_v2591 : Ref sig .tc := ⟨.hbm, 3010, rfl⟩
abbrev main_v2592 : Ref sig .tc := ⟨.hbm, 3011, rfl⟩
abbrev main_v2593 : Ref sig .tc := ⟨.hbm, 3012, rfl⟩
abbrev main_v2594 : Ref sig .tc := ⟨.hbm, 3013, rfl⟩
abbrev main_c_294 : Ref sig .tc := ⟨.hbm, 3014, rfl⟩
abbrev main_v2595 : Ref sig .tc := ⟨.hbm, 3015, rfl⟩
abbrev main_v2596 : Ref sig .tc := ⟨.hbm, 3016, rfl⟩
abbrev main_v2597 : Ref sig .tc := ⟨.hbm, 3017, rfl⟩
abbrev main_v2598 : Ref sig .tc := ⟨.hbm, 3018, rfl⟩
abbrev main_v2599 : Ref sig .tc := ⟨.hbm, 3019, rfl⟩
abbrev main_c_295 : Ref sig .tc := ⟨.hbm, 3020, rfl⟩
abbrev main_v2600 : Ref sig .tc := ⟨.hbm, 3021, rfl⟩
abbrev main_v2601 : Ref sig .tc := ⟨.hbm, 3022, rfl⟩
abbrev main_v2602 : Ref sig .tc := ⟨.hbm, 3023, rfl⟩
abbrev main_c_296 : Ref sig .tc := ⟨.hbm, 3024, rfl⟩
abbrev main_v2603 : Ref sig .tc := ⟨.hbm, 3025, rfl⟩
abbrev main_v2604 : Ref sig .tc := ⟨.hbm, 3026, rfl⟩
abbrev main_v2605 : Ref sig .tc := ⟨.hbm, 3027, rfl⟩
abbrev main_c_297 : Ref sig .tc := ⟨.hbm, 3028, rfl⟩
abbrev main_v2606 : Ref sig .tc := ⟨.hbm, 3029, rfl⟩
abbrev main_v2607 : Ref sig .tc := ⟨.hbm, 3030, rfl⟩
abbrev main_c_298 : Ref sig .tc := ⟨.hbm, 3031, rfl⟩
abbrev main_v2608 : Ref sig .tc := ⟨.hbm, 3032, rfl⟩
abbrev main_v2609 : Ref sig .tc := ⟨.hbm, 3033, rfl⟩
abbrev main_v2610 : Ref sig .tc := ⟨.hbm, 3034, rfl⟩
abbrev main_v2611 : Ref sig .tc := ⟨.hbm, 3035, rfl⟩
abbrev main_v2612 : Ref sig .tc := ⟨.hbm, 3036, rfl⟩
abbrev main_v2613 : Ref sig .tc := ⟨.hbm, 3037, rfl⟩
abbrev main_v2614 : Ref sig .tc := ⟨.hbm, 3038, rfl⟩
abbrev main_v2615 : Ref sig .tc := ⟨.hbm, 3039, rfl⟩
abbrev main_v2616 : Ref sig .tc := ⟨.hbm, 3040, rfl⟩
abbrev main_v2617 : Ref sig .tc := ⟨.hbm, 3041, rfl⟩
abbrev main_v2618 : Ref sig .tc := ⟨.hbm, 3042, rfl⟩
abbrev main_v2619 : Ref sig .tc := ⟨.hbm, 3043, rfl⟩
abbrev main_cst_299 : Ref sig .tc := ⟨.hbm, 3044, rfl⟩
abbrev main_v2620 : Ref sig .tc := ⟨.hbm, 3045, rfl⟩
abbrev main_v2621 : Ref sig .tc := ⟨.hbm, 3046, rfl⟩
abbrev main_v2622 : Ref sig .tc := ⟨.hbm, 3047, rfl⟩
abbrev main_v2623 : Ref sig .tc := ⟨.hbm, 3048, rfl⟩
abbrev main_v2624 : Ref sig .tc := ⟨.hbm, 3049, rfl⟩
abbrev main_v2625 : Ref sig .tc := ⟨.hbm, 3050, rfl⟩
abbrev main_v2626 : Ref sig .tc := ⟨.hbm, 3051, rfl⟩
abbrev main_v2627 : Ref sig .tc := ⟨.hbm, 3052, rfl⟩
abbrev main_v2628 : Ref sig .tc := ⟨.hbm, 3053, rfl⟩
abbrev main_v2629 : Ref sig .tc := ⟨.hbm, 3054, rfl⟩
abbrev main_v2630 : Ref sig .tc := ⟨.hbm, 3055, rfl⟩
abbrev main_v2631 : Ref sig .tc := ⟨.hbm, 3056, rfl⟩
abbrev main_cst_300 : Ref sig .tc := ⟨.hbm, 3057, rfl⟩
abbrev main_v2632 : Ref sig .tc := ⟨.hbm, 3058, rfl⟩
abbrev main_v2633 : Ref sig .tc := ⟨.hbm, 3059, rfl⟩
abbrev main_v2634 : Ref sig .tc := ⟨.hbm, 3060, rfl⟩
abbrev main_v2635 : Ref sig .tc := ⟨.hbm, 3061, rfl⟩
abbrev main_v2636 : Ref sig .tc := ⟨.hbm, 3062, rfl⟩
abbrev main_v2637 : Ref sig .tc := ⟨.hbm, 3063, rfl⟩
abbrev main_v2638 : Ref sig .tc := ⟨.hbm, 3064, rfl⟩
abbrev main_v2639 : Ref sig .tc := ⟨.hbm, 3065, rfl⟩
abbrev main_v2640 : Ref sig .tc := ⟨.hbm, 3066, rfl⟩
abbrev main_v2641 : Ref sig .tc := ⟨.hbm, 3067, rfl⟩
abbrev main_v2642 : Ref sig .tc := ⟨.hbm, 3068, rfl⟩
abbrev main_v2643 : Ref sig .tc := ⟨.hbm, 3069, rfl⟩
abbrev main_cst_301 : Ref sig .tc := ⟨.hbm, 3070, rfl⟩
abbrev main_v2644 : Ref sig .tc := ⟨.hbm, 3071, rfl⟩
abbrev main_v2645 : Ref sig .tc := ⟨.hbm, 3072, rfl⟩
abbrev main_v2646 : Ref sig .tc := ⟨.hbm, 3073, rfl⟩
abbrev main_v2647 : Ref sig .tc := ⟨.hbm, 3074, rfl⟩
abbrev main_v2648 : Ref sig .tc := ⟨.hbm, 3075, rfl⟩
abbrev main_v2649 : Ref sig .tc := ⟨.hbm, 3076, rfl⟩
abbrev main_v2650 : Ref sig .tc := ⟨.hbm, 3077, rfl⟩
abbrev main_v2651 : Ref sig .tc := ⟨.hbm, 3078, rfl⟩
abbrev main_v2652 : Ref sig .tc := ⟨.hbm, 3079, rfl⟩
abbrev main_v2653 : Ref sig .tc := ⟨.hbm, 3080, rfl⟩
abbrev main_v2654 : Ref sig .tc := ⟨.hbm, 3081, rfl⟩
abbrev main_v2655 : Ref sig .tc := ⟨.hbm, 3082, rfl⟩
abbrev main_cst_302 : Ref sig .tc := ⟨.hbm, 3083, rfl⟩
abbrev main_v2656 : Ref sig .tc := ⟨.hbm, 3084, rfl⟩
abbrev main_v2657 : Ref sig .tc := ⟨.hbm, 3085, rfl⟩
abbrev main_v2658 : Ref sig .tc := ⟨.hbm, 3086, rfl⟩
abbrev main_v2659 : Ref sig .tc := ⟨.hbm, 3087, rfl⟩
abbrev main_v2660 : Ref sig .tc := ⟨.hbm, 3088, rfl⟩
abbrev main_cst_303 : Ref sig .tc := ⟨.hbm, 3089, rfl⟩
abbrev main_v2661 : Ref sig .tc := ⟨.hbm, 3090, rfl⟩
abbrev main_v2662 : Ref sig .tc := ⟨.hbm, 3091, rfl⟩
abbrev main_v2663 : Ref sig .tc := ⟨.hbm, 3092, rfl⟩
abbrev main_v2664 : Ref sig .tc := ⟨.hbm, 3093, rfl⟩
abbrev main_v2665 : Ref sig .tc := ⟨.hbm, 3094, rfl⟩
abbrev main_v2666 : Ref sig .tc := ⟨.hbm, 3095, rfl⟩
abbrev main_cst_304 : Ref sig .tc := ⟨.hbm, 3096, rfl⟩
abbrev main_v2667 : Ref sig .tc := ⟨.hbm, 3097, rfl⟩
abbrev main_v2668 : Ref sig .tc := ⟨.hbm, 3098, rfl⟩
abbrev main_v2669 : Ref sig .tc := ⟨.hbm, 3099, rfl⟩
abbrev main_v2670 : Ref sig .tc := ⟨.hbm, 3100, rfl⟩
abbrev main_call24_v0 : Ref sig .tc := ⟨.hbm, 3101, rfl⟩
abbrev main_call24_v1 : Ref sig .tc := ⟨.hbm, 3102, rfl⟩
abbrev main_call24_v2 : Ref sig .tc := ⟨.hbm, 3103, rfl⟩
abbrev main_call24_v3 : Ref sig .tc := ⟨.hbm, 3104, rfl⟩
abbrev main_call24_v4 : Ref sig .tc := ⟨.hbm, 3105, rfl⟩
abbrev main_v2671 : Ref sig .tc := ⟨.hbm, 3106, rfl⟩
abbrev main_v2672 : Ref sig .tc := ⟨.hbm, 3107, rfl⟩
abbrev main_v2673 : Ref sig .tc := ⟨.hbm, 3108, rfl⟩
abbrev main_v2674 : Ref sig .tc := ⟨.hbm, 3109, rfl⟩
abbrev main_v2675 : Ref sig .tc := ⟨.hbm, 3110, rfl⟩
abbrev main_v2676 : Ref sig .tc := ⟨.hbm, 3111, rfl⟩
abbrev main_v2677 : Ref sig .tc := ⟨.hbm, 3112, rfl⟩
abbrev main_v2678 : Ref sig .tc := ⟨.hbm, 3113, rfl⟩
abbrev main_v2679 : Ref sig .tc := ⟨.hbm, 3114, rfl⟩
abbrev main_v2680 : Ref sig .tc := ⟨.hbm, 3115, rfl⟩
abbrev main_v2681 : Ref sig .tc := ⟨.hbm, 3116, rfl⟩
abbrev main_v2682 : Ref sig .tc := ⟨.hbm, 3117, rfl⟩
abbrev main_v2683 : Ref sig .tc := ⟨.hbm, 3118, rfl⟩
abbrev main_v2684 : Ref sig .tc := ⟨.hbm, 3119, rfl⟩
abbrev main_v2685 : Ref sig .tc := ⟨.hbm, 3120, rfl⟩
abbrev main_v2686 : Ref sig .tc := ⟨.hbm, 3121, rfl⟩
abbrev main_v2687 : Ref sig .tc := ⟨.hbm, 3122, rfl⟩
abbrev main_v2688 : Ref sig .tc := ⟨.hbm, 3123, rfl⟩
abbrev main_v2689 : Ref sig .tc := ⟨.hbm, 3124, rfl⟩
abbrev main_v2690 : Ref sig .tc := ⟨.hbm, 3125, rfl⟩
abbrev main_v2691 : Ref sig .tc := ⟨.hbm, 3126, rfl⟩
abbrev main_v2692 : Ref sig .tc := ⟨.hbm, 3127, rfl⟩
abbrev main_v2693 : Ref sig .tc := ⟨.hbm, 3128, rfl⟩
abbrev main_v2694 : Ref sig .tc := ⟨.hbm, 3129, rfl⟩
abbrev main_v2695 : Ref sig .tc := ⟨.hbm, 3130, rfl⟩
abbrev main_c_305 : Ref sig .tc := ⟨.hbm, 3131, rfl⟩
abbrev main_v2696 : Ref sig .tc := ⟨.hbm, 3132, rfl⟩
abbrev main_v2697 : Ref sig .tc := ⟨.hbm, 3133, rfl⟩
abbrev main_v2698 : Ref sig .tc := ⟨.hbm, 3134, rfl⟩
abbrev main_c_306 : Ref sig .tc := ⟨.hbm, 3135, rfl⟩
abbrev main_v2699 : Ref sig .tc := ⟨.hbm, 3136, rfl⟩
abbrev main_v2700 : Ref sig .tc := ⟨.hbm, 3137, rfl⟩
abbrev main_v2701 : Ref sig .tc := ⟨.hbm, 3138, rfl⟩
abbrev main_v2702 : Ref sig .tc := ⟨.hbm, 3139, rfl⟩
abbrev main_v2703 : Ref sig .tc := ⟨.hbm, 3140, rfl⟩
abbrev main_c_307 : Ref sig .tc := ⟨.hbm, 3141, rfl⟩
abbrev main_v2704 : Ref sig .tc := ⟨.hbm, 3142, rfl⟩
abbrev main_v2705 : Ref sig .tc := ⟨.hbm, 3143, rfl⟩
abbrev main_v2706 : Ref sig .tc := ⟨.hbm, 3144, rfl⟩
abbrev main_v2707 : Ref sig .tc := ⟨.hbm, 3145, rfl⟩
abbrev main_v2708 : Ref sig .tc := ⟨.hbm, 3146, rfl⟩
abbrev main_c_308 : Ref sig .tc := ⟨.hbm, 3147, rfl⟩
abbrev main_v2709 : Ref sig .tc := ⟨.hbm, 3148, rfl⟩
abbrev main_v2710 : Ref sig .tc := ⟨.hbm, 3149, rfl⟩
abbrev main_v2711 : Ref sig .tc := ⟨.hbm, 3150, rfl⟩
abbrev main_v2712 : Ref sig .tc := ⟨.hbm, 3151, rfl⟩
abbrev main_v2713 : Ref sig .tc := ⟨.hbm, 3152, rfl⟩
abbrev main_c_309 : Ref sig .tc := ⟨.hbm, 3153, rfl⟩
abbrev main_v2714 : Ref sig .tc := ⟨.hbm, 3154, rfl⟩
abbrev main_v2715 : Ref sig .tc := ⟨.hbm, 3155, rfl⟩
abbrev main_v2716 : Ref sig .tc := ⟨.hbm, 3156, rfl⟩
abbrev main_c_310 : Ref sig .tc := ⟨.hbm, 3157, rfl⟩
abbrev main_v2717 : Ref sig .tc := ⟨.hbm, 3158, rfl⟩
abbrev main_v2718 : Ref sig .tc := ⟨.hbm, 3159, rfl⟩
abbrev main_v2719 : Ref sig .tc := ⟨.hbm, 3160, rfl⟩
abbrev main_c_311 : Ref sig .tc := ⟨.hbm, 3161, rfl⟩
abbrev main_v2720 : Ref sig .tc := ⟨.hbm, 3162, rfl⟩
abbrev main_v2721 : Ref sig .tc := ⟨.hbm, 3163, rfl⟩
abbrev main_c_312 : Ref sig .tc := ⟨.hbm, 3164, rfl⟩
abbrev main_v2722 : Ref sig .tc := ⟨.hbm, 3165, rfl⟩
abbrev main_v2723 : Ref sig .tc := ⟨.hbm, 3166, rfl⟩
abbrev main_v2724 : Ref sig .tc := ⟨.hbm, 3167, rfl⟩
abbrev main_v2725 : Ref sig .tc := ⟨.hbm, 3168, rfl⟩
abbrev main_v2726 : Ref sig .tc := ⟨.hbm, 3169, rfl⟩
abbrev main_v2727 : Ref sig .tc := ⟨.hbm, 3170, rfl⟩
abbrev main_v2728 : Ref sig .tc := ⟨.hbm, 3171, rfl⟩
abbrev main_v2729 : Ref sig .tc := ⟨.hbm, 3172, rfl⟩
abbrev main_v2730 : Ref sig .tc := ⟨.hbm, 3173, rfl⟩
abbrev main_v2731 : Ref sig .tc := ⟨.hbm, 3174, rfl⟩
abbrev main_v2732 : Ref sig .tc := ⟨.hbm, 3175, rfl⟩
abbrev main_v2733 : Ref sig .tc := ⟨.hbm, 3176, rfl⟩
abbrev main_cst_313 : Ref sig .tc := ⟨.hbm, 3177, rfl⟩
abbrev main_v2734 : Ref sig .tc := ⟨.hbm, 3178, rfl⟩
abbrev main_v2735 : Ref sig .tc := ⟨.hbm, 3179, rfl⟩
abbrev main_v2736 : Ref sig .tc := ⟨.hbm, 3180, rfl⟩
abbrev main_v2737 : Ref sig .tc := ⟨.hbm, 3181, rfl⟩
abbrev main_v2738 : Ref sig .tc := ⟨.hbm, 3182, rfl⟩
abbrev main_v2739 : Ref sig .tc := ⟨.hbm, 3183, rfl⟩
abbrev main_v2740 : Ref sig .tc := ⟨.hbm, 3184, rfl⟩
abbrev main_v2741 : Ref sig .tc := ⟨.hbm, 3185, rfl⟩
abbrev main_v2742 : Ref sig .tc := ⟨.hbm, 3186, rfl⟩
abbrev main_v2743 : Ref sig .tc := ⟨.hbm, 3187, rfl⟩
abbrev main_v2744 : Ref sig .tc := ⟨.hbm, 3188, rfl⟩
abbrev main_v2745 : Ref sig .tc := ⟨.hbm, 3189, rfl⟩
abbrev main_cst_314 : Ref sig .tc := ⟨.hbm, 3190, rfl⟩
abbrev main_v2746 : Ref sig .tc := ⟨.hbm, 3191, rfl⟩
abbrev main_v2747 : Ref sig .tc := ⟨.hbm, 3192, rfl⟩
abbrev main_v2748 : Ref sig .tc := ⟨.hbm, 3193, rfl⟩
abbrev main_v2749 : Ref sig .tc := ⟨.hbm, 3194, rfl⟩
abbrev main_v2750 : Ref sig .tc := ⟨.hbm, 3195, rfl⟩
abbrev main_v2751 : Ref sig .tc := ⟨.hbm, 3196, rfl⟩
abbrev main_v2752 : Ref sig .tc := ⟨.hbm, 3197, rfl⟩
abbrev main_v2753 : Ref sig .tc := ⟨.hbm, 3198, rfl⟩
abbrev main_v2754 : Ref sig .tc := ⟨.hbm, 3199, rfl⟩
abbrev main_v2755 : Ref sig .tc := ⟨.hbm, 3200, rfl⟩
abbrev main_v2756 : Ref sig .tc := ⟨.hbm, 3201, rfl⟩
abbrev main_v2757 : Ref sig .tc := ⟨.hbm, 3202, rfl⟩
abbrev main_cst_315 : Ref sig .tc := ⟨.hbm, 3203, rfl⟩
abbrev main_v2758 : Ref sig .tc := ⟨.hbm, 3204, rfl⟩
abbrev main_v2759 : Ref sig .tc := ⟨.hbm, 3205, rfl⟩
abbrev main_v2760 : Ref sig .tc := ⟨.hbm, 3206, rfl⟩
abbrev main_v2761 : Ref sig .tc := ⟨.hbm, 3207, rfl⟩
abbrev main_v2762 : Ref sig .tc := ⟨.hbm, 3208, rfl⟩
abbrev main_v2763 : Ref sig .tc := ⟨.hbm, 3209, rfl⟩
abbrev main_v2764 : Ref sig .tc := ⟨.hbm, 3210, rfl⟩
abbrev main_v2765 : Ref sig .tc := ⟨.hbm, 3211, rfl⟩
abbrev main_v2766 : Ref sig .tc := ⟨.hbm, 3212, rfl⟩
abbrev main_v2767 : Ref sig .tc := ⟨.hbm, 3213, rfl⟩
abbrev main_v2768 : Ref sig .tc := ⟨.hbm, 3214, rfl⟩
abbrev main_v2769 : Ref sig .tc := ⟨.hbm, 3215, rfl⟩
abbrev main_cst_316 : Ref sig .tc := ⟨.hbm, 3216, rfl⟩
abbrev main_v2770 : Ref sig .tc := ⟨.hbm, 3217, rfl⟩
abbrev main_v2771 : Ref sig .tc := ⟨.hbm, 3218, rfl⟩
abbrev main_v2772 : Ref sig .tc := ⟨.hbm, 3219, rfl⟩
abbrev main_v2773 : Ref sig .tc := ⟨.hbm, 3220, rfl⟩
abbrev main_v2774 : Ref sig .tc := ⟨.hbm, 3221, rfl⟩
abbrev main_v2775 : Ref sig .tc := ⟨.hbm, 3222, rfl⟩
abbrev main_v2776 : Ref sig .tc := ⟨.hbm, 3223, rfl⟩
abbrev main_v2777 : Ref sig .tc := ⟨.hbm, 3224, rfl⟩
abbrev main_v2778 : Ref sig .tc := ⟨.hbm, 3225, rfl⟩
abbrev main_v2779 : Ref sig .tc := ⟨.hbm, 3226, rfl⟩
abbrev main_v2780 : Ref sig .tc := ⟨.hbm, 3227, rfl⟩
abbrev main_v2781 : Ref sig .tc := ⟨.hbm, 3228, rfl⟩
abbrev main_v2782 : Ref sig .tc := ⟨.hbm, 3229, rfl⟩
abbrev main_call25_v0 : Ref sig .tc := ⟨.hbm, 3230, rfl⟩
abbrev main_call25_v1 : Ref sig .tc := ⟨.hbm, 3231, rfl⟩
abbrev main_call25_v2 : Ref sig .tc := ⟨.hbm, 3232, rfl⟩
abbrev main_call25_v3 : Ref sig .tc := ⟨.hbm, 3233, rfl⟩
abbrev main_call25_v4 : Ref sig .tc := ⟨.hbm, 3234, rfl⟩
abbrev main_v2783 : Ref sig .tc := ⟨.hbm, 3235, rfl⟩
abbrev main_v2784 : Ref sig .tc := ⟨.hbm, 3236, rfl⟩
abbrev main_v2785 : Ref sig .tc := ⟨.hbm, 3237, rfl⟩
abbrev main_v2786 : Ref sig .tc := ⟨.hbm, 3238, rfl⟩
abbrev main_v2787 : Ref sig .tc := ⟨.hbm, 3239, rfl⟩
abbrev main_v2788 : Ref sig .tc := ⟨.hbm, 3240, rfl⟩
abbrev main_v2789 : Ref sig .tc := ⟨.hbm, 3241, rfl⟩
abbrev main_v2790 : Ref sig .tc := ⟨.hbm, 3242, rfl⟩
abbrev main_v2791 : Ref sig .tc := ⟨.hbm, 3243, rfl⟩
abbrev main_v2792 : Ref sig .tc := ⟨.hbm, 3244, rfl⟩
abbrev main_v2793 : Ref sig .tc := ⟨.hbm, 3245, rfl⟩
abbrev main_v2794 : Ref sig .tc := ⟨.hbm, 3246, rfl⟩
abbrev main_v2795 : Ref sig .tc := ⟨.hbm, 3247, rfl⟩
abbrev main_v2796 : Ref sig .tc := ⟨.hbm, 3248, rfl⟩
abbrev main_v2797 : Ref sig .tc := ⟨.hbm, 3249, rfl⟩
abbrev main_v2798 : Ref sig .tc := ⟨.hbm, 3250, rfl⟩
abbrev main_v2799 : Ref sig .tc := ⟨.hbm, 3251, rfl⟩
abbrev main_v2800 : Ref sig .tc := ⟨.hbm, 3252, rfl⟩
abbrev main_v2801 : Ref sig .tc := ⟨.hbm, 3253, rfl⟩
abbrev main_v2802 : Ref sig .tc := ⟨.hbm, 3254, rfl⟩
abbrev main_v2803 : Ref sig .tc := ⟨.hbm, 3255, rfl⟩
abbrev main_v2804 : Ref sig .tc := ⟨.hbm, 3256, rfl⟩
abbrev main_v2805 : Ref sig .tc := ⟨.hbm, 3257, rfl⟩
abbrev main_v2806 : Ref sig .tc := ⟨.hbm, 3258, rfl⟩
abbrev main_v2807 : Ref sig .tc := ⟨.hbm, 3259, rfl⟩
abbrev main_c_317 : Ref sig .tc := ⟨.hbm, 3260, rfl⟩
abbrev main_v2808 : Ref sig .tc := ⟨.hbm, 3261, rfl⟩
abbrev main_v2809 : Ref sig .tc := ⟨.hbm, 3262, rfl⟩
abbrev main_v2810 : Ref sig .tc := ⟨.hbm, 3263, rfl⟩
abbrev main_c_318 : Ref sig .tc := ⟨.hbm, 3264, rfl⟩
abbrev main_v2811 : Ref sig .tc := ⟨.hbm, 3265, rfl⟩
abbrev main_v2812 : Ref sig .tc := ⟨.hbm, 3266, rfl⟩
abbrev main_v2813 : Ref sig .tc := ⟨.hbm, 3267, rfl⟩
abbrev main_v2814 : Ref sig .tc := ⟨.hbm, 3268, rfl⟩
abbrev main_v2815 : Ref sig .tc := ⟨.hbm, 3269, rfl⟩
abbrev main_c_319 : Ref sig .tc := ⟨.hbm, 3270, rfl⟩
abbrev main_v2816 : Ref sig .tc := ⟨.hbm, 3271, rfl⟩
abbrev main_v2817 : Ref sig .tc := ⟨.hbm, 3272, rfl⟩
abbrev main_v2818 : Ref sig .tc := ⟨.hbm, 3273, rfl⟩
abbrev main_v2819 : Ref sig .tc := ⟨.hbm, 3274, rfl⟩
abbrev main_v2820 : Ref sig .tc := ⟨.hbm, 3275, rfl⟩
abbrev main_c_320 : Ref sig .tc := ⟨.hbm, 3276, rfl⟩
abbrev main_v2821 : Ref sig .tc := ⟨.hbm, 3277, rfl⟩
abbrev main_v2822 : Ref sig .tc := ⟨.hbm, 3278, rfl⟩
abbrev main_v2823 : Ref sig .tc := ⟨.hbm, 3279, rfl⟩
abbrev main_c_321 : Ref sig .tc := ⟨.hbm, 3280, rfl⟩
abbrev main_v2824 : Ref sig .tc := ⟨.hbm, 3281, rfl⟩
abbrev main_v2825 : Ref sig .tc := ⟨.hbm, 3282, rfl⟩
abbrev main_v2826 : Ref sig .tc := ⟨.hbm, 3283, rfl⟩
abbrev main_c_322 : Ref sig .tc := ⟨.hbm, 3284, rfl⟩
abbrev main_v2827 : Ref sig .tc := ⟨.hbm, 3285, rfl⟩
abbrev main_v2828 : Ref sig .tc := ⟨.hbm, 3286, rfl⟩
abbrev main_c_323 : Ref sig .tc := ⟨.hbm, 3287, rfl⟩
abbrev main_v2829 : Ref sig .tc := ⟨.hbm, 3288, rfl⟩
abbrev main_v2830 : Ref sig .tc := ⟨.hbm, 3289, rfl⟩
abbrev main_v2831 : Ref sig .tc := ⟨.hbm, 3290, rfl⟩
abbrev main_v2832 : Ref sig .tc := ⟨.hbm, 3291, rfl⟩
abbrev main_v2833 : Ref sig .tc := ⟨.hbm, 3292, rfl⟩
abbrev main_v2834 : Ref sig .tc := ⟨.hbm, 3293, rfl⟩
abbrev main_v2835 : Ref sig .tc := ⟨.hbm, 3294, rfl⟩
abbrev main_v2836 : Ref sig .tc := ⟨.hbm, 3295, rfl⟩
abbrev main_v2837 : Ref sig .tc := ⟨.hbm, 3296, rfl⟩
abbrev main_v2838 : Ref sig .tc := ⟨.hbm, 3297, rfl⟩
abbrev main_v2839 : Ref sig .tc := ⟨.hbm, 3298, rfl⟩
abbrev main_v2840 : Ref sig .tc := ⟨.hbm, 3299, rfl⟩
abbrev main_cst_324 : Ref sig .tc := ⟨.hbm, 3300, rfl⟩
abbrev main_v2841 : Ref sig .tc := ⟨.hbm, 3301, rfl⟩
abbrev main_v2842 : Ref sig .tc := ⟨.hbm, 3302, rfl⟩
abbrev main_v2843 : Ref sig .tc := ⟨.hbm, 3303, rfl⟩
abbrev main_v2844 : Ref sig .tc := ⟨.hbm, 3304, rfl⟩
abbrev main_v2845 : Ref sig .tc := ⟨.hbm, 3305, rfl⟩
abbrev main_v2846 : Ref sig .tc := ⟨.hbm, 3306, rfl⟩
abbrev main_v2847 : Ref sig .tc := ⟨.hbm, 3307, rfl⟩
abbrev main_v2848 : Ref sig .tc := ⟨.hbm, 3308, rfl⟩
abbrev main_v2849 : Ref sig .tc := ⟨.hbm, 3309, rfl⟩
abbrev main_v2850 : Ref sig .tc := ⟨.hbm, 3310, rfl⟩
abbrev main_v2851 : Ref sig .tc := ⟨.hbm, 3311, rfl⟩
abbrev main_v2852 : Ref sig .tc := ⟨.hbm, 3312, rfl⟩
abbrev main_cst_325 : Ref sig .tc := ⟨.hbm, 3313, rfl⟩
abbrev main_v2853 : Ref sig .tc := ⟨.hbm, 3314, rfl⟩
abbrev main_v2854 : Ref sig .tc := ⟨.hbm, 3315, rfl⟩
abbrev main_v2855 : Ref sig .tc := ⟨.hbm, 3316, rfl⟩
abbrev main_v2856 : Ref sig .tc := ⟨.hbm, 3317, rfl⟩
abbrev main_v2857 : Ref sig .tc := ⟨.hbm, 3318, rfl⟩
abbrev main_v2858 : Ref sig .tc := ⟨.hbm, 3319, rfl⟩
abbrev main_v2859 : Ref sig .tc := ⟨.hbm, 3320, rfl⟩
abbrev main_v2860 : Ref sig .tc := ⟨.hbm, 3321, rfl⟩
abbrev main_v2861 : Ref sig .tc := ⟨.hbm, 3322, rfl⟩
abbrev main_v2862 : Ref sig .tc := ⟨.hbm, 3323, rfl⟩
abbrev main_v2863 : Ref sig .tc := ⟨.hbm, 3324, rfl⟩
abbrev main_v2864 : Ref sig .tc := ⟨.hbm, 3325, rfl⟩
abbrev main_cst_326 : Ref sig .tc := ⟨.hbm, 3326, rfl⟩
abbrev main_v2865 : Ref sig .tc := ⟨.hbm, 3327, rfl⟩
abbrev main_v2866 : Ref sig .tc := ⟨.hbm, 3328, rfl⟩
abbrev main_v2867 : Ref sig .tc := ⟨.hbm, 3329, rfl⟩
abbrev main_v2868 : Ref sig .tc := ⟨.hbm, 3330, rfl⟩
abbrev main_v2869 : Ref sig .tc := ⟨.hbm, 3331, rfl⟩
abbrev main_v2870 : Ref sig .tc := ⟨.hbm, 3332, rfl⟩
abbrev main_v2871 : Ref sig .tc := ⟨.hbm, 3333, rfl⟩
abbrev main_v2872 : Ref sig .tc := ⟨.hbm, 3334, rfl⟩
abbrev main_v2873 : Ref sig .tc := ⟨.hbm, 3335, rfl⟩
abbrev main_v2874 : Ref sig .tc := ⟨.hbm, 3336, rfl⟩
abbrev main_v2875 : Ref sig .tc := ⟨.hbm, 3337, rfl⟩
abbrev main_v2876 : Ref sig .tc := ⟨.hbm, 3338, rfl⟩
abbrev main_cst_327 : Ref sig .tc := ⟨.hbm, 3339, rfl⟩
abbrev main_v2877 : Ref sig .tc := ⟨.hbm, 3340, rfl⟩
abbrev main_v2878 : Ref sig .tc := ⟨.hbm, 3341, rfl⟩
abbrev main_v2879 : Ref sig .tc := ⟨.hbm, 3342, rfl⟩
abbrev main_v2880 : Ref sig .tc := ⟨.hbm, 3343, rfl⟩
abbrev main_v2881 : Ref sig .tc := ⟨.hbm, 3344, rfl⟩
abbrev main_cst_328 : Ref sig .tc := ⟨.hbm, 3345, rfl⟩
abbrev main_v2882 : Ref sig .tc := ⟨.hbm, 3346, rfl⟩
abbrev main_v2883 : Ref sig .tc := ⟨.hbm, 3347, rfl⟩
abbrev main_v2884 : Ref sig .tc := ⟨.hbm, 3348, rfl⟩
abbrev main_v2885 : Ref sig .tc := ⟨.hbm, 3349, rfl⟩
abbrev main_v2886 : Ref sig .tc := ⟨.hbm, 3350, rfl⟩
abbrev main_v2887 : Ref sig .tc := ⟨.hbm, 3351, rfl⟩
abbrev main_cst_329 : Ref sig .tc := ⟨.hbm, 3352, rfl⟩
abbrev main_v2888 : Ref sig .tc := ⟨.hbm, 3353, rfl⟩
abbrev main_v2889 : Ref sig .tc := ⟨.hbm, 3354, rfl⟩
abbrev main_v2890 : Ref sig .tc := ⟨.hbm, 3355, rfl⟩
abbrev main_v2891 : Ref sig .tc := ⟨.hbm, 3356, rfl⟩
abbrev main_call26_v0 : Ref sig .tc := ⟨.hbm, 3357, rfl⟩
abbrev main_call26_v1 : Ref sig .tc := ⟨.hbm, 3358, rfl⟩
abbrev main_call26_v2 : Ref sig .tc := ⟨.hbm, 3359, rfl⟩
abbrev main_call26_v3 : Ref sig .tc := ⟨.hbm, 3360, rfl⟩
abbrev main_call26_v4 : Ref sig .tc := ⟨.hbm, 3361, rfl⟩
abbrev main_v2892 : Ref sig .tc := ⟨.hbm, 3362, rfl⟩
abbrev main_v2893 : Ref sig .tc := ⟨.hbm, 3363, rfl⟩
abbrev main_v2894 : Ref sig .tc := ⟨.hbm, 3364, rfl⟩
abbrev main_v2895 : Ref sig .tc := ⟨.hbm, 3365, rfl⟩
abbrev main_v2896 : Ref sig .tc := ⟨.hbm, 3366, rfl⟩
abbrev main_v2897 : Ref sig .tc := ⟨.hbm, 3367, rfl⟩
abbrev main_v2898 : Ref sig .tc := ⟨.hbm, 3368, rfl⟩
abbrev main_v2899 : Ref sig .tc := ⟨.hbm, 3369, rfl⟩
abbrev main_v2900 : Ref sig .tc := ⟨.hbm, 3370, rfl⟩
abbrev main_v2901 : Ref sig .tc := ⟨.hbm, 3371, rfl⟩
abbrev main_v2902 : Ref sig .tc := ⟨.hbm, 3372, rfl⟩
abbrev main_v2903 : Ref sig .tc := ⟨.hbm, 3373, rfl⟩
abbrev main_v2904 : Ref sig .tc := ⟨.hbm, 3374, rfl⟩
abbrev main_v2905 : Ref sig .tc := ⟨.hbm, 3375, rfl⟩
abbrev main_v2906 : Ref sig .tc := ⟨.hbm, 3376, rfl⟩
abbrev main_v2907 : Ref sig .tc := ⟨.hbm, 3377, rfl⟩
abbrev main_v2908 : Ref sig .tc := ⟨.hbm, 3378, rfl⟩
abbrev main_v2909 : Ref sig .tc := ⟨.hbm, 3379, rfl⟩
abbrev main_v2910 : Ref sig .tc := ⟨.hbm, 3380, rfl⟩
abbrev main_v2911 : Ref sig .tc := ⟨.hbm, 3381, rfl⟩
abbrev main_v2912 : Ref sig .tc := ⟨.hbm, 3382, rfl⟩
abbrev main_v2913 : Ref sig .tc := ⟨.hbm, 3383, rfl⟩
abbrev main_v2914 : Ref sig .tc := ⟨.hbm, 3384, rfl⟩
abbrev main_v2915 : Ref sig .tc := ⟨.hbm, 3385, rfl⟩
abbrev main_v2916 : Ref sig .tc := ⟨.hbm, 3386, rfl⟩
abbrev main_c_330 : Ref sig .tc := ⟨.hbm, 3387, rfl⟩
abbrev main_v2917 : Ref sig .tc := ⟨.hbm, 3388, rfl⟩
abbrev main_v2918 : Ref sig .tc := ⟨.hbm, 3389, rfl⟩
abbrev main_v2919 : Ref sig .tc := ⟨.hbm, 3390, rfl⟩
abbrev main_c_331 : Ref sig .tc := ⟨.hbm, 3391, rfl⟩
abbrev main_v2920 : Ref sig .tc := ⟨.hbm, 3392, rfl⟩
abbrev main_v2921 : Ref sig .tc := ⟨.hbm, 3393, rfl⟩
abbrev main_v2922 : Ref sig .tc := ⟨.hbm, 3394, rfl⟩
abbrev main_v2923 : Ref sig .tc := ⟨.hbm, 3395, rfl⟩
abbrev main_v2924 : Ref sig .tc := ⟨.hbm, 3396, rfl⟩
abbrev main_c_332 : Ref sig .tc := ⟨.hbm, 3397, rfl⟩
abbrev main_v2925 : Ref sig .tc := ⟨.hbm, 3398, rfl⟩
abbrev main_v2926 : Ref sig .tc := ⟨.hbm, 3399, rfl⟩
abbrev main_v2927 : Ref sig .tc := ⟨.hbm, 3400, rfl⟩
abbrev main_v2928 : Ref sig .tc := ⟨.hbm, 3401, rfl⟩
abbrev main_v2929 : Ref sig .tc := ⟨.hbm, 3402, rfl⟩
abbrev main_c_333 : Ref sig .tc := ⟨.hbm, 3403, rfl⟩
abbrev main_v2930 : Ref sig .tc := ⟨.hbm, 3404, rfl⟩
abbrev main_v2931 : Ref sig .tc := ⟨.hbm, 3405, rfl⟩
abbrev main_v2932 : Ref sig .tc := ⟨.hbm, 3406, rfl⟩
abbrev main_v2933 : Ref sig .tc := ⟨.hbm, 3407, rfl⟩
abbrev main_v2934 : Ref sig .tc := ⟨.hbm, 3408, rfl⟩
abbrev main_c_334 : Ref sig .tc := ⟨.hbm, 3409, rfl⟩
abbrev main_v2935 : Ref sig .tc := ⟨.hbm, 3410, rfl⟩
abbrev main_v2936 : Ref sig .tc := ⟨.hbm, 3411, rfl⟩
abbrev main_v2937 : Ref sig .tc := ⟨.hbm, 3412, rfl⟩
abbrev main_c_335 : Ref sig .tc := ⟨.hbm, 3413, rfl⟩
abbrev main_v2938 : Ref sig .tc := ⟨.hbm, 3414, rfl⟩
abbrev main_v2939 : Ref sig .tc := ⟨.hbm, 3415, rfl⟩
abbrev main_v2940 : Ref sig .tc := ⟨.hbm, 3416, rfl⟩
abbrev main_c_336 : Ref sig .tc := ⟨.hbm, 3417, rfl⟩
abbrev main_v2941 : Ref sig .tc := ⟨.hbm, 3418, rfl⟩
abbrev main_v2942 : Ref sig .tc := ⟨.hbm, 3419, rfl⟩
abbrev main_c_337 : Ref sig .tc := ⟨.hbm, 3420, rfl⟩
abbrev main_v2943 : Ref sig .tc := ⟨.hbm, 3421, rfl⟩
abbrev main_v2944 : Ref sig .tc := ⟨.hbm, 3422, rfl⟩
abbrev main_v2945 : Ref sig .tc := ⟨.hbm, 3423, rfl⟩
abbrev main_v2946 : Ref sig .tc := ⟨.hbm, 3424, rfl⟩
abbrev main_v2947 : Ref sig .tc := ⟨.hbm, 3425, rfl⟩
abbrev main_v2948 : Ref sig .tc := ⟨.hbm, 3426, rfl⟩
abbrev main_v2949 : Ref sig .tc := ⟨.hbm, 3427, rfl⟩
abbrev main_v2950 : Ref sig .tc := ⟨.hbm, 3428, rfl⟩
abbrev main_v2951 : Ref sig .tc := ⟨.hbm, 3429, rfl⟩
abbrev main_v2952 : Ref sig .tc := ⟨.hbm, 3430, rfl⟩
abbrev main_v2953 : Ref sig .tc := ⟨.hbm, 3431, rfl⟩
abbrev main_v2954 : Ref sig .tc := ⟨.hbm, 3432, rfl⟩
abbrev main_cst_338 : Ref sig .tc := ⟨.hbm, 3433, rfl⟩
abbrev main_v2955 : Ref sig .tc := ⟨.hbm, 3434, rfl⟩
abbrev main_v2956 : Ref sig .tc := ⟨.hbm, 3435, rfl⟩
abbrev main_v2957 : Ref sig .tc := ⟨.hbm, 3436, rfl⟩
abbrev main_v2958 : Ref sig .tc := ⟨.hbm, 3437, rfl⟩
abbrev main_v2959 : Ref sig .tc := ⟨.hbm, 3438, rfl⟩
abbrev main_v2960 : Ref sig .tc := ⟨.hbm, 3439, rfl⟩
abbrev main_v2961 : Ref sig .tc := ⟨.hbm, 3440, rfl⟩
abbrev main_v2962 : Ref sig .tc := ⟨.hbm, 3441, rfl⟩
abbrev main_v2963 : Ref sig .tc := ⟨.hbm, 3442, rfl⟩
abbrev main_v2964 : Ref sig .tc := ⟨.hbm, 3443, rfl⟩
abbrev main_v2965 : Ref sig .tc := ⟨.hbm, 3444, rfl⟩
abbrev main_v2966 : Ref sig .tc := ⟨.hbm, 3445, rfl⟩
abbrev main_cst_339 : Ref sig .tc := ⟨.hbm, 3446, rfl⟩
abbrev main_v2967 : Ref sig .tc := ⟨.hbm, 3447, rfl⟩
abbrev main_v2968 : Ref sig .tc := ⟨.hbm, 3448, rfl⟩
abbrev main_v2969 : Ref sig .tc := ⟨.hbm, 3449, rfl⟩
abbrev main_v2970 : Ref sig .tc := ⟨.hbm, 3450, rfl⟩
abbrev main_v2971 : Ref sig .tc := ⟨.hbm, 3451, rfl⟩
abbrev main_v2972 : Ref sig .tc := ⟨.hbm, 3452, rfl⟩
abbrev main_v2973 : Ref sig .tc := ⟨.hbm, 3453, rfl⟩
abbrev main_v2974 : Ref sig .tc := ⟨.hbm, 3454, rfl⟩
abbrev main_v2975 : Ref sig .tc := ⟨.hbm, 3455, rfl⟩
abbrev main_v2976 : Ref sig .tc := ⟨.hbm, 3456, rfl⟩
abbrev main_v2977 : Ref sig .tc := ⟨.hbm, 3457, rfl⟩
abbrev main_v2978 : Ref sig .tc := ⟨.hbm, 3458, rfl⟩
abbrev main_cst_340 : Ref sig .tc := ⟨.hbm, 3459, rfl⟩
abbrev main_v2979 : Ref sig .tc := ⟨.hbm, 3460, rfl⟩
abbrev main_v2980 : Ref sig .tc := ⟨.hbm, 3461, rfl⟩
abbrev main_v2981 : Ref sig .tc := ⟨.hbm, 3462, rfl⟩
abbrev main_v2982 : Ref sig .tc := ⟨.hbm, 3463, rfl⟩
abbrev main_v2983 : Ref sig .tc := ⟨.hbm, 3464, rfl⟩
abbrev main_v2984 : Ref sig .tc := ⟨.hbm, 3465, rfl⟩
abbrev main_v2985 : Ref sig .tc := ⟨.hbm, 3466, rfl⟩
abbrev main_v2986 : Ref sig .tc := ⟨.hbm, 3467, rfl⟩
abbrev main_v2987 : Ref sig .tc := ⟨.hbm, 3468, rfl⟩
abbrev main_v2988 : Ref sig .tc := ⟨.hbm, 3469, rfl⟩
abbrev main_v2989 : Ref sig .tc := ⟨.hbm, 3470, rfl⟩
abbrev main_v2990 : Ref sig .tc := ⟨.hbm, 3471, rfl⟩
abbrev main_cst_341 : Ref sig .tc := ⟨.hbm, 3472, rfl⟩
abbrev main_v2991 : Ref sig .tc := ⟨.hbm, 3473, rfl⟩
abbrev main_v2992 : Ref sig .tc := ⟨.hbm, 3474, rfl⟩
abbrev main_v2993 : Ref sig .tc := ⟨.hbm, 3475, rfl⟩
abbrev main_v2994 : Ref sig .tc := ⟨.hbm, 3476, rfl⟩
abbrev main_v2995 : Ref sig .tc := ⟨.hbm, 3477, rfl⟩
abbrev main_v2996 : Ref sig .tc := ⟨.hbm, 3478, rfl⟩
abbrev main_v2997 : Ref sig .tc := ⟨.hbm, 3479, rfl⟩
abbrev main_v2998 : Ref sig .tc := ⟨.hbm, 3480, rfl⟩
abbrev main_v2999 : Ref sig .tc := ⟨.hbm, 3481, rfl⟩
abbrev main_v3000 : Ref sig .tc := ⟨.hbm, 3482, rfl⟩
abbrev main_v3001 : Ref sig .tc := ⟨.hbm, 3483, rfl⟩
abbrev main_v3002 : Ref sig .tc := ⟨.hbm, 3484, rfl⟩
abbrev main_v3003 : Ref sig .tc := ⟨.hbm, 3485, rfl⟩
abbrev main_call27_v0 : Ref sig .tc := ⟨.hbm, 3486, rfl⟩
abbrev main_call27_v1 : Ref sig .tc := ⟨.hbm, 3487, rfl⟩
abbrev main_call27_v2 : Ref sig .tc := ⟨.hbm, 3488, rfl⟩
abbrev main_call27_v3 : Ref sig .tc := ⟨.hbm, 3489, rfl⟩
abbrev main_call27_v4 : Ref sig .tc := ⟨.hbm, 3490, rfl⟩
abbrev main_v3004 : Ref sig .tc := ⟨.hbm, 3491, rfl⟩
abbrev main_v3005 : Ref sig .tc := ⟨.hbm, 3492, rfl⟩
abbrev main_v3006 : Ref sig .tc := ⟨.hbm, 3493, rfl⟩
abbrev main_v3007 : Ref sig .tc := ⟨.hbm, 3494, rfl⟩
abbrev main_v3008 : Ref sig .tc := ⟨.hbm, 3495, rfl⟩
abbrev main_v3009 : Ref sig .tc := ⟨.hbm, 3496, rfl⟩
abbrev main_v3010 : Ref sig .tc := ⟨.hbm, 3497, rfl⟩
abbrev main_v3011 : Ref sig .tc := ⟨.hbm, 3498, rfl⟩
abbrev main_v3012 : Ref sig .tc := ⟨.hbm, 3499, rfl⟩
abbrev main_v3013 : Ref sig .tc := ⟨.hbm, 3500, rfl⟩
abbrev main_v3014 : Ref sig .tc := ⟨.hbm, 3501, rfl⟩
abbrev main_v3015 : Ref sig .tc := ⟨.hbm, 3502, rfl⟩
abbrev main_v3016 : Ref sig .tc := ⟨.hbm, 3503, rfl⟩
abbrev main_v3017 : Ref sig .tc := ⟨.hbm, 3504, rfl⟩
abbrev main_v3018 : Ref sig .tc := ⟨.hbm, 3505, rfl⟩
abbrev main_v3019 : Ref sig .tc := ⟨.hbm, 3506, rfl⟩
abbrev main_v3020 : Ref sig .tc := ⟨.hbm, 3507, rfl⟩
abbrev main_v3021 : Ref sig .tc := ⟨.hbm, 3508, rfl⟩
abbrev main_v3022 : Ref sig .tc := ⟨.hbm, 3509, rfl⟩
abbrev main_v3023 : Ref sig .tc := ⟨.hbm, 3510, rfl⟩
abbrev main_v3024 : Ref sig .tc := ⟨.hbm, 3511, rfl⟩
abbrev main_v3025 : Ref sig .tc := ⟨.hbm, 3512, rfl⟩
abbrev main_v3026 : Ref sig .tc := ⟨.hbm, 3513, rfl⟩
abbrev main_v3027 : Ref sig .tc := ⟨.hbm, 3514, rfl⟩
abbrev main_v3028 : Ref sig .tc := ⟨.hbm, 3515, rfl⟩
abbrev main_c_342 : Ref sig .tc := ⟨.hbm, 3516, rfl⟩
abbrev main_v3029 : Ref sig .tc := ⟨.hbm, 3517, rfl⟩
abbrev main_v3030 : Ref sig .tc := ⟨.hbm, 3518, rfl⟩
abbrev main_v3031 : Ref sig .tc := ⟨.hbm, 3519, rfl⟩
abbrev main_c_343 : Ref sig .tc := ⟨.hbm, 3520, rfl⟩
abbrev main_v3032 : Ref sig .tc := ⟨.hbm, 3521, rfl⟩
abbrev main_v3033 : Ref sig .tc := ⟨.hbm, 3522, rfl⟩
abbrev main_v3034 : Ref sig .tc := ⟨.hbm, 3523, rfl⟩
abbrev main_v3035 : Ref sig .tc := ⟨.hbm, 3524, rfl⟩
abbrev main_v3036 : Ref sig .tc := ⟨.hbm, 3525, rfl⟩
abbrev main_c_344 : Ref sig .tc := ⟨.hbm, 3526, rfl⟩
abbrev main_v3037 : Ref sig .tc := ⟨.hbm, 3527, rfl⟩
abbrev main_v3038 : Ref sig .tc := ⟨.hbm, 3528, rfl⟩
abbrev main_v3039 : Ref sig .tc := ⟨.hbm, 3529, rfl⟩
abbrev main_v3040 : Ref sig .tc := ⟨.hbm, 3530, rfl⟩
abbrev main_v3041 : Ref sig .tc := ⟨.hbm, 3531, rfl⟩
abbrev main_c_345 : Ref sig .tc := ⟨.hbm, 3532, rfl⟩
abbrev main_v3042 : Ref sig .tc := ⟨.hbm, 3533, rfl⟩
abbrev main_v3043 : Ref sig .tc := ⟨.hbm, 3534, rfl⟩
abbrev main_v3044 : Ref sig .tc := ⟨.hbm, 3535, rfl⟩
abbrev main_c_346 : Ref sig .tc := ⟨.hbm, 3536, rfl⟩
abbrev main_v3045 : Ref sig .tc := ⟨.hbm, 3537, rfl⟩
abbrev main_v3046 : Ref sig .tc := ⟨.hbm, 3538, rfl⟩
abbrev main_v3047 : Ref sig .tc := ⟨.hbm, 3539, rfl⟩
abbrev main_c_347 : Ref sig .tc := ⟨.hbm, 3540, rfl⟩
abbrev main_v3048 : Ref sig .tc := ⟨.hbm, 3541, rfl⟩
abbrev main_v3049 : Ref sig .tc := ⟨.hbm, 3542, rfl⟩
abbrev main_c_348 : Ref sig .tc := ⟨.hbm, 3543, rfl⟩
abbrev main_v3050 : Ref sig .tc := ⟨.hbm, 3544, rfl⟩
abbrev main_v3051 : Ref sig .tc := ⟨.hbm, 3545, rfl⟩
abbrev main_v3052 : Ref sig .tc := ⟨.hbm, 3546, rfl⟩
abbrev main_v3053 : Ref sig .tc := ⟨.hbm, 3547, rfl⟩
abbrev main_v3054 : Ref sig .tc := ⟨.hbm, 3548, rfl⟩
abbrev main_v3055 : Ref sig .tc := ⟨.hbm, 3549, rfl⟩
abbrev main_v3056 : Ref sig .tc := ⟨.hbm, 3550, rfl⟩
abbrev main_v3057 : Ref sig .tc := ⟨.hbm, 3551, rfl⟩
abbrev main_v3058 : Ref sig .tc := ⟨.hbm, 3552, rfl⟩
abbrev main_v3059 : Ref sig .tc := ⟨.hbm, 3553, rfl⟩
abbrev main_v3060 : Ref sig .tc := ⟨.hbm, 3554, rfl⟩
abbrev main_v3061 : Ref sig .tc := ⟨.hbm, 3555, rfl⟩
abbrev main_cst_349 : Ref sig .tc := ⟨.hbm, 3556, rfl⟩
abbrev main_v3062 : Ref sig .tc := ⟨.hbm, 3557, rfl⟩
abbrev main_v3063 : Ref sig .tc := ⟨.hbm, 3558, rfl⟩
abbrev main_v3064 : Ref sig .tc := ⟨.hbm, 3559, rfl⟩
abbrev main_v3065 : Ref sig .tc := ⟨.hbm, 3560, rfl⟩
abbrev main_v3066 : Ref sig .tc := ⟨.hbm, 3561, rfl⟩
abbrev main_v3067 : Ref sig .tc := ⟨.hbm, 3562, rfl⟩
abbrev main_v3068 : Ref sig .tc := ⟨.hbm, 3563, rfl⟩
abbrev main_v3069 : Ref sig .tc := ⟨.hbm, 3564, rfl⟩
abbrev main_v3070 : Ref sig .tc := ⟨.hbm, 3565, rfl⟩
abbrev main_v3071 : Ref sig .tc := ⟨.hbm, 3566, rfl⟩
abbrev main_v3072 : Ref sig .tc := ⟨.hbm, 3567, rfl⟩
abbrev main_v3073 : Ref sig .tc := ⟨.hbm, 3568, rfl⟩
abbrev main_cst_350 : Ref sig .tc := ⟨.hbm, 3569, rfl⟩
abbrev main_v3074 : Ref sig .tc := ⟨.hbm, 3570, rfl⟩
abbrev main_v3075 : Ref sig .tc := ⟨.hbm, 3571, rfl⟩
abbrev main_v3076 : Ref sig .tc := ⟨.hbm, 3572, rfl⟩
abbrev main_v3077 : Ref sig .tc := ⟨.hbm, 3573, rfl⟩
abbrev main_v3078 : Ref sig .tc := ⟨.hbm, 3574, rfl⟩
abbrev main_v3079 : Ref sig .tc := ⟨.hbm, 3575, rfl⟩
abbrev main_v3080 : Ref sig .tc := ⟨.hbm, 3576, rfl⟩
abbrev main_v3081 : Ref sig .tc := ⟨.hbm, 3577, rfl⟩
abbrev main_v3082 : Ref sig .tc := ⟨.hbm, 3578, rfl⟩
abbrev main_v3083 : Ref sig .tc := ⟨.hbm, 3579, rfl⟩
abbrev main_v3084 : Ref sig .tc := ⟨.hbm, 3580, rfl⟩
abbrev main_v3085 : Ref sig .tc := ⟨.hbm, 3581, rfl⟩
abbrev main_cst_351 : Ref sig .tc := ⟨.hbm, 3582, rfl⟩
abbrev main_v3086 : Ref sig .tc := ⟨.hbm, 3583, rfl⟩
abbrev main_v3087 : Ref sig .tc := ⟨.hbm, 3584, rfl⟩
abbrev main_v3088 : Ref sig .tc := ⟨.hbm, 3585, rfl⟩
abbrev main_v3089 : Ref sig .tc := ⟨.hbm, 3586, rfl⟩
abbrev main_v3090 : Ref sig .tc := ⟨.hbm, 3587, rfl⟩
abbrev main_v3091 : Ref sig .tc := ⟨.hbm, 3588, rfl⟩
abbrev main_v3092 : Ref sig .tc := ⟨.hbm, 3589, rfl⟩
abbrev main_v3093 : Ref sig .tc := ⟨.hbm, 3590, rfl⟩
abbrev main_v3094 : Ref sig .tc := ⟨.hbm, 3591, rfl⟩
abbrev main_v3095 : Ref sig .tc := ⟨.hbm, 3592, rfl⟩
abbrev main_v3096 : Ref sig .tc := ⟨.hbm, 3593, rfl⟩
abbrev main_v3097 : Ref sig .tc := ⟨.hbm, 3594, rfl⟩
abbrev main_cst_352 : Ref sig .tc := ⟨.hbm, 3595, rfl⟩
abbrev main_v3098 : Ref sig .tc := ⟨.hbm, 3596, rfl⟩
abbrev main_v3099 : Ref sig .tc := ⟨.hbm, 3597, rfl⟩
abbrev main_v3100 : Ref sig .tc := ⟨.hbm, 3598, rfl⟩
abbrev main_v3101 : Ref sig .tc := ⟨.hbm, 3599, rfl⟩
abbrev main_v3102 : Ref sig .tc := ⟨.hbm, 3600, rfl⟩
abbrev main_cst_353 : Ref sig .tc := ⟨.hbm, 3601, rfl⟩
abbrev main_v3103 : Ref sig .tc := ⟨.hbm, 3602, rfl⟩
abbrev main_v3104 : Ref sig .tc := ⟨.hbm, 3603, rfl⟩
abbrev main_v3105 : Ref sig .tc := ⟨.hbm, 3604, rfl⟩
abbrev main_v3106 : Ref sig .tc := ⟨.hbm, 3605, rfl⟩
abbrev main_v3107 : Ref sig .tc := ⟨.hbm, 3606, rfl⟩
abbrev main_v3108 : Ref sig .tc := ⟨.hbm, 3607, rfl⟩
abbrev main_cst_354 : Ref sig .tc := ⟨.hbm, 3608, rfl⟩
abbrev main_v3109 : Ref sig .tc := ⟨.hbm, 3609, rfl⟩
abbrev main_v3110 : Ref sig .tc := ⟨.hbm, 3610, rfl⟩
abbrev main_v3111 : Ref sig .tc := ⟨.hbm, 3611, rfl⟩
abbrev main_v3112 : Ref sig .tc := ⟨.hbm, 3612, rfl⟩
abbrev main_call28_v0 : Ref sig .tc := ⟨.hbm, 3613, rfl⟩
abbrev main_call28_v1 : Ref sig .tc := ⟨.hbm, 3614, rfl⟩
abbrev main_call28_v2 : Ref sig .tc := ⟨.hbm, 3615, rfl⟩
abbrev main_call28_v3 : Ref sig .tc := ⟨.hbm, 3616, rfl⟩
abbrev main_call28_v4 : Ref sig .tc := ⟨.hbm, 3617, rfl⟩
abbrev main_v3113 : Ref sig .tc := ⟨.hbm, 3618, rfl⟩
abbrev main_v3114 : Ref sig .tc := ⟨.hbm, 3619, rfl⟩
abbrev main_v3115 : Ref sig .tc := ⟨.hbm, 3620, rfl⟩
abbrev main_v3116 : Ref sig .tc := ⟨.hbm, 3621, rfl⟩
abbrev main_v3117 : Ref sig .tc := ⟨.hbm, 3622, rfl⟩
abbrev main_v3118 : Ref sig .tc := ⟨.hbm, 3623, rfl⟩
abbrev main_v3119 : Ref sig .tc := ⟨.hbm, 3624, rfl⟩
abbrev main_v3120 : Ref sig .tc := ⟨.hbm, 3625, rfl⟩
abbrev main_v3121 : Ref sig .tc := ⟨.hbm, 3626, rfl⟩
abbrev main_v3122 : Ref sig .tc := ⟨.hbm, 3627, rfl⟩
abbrev main_v3123 : Ref sig .tc := ⟨.hbm, 3628, rfl⟩
abbrev main_v3124 : Ref sig .tc := ⟨.hbm, 3629, rfl⟩
abbrev main_v3125 : Ref sig .tc := ⟨.hbm, 3630, rfl⟩
abbrev main_v3126 : Ref sig .tc := ⟨.hbm, 3631, rfl⟩
abbrev main_v3127 : Ref sig .tc := ⟨.hbm, 3632, rfl⟩
abbrev main_v3128 : Ref sig .tc := ⟨.hbm, 3633, rfl⟩
abbrev main_v3129 : Ref sig .tc := ⟨.hbm, 3634, rfl⟩
abbrev main_v3130 : Ref sig .tc := ⟨.hbm, 3635, rfl⟩
abbrev main_v3131 : Ref sig .tc := ⟨.hbm, 3636, rfl⟩
abbrev main_v3132 : Ref sig .tc := ⟨.hbm, 3637, rfl⟩
abbrev main_v3133 : Ref sig .tc := ⟨.hbm, 3638, rfl⟩
abbrev main_v3134 : Ref sig .tc := ⟨.hbm, 3639, rfl⟩
abbrev main_v3135 : Ref sig .tc := ⟨.hbm, 3640, rfl⟩
abbrev main_v3136 : Ref sig .tc := ⟨.hbm, 3641, rfl⟩
abbrev main_v3137 : Ref sig .tc := ⟨.hbm, 3642, rfl⟩
abbrev main_c_355 : Ref sig .tc := ⟨.hbm, 3643, rfl⟩
abbrev main_v3138 : Ref sig .tc := ⟨.hbm, 3644, rfl⟩
abbrev main_v3139 : Ref sig .tc := ⟨.hbm, 3645, rfl⟩
abbrev main_v3140 : Ref sig .tc := ⟨.hbm, 3646, rfl⟩
abbrev main_c_356 : Ref sig .tc := ⟨.hbm, 3647, rfl⟩
abbrev main_v3141 : Ref sig .tc := ⟨.hbm, 3648, rfl⟩
abbrev main_v3142 : Ref sig .tc := ⟨.hbm, 3649, rfl⟩
abbrev main_v3143 : Ref sig .tc := ⟨.hbm, 3650, rfl⟩
abbrev main_v3144 : Ref sig .tc := ⟨.hbm, 3651, rfl⟩
abbrev main_v3145 : Ref sig .tc := ⟨.hbm, 3652, rfl⟩
abbrev main_c_357 : Ref sig .tc := ⟨.hbm, 3653, rfl⟩
abbrev main_v3146 : Ref sig .tc := ⟨.hbm, 3654, rfl⟩
abbrev main_v3147 : Ref sig .tc := ⟨.hbm, 3655, rfl⟩
abbrev main_v3148 : Ref sig .tc := ⟨.hbm, 3656, rfl⟩
abbrev main_v3149 : Ref sig .tc := ⟨.hbm, 3657, rfl⟩
abbrev main_v3150 : Ref sig .tc := ⟨.hbm, 3658, rfl⟩
abbrev main_c_358 : Ref sig .tc := ⟨.hbm, 3659, rfl⟩
abbrev main_v3151 : Ref sig .tc := ⟨.hbm, 3660, rfl⟩
abbrev main_v3152 : Ref sig .tc := ⟨.hbm, 3661, rfl⟩
abbrev main_v3153 : Ref sig .tc := ⟨.hbm, 3662, rfl⟩
abbrev main_v3154 : Ref sig .tc := ⟨.hbm, 3663, rfl⟩
abbrev main_v3155 : Ref sig .tc := ⟨.hbm, 3664, rfl⟩
abbrev main_c_359 : Ref sig .tc := ⟨.hbm, 3665, rfl⟩
abbrev main_v3156 : Ref sig .tc := ⟨.hbm, 3666, rfl⟩
abbrev main_v3157 : Ref sig .tc := ⟨.hbm, 3667, rfl⟩
abbrev main_v3158 : Ref sig .tc := ⟨.hbm, 3668, rfl⟩
abbrev main_c_360 : Ref sig .tc := ⟨.hbm, 3669, rfl⟩
abbrev main_v3159 : Ref sig .tc := ⟨.hbm, 3670, rfl⟩
abbrev main_v3160 : Ref sig .tc := ⟨.hbm, 3671, rfl⟩
abbrev main_v3161 : Ref sig .tc := ⟨.hbm, 3672, rfl⟩
abbrev main_c_361 : Ref sig .tc := ⟨.hbm, 3673, rfl⟩
abbrev main_v3162 : Ref sig .tc := ⟨.hbm, 3674, rfl⟩
abbrev main_v3163 : Ref sig .tc := ⟨.hbm, 3675, rfl⟩
abbrev main_c_362 : Ref sig .tc := ⟨.hbm, 3676, rfl⟩
abbrev main_v3164 : Ref sig .tc := ⟨.hbm, 3677, rfl⟩
abbrev main_v3165 : Ref sig .tc := ⟨.hbm, 3678, rfl⟩
abbrev main_v3166 : Ref sig .tc := ⟨.hbm, 3679, rfl⟩
abbrev main_v3167 : Ref sig .tc := ⟨.hbm, 3680, rfl⟩
abbrev main_v3168 : Ref sig .tc := ⟨.hbm, 3681, rfl⟩
abbrev main_v3169 : Ref sig .tc := ⟨.hbm, 3682, rfl⟩
abbrev main_v3170 : Ref sig .tc := ⟨.hbm, 3683, rfl⟩
abbrev main_v3171 : Ref sig .tc := ⟨.hbm, 3684, rfl⟩
abbrev main_v3172 : Ref sig .tc := ⟨.hbm, 3685, rfl⟩
abbrev main_v3173 : Ref sig .tc := ⟨.hbm, 3686, rfl⟩
abbrev main_v3174 : Ref sig .tc := ⟨.hbm, 3687, rfl⟩
abbrev main_v3175 : Ref sig .tc := ⟨.hbm, 3688, rfl⟩
abbrev main_cst_363 : Ref sig .tc := ⟨.hbm, 3689, rfl⟩
abbrev main_v3176 : Ref sig .tc := ⟨.hbm, 3690, rfl⟩
abbrev main_v3177 : Ref sig .tc := ⟨.hbm, 3691, rfl⟩
abbrev main_v3178 : Ref sig .tc := ⟨.hbm, 3692, rfl⟩
abbrev main_v3179 : Ref sig .tc := ⟨.hbm, 3693, rfl⟩
abbrev main_v3180 : Ref sig .tc := ⟨.hbm, 3694, rfl⟩
abbrev main_v3181 : Ref sig .tc := ⟨.hbm, 3695, rfl⟩
abbrev main_v3182 : Ref sig .tc := ⟨.hbm, 3696, rfl⟩
abbrev main_v3183 : Ref sig .tc := ⟨.hbm, 3697, rfl⟩
abbrev main_v3184 : Ref sig .tc := ⟨.hbm, 3698, rfl⟩
abbrev main_v3185 : Ref sig .tc := ⟨.hbm, 3699, rfl⟩
abbrev main_v3186 : Ref sig .tc := ⟨.hbm, 3700, rfl⟩
abbrev main_v3187 : Ref sig .tc := ⟨.hbm, 3701, rfl⟩
abbrev main_cst_364 : Ref sig .tc := ⟨.hbm, 3702, rfl⟩
abbrev main_v3188 : Ref sig .tc := ⟨.hbm, 3703, rfl⟩
abbrev main_v3189 : Ref sig .tc := ⟨.hbm, 3704, rfl⟩
abbrev main_v3190 : Ref sig .tc := ⟨.hbm, 3705, rfl⟩
abbrev main_v3191 : Ref sig .tc := ⟨.hbm, 3706, rfl⟩
abbrev main_v3192 : Ref sig .tc := ⟨.hbm, 3707, rfl⟩
abbrev main_v3193 : Ref sig .tc := ⟨.hbm, 3708, rfl⟩
abbrev main_v3194 : Ref sig .tc := ⟨.hbm, 3709, rfl⟩
abbrev main_v3195 : Ref sig .tc := ⟨.hbm, 3710, rfl⟩
abbrev main_v3196 : Ref sig .tc := ⟨.hbm, 3711, rfl⟩
abbrev main_v3197 : Ref sig .tc := ⟨.hbm, 3712, rfl⟩
abbrev main_v3198 : Ref sig .tc := ⟨.hbm, 3713, rfl⟩
abbrev main_v3199 : Ref sig .tc := ⟨.hbm, 3714, rfl⟩
abbrev main_cst_365 : Ref sig .tc := ⟨.hbm, 3715, rfl⟩
abbrev main_v3200 : Ref sig .tc := ⟨.hbm, 3716, rfl⟩
abbrev main_v3201 : Ref sig .tc := ⟨.hbm, 3717, rfl⟩
abbrev main_v3202 : Ref sig .tc := ⟨.hbm, 3718, rfl⟩
abbrev main_v3203 : Ref sig .tc := ⟨.hbm, 3719, rfl⟩
abbrev main_v3204 : Ref sig .tc := ⟨.hbm, 3720, rfl⟩
abbrev main_v3205 : Ref sig .tc := ⟨.hbm, 3721, rfl⟩
abbrev main_v3206 : Ref sig .tc := ⟨.hbm, 3722, rfl⟩
abbrev main_v3207 : Ref sig .tc := ⟨.hbm, 3723, rfl⟩
abbrev main_v3208 : Ref sig .tc := ⟨.hbm, 3724, rfl⟩
abbrev main_v3209 : Ref sig .tc := ⟨.hbm, 3725, rfl⟩
abbrev main_v3210 : Ref sig .tc := ⟨.hbm, 3726, rfl⟩
abbrev main_v3211 : Ref sig .tc := ⟨.hbm, 3727, rfl⟩
abbrev main_cst_366 : Ref sig .tc := ⟨.hbm, 3728, rfl⟩
abbrev main_v3212 : Ref sig .tc := ⟨.hbm, 3729, rfl⟩
abbrev main_v3213 : Ref sig .tc := ⟨.hbm, 3730, rfl⟩
abbrev main_v3214 : Ref sig .tc := ⟨.hbm, 3731, rfl⟩
abbrev main_v3215 : Ref sig .tc := ⟨.hbm, 3732, rfl⟩
abbrev main_v3216 : Ref sig .tc := ⟨.hbm, 3733, rfl⟩
abbrev main_v3217 : Ref sig .tc := ⟨.hbm, 3734, rfl⟩
abbrev main_v3218 : Ref sig .tc := ⟨.hbm, 3735, rfl⟩
abbrev main_v3219 : Ref sig .tc := ⟨.hbm, 3736, rfl⟩
abbrev main_v3220 : Ref sig .tc := ⟨.hbm, 3737, rfl⟩
abbrev main_v3221 : Ref sig .tc := ⟨.hbm, 3738, rfl⟩
abbrev main_v3222 : Ref sig .tc := ⟨.hbm, 3739, rfl⟩
abbrev main_v3223 : Ref sig .tc := ⟨.hbm, 3740, rfl⟩
abbrev main_v3224 : Ref sig .tc := ⟨.hbm, 3741, rfl⟩
abbrev main_call29_v0 : Ref sig .tc := ⟨.hbm, 3742, rfl⟩
abbrev main_call29_v1 : Ref sig .tc := ⟨.hbm, 3743, rfl⟩
abbrev main_call29_v2 : Ref sig .tc := ⟨.hbm, 3744, rfl⟩
abbrev main_call29_v3 : Ref sig .tc := ⟨.hbm, 3745, rfl⟩
abbrev main_call29_v4 : Ref sig .tc := ⟨.hbm, 3746, rfl⟩
abbrev main_v3225 : Ref sig .tc := ⟨.hbm, 3747, rfl⟩
abbrev main_v3226 : Ref sig .tc := ⟨.hbm, 3748, rfl⟩
abbrev main_v3227 : Ref sig .tc := ⟨.hbm, 3749, rfl⟩
abbrev main_v3228 : Ref sig .tc := ⟨.hbm, 3750, rfl⟩
abbrev main_v3229 : Ref sig .tc := ⟨.hbm, 3751, rfl⟩
abbrev main_v3230 : Ref sig .tc := ⟨.hbm, 3752, rfl⟩
abbrev main_v3231 : Ref sig .tc := ⟨.hbm, 3753, rfl⟩
abbrev main_v3232 : Ref sig .tc := ⟨.hbm, 3754, rfl⟩
abbrev main_v3233 : Ref sig .tc := ⟨.hbm, 3755, rfl⟩
abbrev main_v3234 : Ref sig .tc := ⟨.hbm, 3756, rfl⟩
abbrev main_v3235 : Ref sig .tc := ⟨.hbm, 3757, rfl⟩
abbrev main_v3236 : Ref sig .tc := ⟨.hbm, 3758, rfl⟩
abbrev main_v3237 : Ref sig .tc := ⟨.hbm, 3759, rfl⟩
abbrev main_v3238 : Ref sig .tc := ⟨.hbm, 3760, rfl⟩
abbrev main_v3239 : Ref sig .tc := ⟨.hbm, 3761, rfl⟩
abbrev main_v3240 : Ref sig .tc := ⟨.hbm, 3762, rfl⟩
abbrev main_v3241 : Ref sig .tc := ⟨.hbm, 3763, rfl⟩
abbrev main_v3242 : Ref sig .tc := ⟨.hbm, 3764, rfl⟩
abbrev main_v3243 : Ref sig .tc := ⟨.hbm, 3765, rfl⟩
abbrev main_v3244 : Ref sig .tc := ⟨.hbm, 3766, rfl⟩
abbrev main_v3245 : Ref sig .tc := ⟨.hbm, 3767, rfl⟩
abbrev main_v3246 : Ref sig .tc := ⟨.hbm, 3768, rfl⟩
abbrev main_v3247 : Ref sig .tc := ⟨.hbm, 3769, rfl⟩
abbrev main_v3248 : Ref sig .tc := ⟨.hbm, 3770, rfl⟩
abbrev main_v3249 : Ref sig .tc := ⟨.hbm, 3771, rfl⟩
abbrev main_c_367 : Ref sig .tc := ⟨.hbm, 3772, rfl⟩
abbrev main_v3250 : Ref sig .tc := ⟨.hbm, 3773, rfl⟩
abbrev main_v3251 : Ref sig .tc := ⟨.hbm, 3774, rfl⟩
abbrev main_v3252 : Ref sig .tc := ⟨.hbm, 3775, rfl⟩
abbrev main_c_368 : Ref sig .tc := ⟨.hbm, 3776, rfl⟩
abbrev main_v3253 : Ref sig .tc := ⟨.hbm, 3777, rfl⟩
abbrev main_v3254 : Ref sig .tc := ⟨.hbm, 3778, rfl⟩
abbrev main_v3255 : Ref sig .tc := ⟨.hbm, 3779, rfl⟩
abbrev main_v3256 : Ref sig .tc := ⟨.hbm, 3780, rfl⟩
abbrev main_v3257 : Ref sig .tc := ⟨.hbm, 3781, rfl⟩
abbrev main_c_369 : Ref sig .tc := ⟨.hbm, 3782, rfl⟩
abbrev main_v3258 : Ref sig .tc := ⟨.hbm, 3783, rfl⟩
abbrev main_v3259 : Ref sig .tc := ⟨.hbm, 3784, rfl⟩
abbrev main_v3260 : Ref sig .tc := ⟨.hbm, 3785, rfl⟩
abbrev main_v3261 : Ref sig .tc := ⟨.hbm, 3786, rfl⟩
abbrev main_v3262 : Ref sig .tc := ⟨.hbm, 3787, rfl⟩
abbrev main_c_370 : Ref sig .tc := ⟨.hbm, 3788, rfl⟩
abbrev main_v3263 : Ref sig .tc := ⟨.hbm, 3789, rfl⟩
abbrev main_v3264 : Ref sig .tc := ⟨.hbm, 3790, rfl⟩
abbrev main_v3265 : Ref sig .tc := ⟨.hbm, 3791, rfl⟩
abbrev main_c_371 : Ref sig .tc := ⟨.hbm, 3792, rfl⟩
abbrev main_v3266 : Ref sig .tc := ⟨.hbm, 3793, rfl⟩
abbrev main_v3267 : Ref sig .tc := ⟨.hbm, 3794, rfl⟩
abbrev main_v3268 : Ref sig .tc := ⟨.hbm, 3795, rfl⟩
abbrev main_c_372 : Ref sig .tc := ⟨.hbm, 3796, rfl⟩
abbrev main_v3269 : Ref sig .tc := ⟨.hbm, 3797, rfl⟩
abbrev main_v3270 : Ref sig .tc := ⟨.hbm, 3798, rfl⟩
abbrev main_c_373 : Ref sig .tc := ⟨.hbm, 3799, rfl⟩
abbrev main_v3271 : Ref sig .tc := ⟨.hbm, 3800, rfl⟩
abbrev main_v3272 : Ref sig .tc := ⟨.hbm, 3801, rfl⟩
abbrev main_v3273 : Ref sig .tc := ⟨.hbm, 3802, rfl⟩
abbrev main_v3274 : Ref sig .tc := ⟨.hbm, 3803, rfl⟩
abbrev main_v3275 : Ref sig .tc := ⟨.hbm, 3804, rfl⟩
abbrev main_v3276 : Ref sig .tc := ⟨.hbm, 3805, rfl⟩
abbrev main_v3277 : Ref sig .tc := ⟨.hbm, 3806, rfl⟩
abbrev main_v3278 : Ref sig .tc := ⟨.hbm, 3807, rfl⟩
abbrev main_v3279 : Ref sig .tc := ⟨.hbm, 3808, rfl⟩
abbrev main_v3280 : Ref sig .tc := ⟨.hbm, 3809, rfl⟩
abbrev main_v3281 : Ref sig .tc := ⟨.hbm, 3810, rfl⟩
abbrev main_v3282 : Ref sig .tc := ⟨.hbm, 3811, rfl⟩
abbrev main_cst_374 : Ref sig .tc := ⟨.hbm, 3812, rfl⟩
abbrev main_v3283 : Ref sig .tc := ⟨.hbm, 3813, rfl⟩
abbrev main_v3284 : Ref sig .tc := ⟨.hbm, 3814, rfl⟩
abbrev main_v3285 : Ref sig .tc := ⟨.hbm, 3815, rfl⟩
abbrev main_v3286 : Ref sig .tc := ⟨.hbm, 3816, rfl⟩
abbrev main_v3287 : Ref sig .tc := ⟨.hbm, 3817, rfl⟩
abbrev main_v3288 : Ref sig .tc := ⟨.hbm, 3818, rfl⟩
abbrev main_v3289 : Ref sig .tc := ⟨.hbm, 3819, rfl⟩
abbrev main_v3290 : Ref sig .tc := ⟨.hbm, 3820, rfl⟩
abbrev main_v3291 : Ref sig .tc := ⟨.hbm, 3821, rfl⟩
abbrev main_v3292 : Ref sig .tc := ⟨.hbm, 3822, rfl⟩
abbrev main_v3293 : Ref sig .tc := ⟨.hbm, 3823, rfl⟩
abbrev main_v3294 : Ref sig .tc := ⟨.hbm, 3824, rfl⟩
abbrev main_cst_375 : Ref sig .tc := ⟨.hbm, 3825, rfl⟩
abbrev main_v3295 : Ref sig .tc := ⟨.hbm, 3826, rfl⟩
abbrev main_v3296 : Ref sig .tc := ⟨.hbm, 3827, rfl⟩
abbrev main_v3297 : Ref sig .tc := ⟨.hbm, 3828, rfl⟩
abbrev main_v3298 : Ref sig .tc := ⟨.hbm, 3829, rfl⟩
abbrev main_v3299 : Ref sig .tc := ⟨.hbm, 3830, rfl⟩
abbrev main_v3300 : Ref sig .tc := ⟨.hbm, 3831, rfl⟩
abbrev main_v3301 : Ref sig .tc := ⟨.hbm, 3832, rfl⟩
abbrev main_v3302 : Ref sig .tc := ⟨.hbm, 3833, rfl⟩
abbrev main_v3303 : Ref sig .tc := ⟨.hbm, 3834, rfl⟩
abbrev main_v3304 : Ref sig .tc := ⟨.hbm, 3835, rfl⟩
abbrev main_v3305 : Ref sig .tc := ⟨.hbm, 3836, rfl⟩
abbrev main_v3306 : Ref sig .tc := ⟨.hbm, 3837, rfl⟩
abbrev main_cst_376 : Ref sig .tc := ⟨.hbm, 3838, rfl⟩
abbrev main_v3307 : Ref sig .tc := ⟨.hbm, 3839, rfl⟩
abbrev main_v3308 : Ref sig .tc := ⟨.hbm, 3840, rfl⟩
abbrev main_v3309 : Ref sig .tc := ⟨.hbm, 3841, rfl⟩
abbrev main_v3310 : Ref sig .tc := ⟨.hbm, 3842, rfl⟩
abbrev main_v3311 : Ref sig .tc := ⟨.hbm, 3843, rfl⟩
abbrev main_v3312 : Ref sig .tc := ⟨.hbm, 3844, rfl⟩
abbrev main_v3313 : Ref sig .tc := ⟨.hbm, 3845, rfl⟩
abbrev main_v3314 : Ref sig .tc := ⟨.hbm, 3846, rfl⟩
abbrev main_v3315 : Ref sig .tc := ⟨.hbm, 3847, rfl⟩
abbrev main_v3316 : Ref sig .tc := ⟨.hbm, 3848, rfl⟩
abbrev main_v3317 : Ref sig .tc := ⟨.hbm, 3849, rfl⟩
abbrev main_v3318 : Ref sig .tc := ⟨.hbm, 3850, rfl⟩
abbrev main_cst_377 : Ref sig .tc := ⟨.hbm, 3851, rfl⟩
abbrev main_v3319 : Ref sig .tc := ⟨.hbm, 3852, rfl⟩
abbrev main_v3320 : Ref sig .tc := ⟨.hbm, 3853, rfl⟩
abbrev main_v3321 : Ref sig .tc := ⟨.hbm, 3854, rfl⟩
abbrev main_v3322 : Ref sig .tc := ⟨.hbm, 3855, rfl⟩
abbrev main_v3323 : Ref sig .tc := ⟨.hbm, 3856, rfl⟩
abbrev main_cst_378 : Ref sig .tc := ⟨.hbm, 3857, rfl⟩
abbrev main_v3324 : Ref sig .tc := ⟨.hbm, 3858, rfl⟩
abbrev main_v3325 : Ref sig .tc := ⟨.hbm, 3859, rfl⟩
abbrev main_v3326 : Ref sig .tc := ⟨.hbm, 3860, rfl⟩
abbrev main_v3327 : Ref sig .tc := ⟨.hbm, 3861, rfl⟩
abbrev main_v3328 : Ref sig .tc := ⟨.hbm, 3862, rfl⟩
abbrev main_v3329 : Ref sig .tc := ⟨.hbm, 3863, rfl⟩
abbrev main_cst_379 : Ref sig .tc := ⟨.hbm, 3864, rfl⟩
abbrev main_v3330 : Ref sig .tc := ⟨.hbm, 3865, rfl⟩
abbrev main_v3331 : Ref sig .tc := ⟨.hbm, 3866, rfl⟩
abbrev main_v3332 : Ref sig .tc := ⟨.hbm, 3867, rfl⟩
abbrev main_v3333 : Ref sig .tc := ⟨.hbm, 3868, rfl⟩
abbrev main_call30_v0 : Ref sig .tc := ⟨.hbm, 3869, rfl⟩
abbrev main_call30_v1 : Ref sig .tc := ⟨.hbm, 3870, rfl⟩
abbrev main_call30_v2 : Ref sig .tc := ⟨.hbm, 3871, rfl⟩
abbrev main_call30_v3 : Ref sig .tc := ⟨.hbm, 3872, rfl⟩
abbrev main_call30_v4 : Ref sig .tc := ⟨.hbm, 3873, rfl⟩
abbrev main_v3334 : Ref sig .tc := ⟨.hbm, 3874, rfl⟩
abbrev main_v3335 : Ref sig .tc := ⟨.hbm, 3875, rfl⟩
abbrev main_v3336 : Ref sig .tc := ⟨.hbm, 3876, rfl⟩
abbrev main_v3337 : Ref sig .tc := ⟨.hbm, 3877, rfl⟩
abbrev main_v3338 : Ref sig .tc := ⟨.hbm, 3878, rfl⟩
abbrev main_v3339 : Ref sig .tc := ⟨.hbm, 3879, rfl⟩
abbrev main_v3340 : Ref sig .tc := ⟨.hbm, 3880, rfl⟩
abbrev main_v3341 : Ref sig .tc := ⟨.hbm, 3881, rfl⟩
abbrev main_v3342 : Ref sig .tc := ⟨.hbm, 3882, rfl⟩
abbrev main_v3343 : Ref sig .tc := ⟨.hbm, 3883, rfl⟩
abbrev main_v3344 : Ref sig .tc := ⟨.hbm, 3884, rfl⟩
abbrev main_v3345 : Ref sig .tc := ⟨.hbm, 3885, rfl⟩
abbrev main_v3346 : Ref sig .tc := ⟨.hbm, 3886, rfl⟩
abbrev main_v3347 : Ref sig .tc := ⟨.hbm, 3887, rfl⟩
abbrev main_v3348 : Ref sig .tc := ⟨.hbm, 3888, rfl⟩
abbrev main_v3349 : Ref sig .tc := ⟨.hbm, 3889, rfl⟩
abbrev main_v3350 : Ref sig .tc := ⟨.hbm, 3890, rfl⟩
abbrev main_v3351 : Ref sig .tc := ⟨.hbm, 3891, rfl⟩
abbrev main_v3352 : Ref sig .tc := ⟨.hbm, 3892, rfl⟩
abbrev main_v3353 : Ref sig .tc := ⟨.hbm, 3893, rfl⟩
abbrev main_v3354 : Ref sig .tc := ⟨.hbm, 3894, rfl⟩
abbrev main_v3355 : Ref sig .tc := ⟨.hbm, 3895, rfl⟩
abbrev main_v3356 : Ref sig .tc := ⟨.hbm, 3896, rfl⟩
abbrev main_v3357 : Ref sig .tc := ⟨.hbm, 3897, rfl⟩
abbrev main_v3358 : Ref sig .tc := ⟨.hbm, 3898, rfl⟩
abbrev main_c_380 : Ref sig .tc := ⟨.hbm, 3899, rfl⟩
abbrev main_v3359 : Ref sig .tc := ⟨.hbm, 3900, rfl⟩
abbrev main_v3360 : Ref sig .tc := ⟨.hbm, 3901, rfl⟩
abbrev main_v3361 : Ref sig .tc := ⟨.hbm, 3902, rfl⟩
abbrev main_c_381 : Ref sig .tc := ⟨.hbm, 3903, rfl⟩
abbrev main_v3362 : Ref sig .tc := ⟨.hbm, 3904, rfl⟩
abbrev main_v3363 : Ref sig .tc := ⟨.hbm, 3905, rfl⟩
abbrev main_v3364 : Ref sig .tc := ⟨.hbm, 3906, rfl⟩
abbrev main_v3365 : Ref sig .tc := ⟨.hbm, 3907, rfl⟩
abbrev main_v3366 : Ref sig .tc := ⟨.hbm, 3908, rfl⟩
abbrev main_c_382 : Ref sig .tc := ⟨.hbm, 3909, rfl⟩
abbrev main_v3367 : Ref sig .tc := ⟨.hbm, 3910, rfl⟩
abbrev main_v3368 : Ref sig .tc := ⟨.hbm, 3911, rfl⟩
abbrev main_v3369 : Ref sig .tc := ⟨.hbm, 3912, rfl⟩
abbrev main_v3370 : Ref sig .tc := ⟨.hbm, 3913, rfl⟩
abbrev main_v3371 : Ref sig .tc := ⟨.hbm, 3914, rfl⟩
abbrev main_c_383 : Ref sig .tc := ⟨.hbm, 3915, rfl⟩
abbrev main_v3372 : Ref sig .tc := ⟨.hbm, 3916, rfl⟩
abbrev main_v3373 : Ref sig .tc := ⟨.hbm, 3917, rfl⟩
abbrev main_v3374 : Ref sig .tc := ⟨.hbm, 3918, rfl⟩
abbrev main_v3375 : Ref sig .tc := ⟨.hbm, 3919, rfl⟩
abbrev main_v3376 : Ref sig .tc := ⟨.hbm, 3920, rfl⟩
abbrev main_c_384 : Ref sig .tc := ⟨.hbm, 3921, rfl⟩
abbrev main_v3377 : Ref sig .tc := ⟨.hbm, 3922, rfl⟩
abbrev main_v3378 : Ref sig .tc := ⟨.hbm, 3923, rfl⟩
abbrev main_v3379 : Ref sig .tc := ⟨.hbm, 3924, rfl⟩
abbrev main_c_385 : Ref sig .tc := ⟨.hbm, 3925, rfl⟩
abbrev main_v3380 : Ref sig .tc := ⟨.hbm, 3926, rfl⟩
abbrev main_v3381 : Ref sig .tc := ⟨.hbm, 3927, rfl⟩
abbrev main_v3382 : Ref sig .tc := ⟨.hbm, 3928, rfl⟩
abbrev main_c_386 : Ref sig .tc := ⟨.hbm, 3929, rfl⟩
abbrev main_v3383 : Ref sig .tc := ⟨.hbm, 3930, rfl⟩
abbrev main_v3384 : Ref sig .tc := ⟨.hbm, 3931, rfl⟩
abbrev main_c_387 : Ref sig .tc := ⟨.hbm, 3932, rfl⟩
abbrev main_v3385 : Ref sig .tc := ⟨.hbm, 3933, rfl⟩
abbrev main_v3386 : Ref sig .tc := ⟨.hbm, 3934, rfl⟩
abbrev main_v3387 : Ref sig .tc := ⟨.hbm, 3935, rfl⟩
abbrev main_v3388 : Ref sig .tc := ⟨.hbm, 3936, rfl⟩
abbrev main_v3389 : Ref sig .tc := ⟨.hbm, 3937, rfl⟩
abbrev main_v3390 : Ref sig .tc := ⟨.hbm, 3938, rfl⟩
abbrev main_v3391 : Ref sig .tc := ⟨.hbm, 3939, rfl⟩
abbrev main_v3392 : Ref sig .tc := ⟨.hbm, 3940, rfl⟩
abbrev main_v3393 : Ref sig .tc := ⟨.hbm, 3941, rfl⟩
abbrev main_v3394 : Ref sig .tc := ⟨.hbm, 3942, rfl⟩
abbrev main_v3395 : Ref sig .tc := ⟨.hbm, 3943, rfl⟩
abbrev main_v3396 : Ref sig .tc := ⟨.hbm, 3944, rfl⟩
abbrev main_cst_388 : Ref sig .tc := ⟨.hbm, 3945, rfl⟩
abbrev main_v3397 : Ref sig .tc := ⟨.hbm, 3946, rfl⟩
abbrev main_v3398 : Ref sig .tc := ⟨.hbm, 3947, rfl⟩
abbrev main_v3399 : Ref sig .tc := ⟨.hbm, 3948, rfl⟩
abbrev main_v3400 : Ref sig .tc := ⟨.hbm, 3949, rfl⟩
abbrev main_v3401 : Ref sig .tc := ⟨.hbm, 3950, rfl⟩
abbrev main_v3402 : Ref sig .tc := ⟨.hbm, 3951, rfl⟩
abbrev main_v3403 : Ref sig .tc := ⟨.hbm, 3952, rfl⟩
abbrev main_v3404 : Ref sig .tc := ⟨.hbm, 3953, rfl⟩
abbrev main_v3405 : Ref sig .tc := ⟨.hbm, 3954, rfl⟩
abbrev main_v3406 : Ref sig .tc := ⟨.hbm, 3955, rfl⟩
abbrev main_v3407 : Ref sig .tc := ⟨.hbm, 3956, rfl⟩
abbrev main_v3408 : Ref sig .tc := ⟨.hbm, 3957, rfl⟩
abbrev main_cst_389 : Ref sig .tc := ⟨.hbm, 3958, rfl⟩
abbrev main_v3409 : Ref sig .tc := ⟨.hbm, 3959, rfl⟩
abbrev main_v3410 : Ref sig .tc := ⟨.hbm, 3960, rfl⟩
abbrev main_v3411 : Ref sig .tc := ⟨.hbm, 3961, rfl⟩
abbrev main_v3412 : Ref sig .tc := ⟨.hbm, 3962, rfl⟩
abbrev main_v3413 : Ref sig .tc := ⟨.hbm, 3963, rfl⟩
abbrev main_v3414 : Ref sig .tc := ⟨.hbm, 3964, rfl⟩
abbrev main_v3415 : Ref sig .tc := ⟨.hbm, 3965, rfl⟩
abbrev main_v3416 : Ref sig .tc := ⟨.hbm, 3966, rfl⟩
abbrev main_v3417 : Ref sig .tc := ⟨.hbm, 3967, rfl⟩
abbrev main_v3418 : Ref sig .tc := ⟨.hbm, 3968, rfl⟩
abbrev main_v3419 : Ref sig .tc := ⟨.hbm, 3969, rfl⟩
abbrev main_v3420 : Ref sig .tc := ⟨.hbm, 3970, rfl⟩
abbrev main_cst_390 : Ref sig .tc := ⟨.hbm, 3971, rfl⟩
abbrev main_v3421 : Ref sig .tc := ⟨.hbm, 3972, rfl⟩
abbrev main_v3422 : Ref sig .tc := ⟨.hbm, 3973, rfl⟩
abbrev main_v3423 : Ref sig .tc := ⟨.hbm, 3974, rfl⟩
abbrev main_v3424 : Ref sig .tc := ⟨.hbm, 3975, rfl⟩
abbrev main_v3425 : Ref sig .tc := ⟨.hbm, 3976, rfl⟩
abbrev main_v3426 : Ref sig .tc := ⟨.hbm, 3977, rfl⟩
abbrev main_v3427 : Ref sig .tc := ⟨.hbm, 3978, rfl⟩
abbrev main_v3428 : Ref sig .tc := ⟨.hbm, 3979, rfl⟩
abbrev main_v3429 : Ref sig .tc := ⟨.hbm, 3980, rfl⟩
abbrev main_v3430 : Ref sig .tc := ⟨.hbm, 3981, rfl⟩
abbrev main_v3431 : Ref sig .tc := ⟨.hbm, 3982, rfl⟩
abbrev main_v3432 : Ref sig .tc := ⟨.hbm, 3983, rfl⟩
abbrev main_cst_391 : Ref sig .tc := ⟨.hbm, 3984, rfl⟩
abbrev main_v3433 : Ref sig .tc := ⟨.hbm, 3985, rfl⟩
abbrev main_v3434 : Ref sig .tc := ⟨.hbm, 3986, rfl⟩
abbrev main_v3435 : Ref sig .tc := ⟨.hbm, 3987, rfl⟩
abbrev main_v3436 : Ref sig .tc := ⟨.hbm, 3988, rfl⟩
abbrev main_v3437 : Ref sig .tc := ⟨.hbm, 3989, rfl⟩
abbrev main_v3438 : Ref sig .tc := ⟨.hbm, 3990, rfl⟩
abbrev main_v3439 : Ref sig .tc := ⟨.hbm, 3991, rfl⟩
abbrev main_v3440 : Ref sig .tc := ⟨.hbm, 3992, rfl⟩
abbrev main_v3441 : Ref sig .tc := ⟨.hbm, 3993, rfl⟩
abbrev main_v3442 : Ref sig .tc := ⟨.hbm, 3994, rfl⟩
abbrev main_v3443 : Ref sig .tc := ⟨.hbm, 3995, rfl⟩
abbrev main_v3444 : Ref sig .tc := ⟨.hbm, 3996, rfl⟩
abbrev main_v3445 : Ref sig .tc := ⟨.hbm, 3997, rfl⟩
abbrev main_call31_v0 : Ref sig .tc := ⟨.hbm, 3998, rfl⟩
abbrev main_call31_v1 : Ref sig .tc := ⟨.hbm, 3999, rfl⟩
abbrev main_call31_v2 : Ref sig .tc := ⟨.hbm, 4000, rfl⟩
abbrev main_call31_v3 : Ref sig .tc := ⟨.hbm, 4001, rfl⟩
abbrev main_call31_v4 : Ref sig .tc := ⟨.hbm, 4002, rfl⟩
abbrev main_v3446 : Ref sig .tc := ⟨.hbm, 4003, rfl⟩
abbrev main_v3447 : Ref sig .tc := ⟨.hbm, 4004, rfl⟩
abbrev main_v3448 : Ref sig .tc := ⟨.hbm, 4005, rfl⟩
abbrev main_v3449 : Ref sig .tc := ⟨.hbm, 4006, rfl⟩
abbrev main_v3450 : Ref sig .tc := ⟨.hbm, 4007, rfl⟩
abbrev main_v3451 : Ref sig .tc := ⟨.hbm, 4008, rfl⟩
abbrev main_v3452 : Ref sig .tc := ⟨.hbm, 4009, rfl⟩
abbrev main_v3453 : Ref sig .tc := ⟨.hbm, 4010, rfl⟩
abbrev main_v3454 : Ref sig .tc := ⟨.hbm, 4011, rfl⟩
abbrev main_v3455 : Ref sig .tc := ⟨.hbm, 4012, rfl⟩
abbrev main_v3456 : Ref sig .tc := ⟨.hbm, 4013, rfl⟩
abbrev main_v3457 : Ref sig .tc := ⟨.hbm, 4014, rfl⟩
abbrev main_v3458 : Ref sig .tc := ⟨.hbm, 4015, rfl⟩
abbrev main_v3459 : Ref sig .tc := ⟨.hbm, 4016, rfl⟩
abbrev main_v3460 : Ref sig .tc := ⟨.hbm, 4017, rfl⟩
abbrev main_v3461 : Ref sig .tc := ⟨.hbm, 4018, rfl⟩
abbrev main_v3462 : Ref sig .tc := ⟨.hbm, 4019, rfl⟩
abbrev main_v3463 : Ref sig .tc := ⟨.hbm, 4020, rfl⟩
abbrev main_v3464 : Ref sig .tc := ⟨.hbm, 4021, rfl⟩
abbrev main_v3465 : Ref sig .tc := ⟨.hbm, 4022, rfl⟩
abbrev main_v3466 : Ref sig .tc := ⟨.hbm, 4023, rfl⟩
abbrev main_v3467 : Ref sig .tc := ⟨.hbm, 4024, rfl⟩
abbrev main_v3468 : Ref sig .tc := ⟨.hbm, 4025, rfl⟩
abbrev main_v3469 : Ref sig .tc := ⟨.hbm, 4026, rfl⟩
abbrev main_v3470 : Ref sig .tc := ⟨.hbm, 4027, rfl⟩
abbrev main_c_392 : Ref sig .tc := ⟨.hbm, 4028, rfl⟩
abbrev main_v3471 : Ref sig .tc := ⟨.hbm, 4029, rfl⟩
abbrev main_v3472 : Ref sig .tc := ⟨.hbm, 4030, rfl⟩
abbrev main_v3473 : Ref sig .tc := ⟨.hbm, 4031, rfl⟩
abbrev main_c_393 : Ref sig .tc := ⟨.hbm, 4032, rfl⟩
abbrev main_v3474 : Ref sig .tc := ⟨.hbm, 4033, rfl⟩
abbrev main_v3475 : Ref sig .tc := ⟨.hbm, 4034, rfl⟩
abbrev main_v3476 : Ref sig .tc := ⟨.hbm, 4035, rfl⟩
abbrev main_v3477 : Ref sig .tc := ⟨.hbm, 4036, rfl⟩
abbrev main_v3478 : Ref sig .tc := ⟨.hbm, 4037, rfl⟩
abbrev main_c_394 : Ref sig .tc := ⟨.hbm, 4038, rfl⟩
abbrev main_v3479 : Ref sig .tc := ⟨.hbm, 4039, rfl⟩
abbrev main_v3480 : Ref sig .tc := ⟨.hbm, 4040, rfl⟩
abbrev main_v3481 : Ref sig .tc := ⟨.hbm, 4041, rfl⟩
abbrev main_v3482 : Ref sig .tc := ⟨.hbm, 4042, rfl⟩
abbrev main_v3483 : Ref sig .tc := ⟨.hbm, 4043, rfl⟩
abbrev main_c_395 : Ref sig .tc := ⟨.hbm, 4044, rfl⟩
abbrev main_v3484 : Ref sig .tc := ⟨.hbm, 4045, rfl⟩
abbrev main_v3485 : Ref sig .tc := ⟨.hbm, 4046, rfl⟩
abbrev main_v3486 : Ref sig .tc := ⟨.hbm, 4047, rfl⟩
abbrev main_c_396 : Ref sig .tc := ⟨.hbm, 4048, rfl⟩
abbrev main_v3487 : Ref sig .tc := ⟨.hbm, 4049, rfl⟩
abbrev main_v3488 : Ref sig .tc := ⟨.hbm, 4050, rfl⟩
abbrev main_v3489 : Ref sig .tc := ⟨.hbm, 4051, rfl⟩
abbrev main_c_397 : Ref sig .tc := ⟨.hbm, 4052, rfl⟩
abbrev main_v3490 : Ref sig .tc := ⟨.hbm, 4053, rfl⟩
abbrev main_v3491 : Ref sig .tc := ⟨.hbm, 4054, rfl⟩
abbrev main_c_398 : Ref sig .tc := ⟨.hbm, 4055, rfl⟩
abbrev main_v3492 : Ref sig .tc := ⟨.hbm, 4056, rfl⟩
abbrev main_v3493 : Ref sig .tc := ⟨.hbm, 4057, rfl⟩
abbrev main_v3494 : Ref sig .tc := ⟨.hbm, 4058, rfl⟩
abbrev main_v3495 : Ref sig .tc := ⟨.hbm, 4059, rfl⟩
abbrev main_v3496 : Ref sig .tc := ⟨.hbm, 4060, rfl⟩
abbrev main_v3497 : Ref sig .tc := ⟨.hbm, 4061, rfl⟩
abbrev main_v3498 : Ref sig .tc := ⟨.hbm, 4062, rfl⟩
abbrev main_v3499 : Ref sig .tc := ⟨.hbm, 4063, rfl⟩
abbrev main_v3500 : Ref sig .tc := ⟨.hbm, 4064, rfl⟩
abbrev main_v3501 : Ref sig .tc := ⟨.hbm, 4065, rfl⟩
abbrev main_v3502 : Ref sig .tc := ⟨.hbm, 4066, rfl⟩
abbrev main_v3503 : Ref sig .tc := ⟨.hbm, 4067, rfl⟩
abbrev main_cst_399 : Ref sig .tc := ⟨.hbm, 4068, rfl⟩
abbrev main_v3504 : Ref sig .tc := ⟨.hbm, 4069, rfl⟩
abbrev main_v3505 : Ref sig .tc := ⟨.hbm, 4070, rfl⟩
abbrev main_v3506 : Ref sig .tc := ⟨.hbm, 4071, rfl⟩
abbrev main_v3507 : Ref sig .tc := ⟨.hbm, 4072, rfl⟩
abbrev main_v3508 : Ref sig .tc := ⟨.hbm, 4073, rfl⟩
abbrev main_v3509 : Ref sig .tc := ⟨.hbm, 4074, rfl⟩
abbrev main_v3510 : Ref sig .tc := ⟨.hbm, 4075, rfl⟩
abbrev main_v3511 : Ref sig .tc := ⟨.hbm, 4076, rfl⟩
abbrev main_v3512 : Ref sig .tc := ⟨.hbm, 4077, rfl⟩
abbrev main_v3513 : Ref sig .tc := ⟨.hbm, 4078, rfl⟩
abbrev main_v3514 : Ref sig .tc := ⟨.hbm, 4079, rfl⟩
abbrev main_v3515 : Ref sig .tc := ⟨.hbm, 4080, rfl⟩
abbrev main_cst_400 : Ref sig .tc := ⟨.hbm, 4081, rfl⟩
abbrev main_v3516 : Ref sig .tc := ⟨.hbm, 4082, rfl⟩
abbrev main_v3517 : Ref sig .tc := ⟨.hbm, 4083, rfl⟩
abbrev main_v3518 : Ref sig .tc := ⟨.hbm, 4084, rfl⟩
abbrev main_v3519 : Ref sig .tc := ⟨.hbm, 4085, rfl⟩
abbrev main_v3520 : Ref sig .tc := ⟨.hbm, 4086, rfl⟩
abbrev main_v3521 : Ref sig .tc := ⟨.hbm, 4087, rfl⟩
abbrev main_v3522 : Ref sig .tc := ⟨.hbm, 4088, rfl⟩
abbrev main_v3523 : Ref sig .tc := ⟨.hbm, 4089, rfl⟩
abbrev main_v3524 : Ref sig .tc := ⟨.hbm, 4090, rfl⟩
abbrev main_v3525 : Ref sig .tc := ⟨.hbm, 4091, rfl⟩
abbrev main_v3526 : Ref sig .tc := ⟨.hbm, 4092, rfl⟩
abbrev main_v3527 : Ref sig .tc := ⟨.hbm, 4093, rfl⟩
abbrev main_cst_401 : Ref sig .tc := ⟨.hbm, 4094, rfl⟩
abbrev main_v3528 : Ref sig .tc := ⟨.hbm, 4095, rfl⟩
abbrev main_v3529 : Ref sig .tc := ⟨.hbm, 4096, rfl⟩
abbrev main_v3530 : Ref sig .tc := ⟨.hbm, 4097, rfl⟩
abbrev main_v3531 : Ref sig .tc := ⟨.hbm, 4098, rfl⟩
abbrev main_v3532 : Ref sig .tc := ⟨.hbm, 4099, rfl⟩
abbrev main_v3533 : Ref sig .tc := ⟨.hbm, 4100, rfl⟩
abbrev main_v3534 : Ref sig .tc := ⟨.hbm, 4101, rfl⟩
abbrev main_v3535 : Ref sig .tc := ⟨.hbm, 4102, rfl⟩
abbrev main_v3536 : Ref sig .tc := ⟨.hbm, 4103, rfl⟩
abbrev main_v3537 : Ref sig .tc := ⟨.hbm, 4104, rfl⟩
abbrev main_v3538 : Ref sig .tc := ⟨.hbm, 4105, rfl⟩
abbrev main_v3539 : Ref sig .tc := ⟨.hbm, 4106, rfl⟩
abbrev main_call32_v0 : Ref sig .tc := ⟨.hbm, 4107, rfl⟩
abbrev main_call32_v1 : Ref sig .tc := ⟨.hbm, 4108, rfl⟩
abbrev main_call32_v2 : Ref sig .tc := ⟨.hbm, 4109, rfl⟩
abbrev main_call32_v3 : Ref sig .tc := ⟨.hbm, 4110, rfl⟩
abbrev main_call32_v4 : Ref sig .tc := ⟨.hbm, 4111, rfl⟩
abbrev main_v3540 : Ref sig .tc := ⟨.hbm, 4112, rfl⟩
abbrev main_v3541 : Ref sig .tc := ⟨.hbm, 4113, rfl⟩
abbrev main_v3542 : Ref sig .tc := ⟨.hbm, 4114, rfl⟩
abbrev main_c_402 : Ref sig .tc := ⟨.hbm, 4115, rfl⟩
abbrev main_v3543 : Ref sig .tc := ⟨.hbm, 4116, rfl⟩
abbrev main_c_403 : Ref sig .tc := ⟨.hbm, 4117, rfl⟩
abbrev main_v3544 : Ref sig .tc := ⟨.hbm, 4118, rfl⟩
abbrev main_v3545 : Ref sig .tc := ⟨.hbm, 4119, rfl⟩
abbrev main_v3546 : Ref sig .tc := ⟨.hbm, 4120, rfl⟩
abbrev main_v3547 : Ref sig .tc := ⟨.hbm, 4121, rfl⟩
abbrev main_v3548 : Ref sig .tc := ⟨.hbm, 4122, rfl⟩
abbrev main_v3549 : Ref sig .tc := ⟨.hbm, 4123, rfl⟩
abbrev main_call33_v0 : Ref sig .tc := ⟨.hbm, 4124, rfl⟩
abbrev main_call33_v1 : Ref sig .tc := ⟨.hbm, 4125, rfl⟩
abbrev main_call33_v2 : Ref sig .tc := ⟨.hbm, 4126, rfl⟩
abbrev main_call33_v3 : Ref sig .tc := ⟨.hbm, 4127, rfl⟩
abbrev main_call33_v4 : Ref sig .tc := ⟨.hbm, 4128, rfl⟩
abbrev main_v3550 : Ref sig .tc := ⟨.hbm, 4129, rfl⟩
abbrev main_v3551 : Ref sig .tc := ⟨.hbm, 4130, rfl⟩
abbrev main_v3552 : Ref sig .tc := ⟨.hbm, 4131, rfl⟩
abbrev main_c_404 : Ref sig .tc := ⟨.hbm, 4132, rfl⟩
abbrev main_v3553 : Ref sig .tc := ⟨.hbm, 4133, rfl⟩
abbrev main_c_405 : Ref sig .tc := ⟨.hbm, 4134, rfl⟩
abbrev main_v3554 : Ref sig .tc := ⟨.hbm, 4135, rfl⟩
abbrev main_v3555 : Ref sig .tc := ⟨.hbm, 4136, rfl⟩
abbrev main_v3556 : Ref sig .tc := ⟨.hbm, 4137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S262144x4 : Shape := ⟨2, ![262144, 4]⟩
abbrev S16x524288x2 : Shape := ⟨3, ![16, 524288, 2]⟩
abbrev S16x32768x2 : Shape := ⟨3, ![16, 32768, 2]⟩
abbrev S16x4 : Shape := ⟨2, ![16, 4]⟩
abbrev S16x3 : Shape := ⟨2, ![16, 3]⟩
abbrev S_ : Shape := ⟨0, ![]⟩
abbrev S1x16x4 : Shape := ⟨3, ![1, 16, 4]⟩
abbrev S262144x1x4 : Shape := ⟨3, ![262144, 1, 4]⟩
abbrev S262144x16x4 : Shape := ⟨3, ![262144, 16, 4]⟩
abbrev S262144x16x2x2x2x2 : Shape := ⟨6, ![262144, 16, 2, 2, 2, 2]⟩
abbrev S262144x16x1 : Shape := ⟨3, ![262144, 16, 1]⟩
abbrev S262144x16 : Shape := ⟨2, ![262144, 16]⟩
abbrev S2 : Shape := ⟨1, ![2]⟩
abbrev S1x1x2 : Shape := ⟨3, ![1, 1, 2]⟩
abbrev S262144x16x2 : Shape := ⟨3, ![262144, 16, 2]⟩
abbrev S262144x16x2x1x1x1 : Shape := ⟨6, ![262144, 16, 2, 1, 1, 1]⟩
abbrev S262144x16x1x2x1x1 : Shape := ⟨6, ![262144, 16, 1, 2, 1, 1]⟩
abbrev S262144x16x1x1x2x1 : Shape := ⟨6, ![262144, 16, 1, 1, 2, 1]⟩
abbrev S262144x16x1x1x1x2 : Shape := ⟨6, ![262144, 16, 1, 1, 1, 2]⟩
abbrev S262144x16x16 : Shape := ⟨3, ![262144, 16, 16]⟩
abbrev S16 : Shape := ⟨1, ![16]⟩
abbrev S16x1 : Shape := ⟨2, ![16, 1]⟩
abbrev S262144x16x16x1 : Shape := ⟨4, ![262144, 16, 16, 1]⟩
abbrev S262144x16x16x2 : Shape := ⟨4, ![262144, 16, 16, 2]⟩
abbrev S262144x16x2x8x2 : Shape := ⟨5, ![262144, 16, 2, 8, 2]⟩
abbrev S262144x16x1x1 : Shape := ⟨4, ![262144, 16, 1, 1]⟩
abbrev S262144x16x1x8x2 : Shape := ⟨5, ![262144, 16, 1, 8, 2]⟩
abbrev S262144x16x8x2 : Shape := ⟨4, ![262144, 16, 8, 2]⟩
abbrev S262144x16x2x4x2 : Shape := ⟨5, ![262144, 16, 2, 4, 2]⟩
abbrev S262144x16x1x4x2 : Shape := ⟨5, ![262144, 16, 1, 4, 2]⟩
abbrev S262144x16x4x2 : Shape := ⟨4, ![262144, 16, 4, 2]⟩
abbrev S262144x16x2x2x2 : Shape := ⟨5, ![262144, 16, 2, 2, 2]⟩
abbrev S262144x16x1x2x2 : Shape := ⟨5, ![262144, 16, 1, 2, 2]⟩
abbrev S262144x16x2x2 : Shape := ⟨4, ![262144, 16, 2, 2]⟩
abbrev S262144x16x2x1x2 : Shape := ⟨5, ![262144, 16, 2, 1, 2]⟩
abbrev S262144x16x1x1x2 : Shape := ⟨5, ![262144, 16, 1, 1, 2]⟩
abbrev S262144x16x1x2 : Shape := ⟨4, ![262144, 16, 1, 2]⟩
abbrev S262144x3 : Shape := ⟨2, ![262144, 3]⟩
abbrev S1x16x3 : Shape := ⟨3, ![1, 16, 3]⟩
abbrev S262144x1x3 : Shape := ⟨3, ![262144, 1, 3]⟩
abbrev S262144x16x3 : Shape := ⟨3, ![262144, 16, 3]⟩
abbrev S262144x16x2x1x1 : Shape := ⟨5, ![262144, 16, 2, 1, 1]⟩
abbrev S262144x16x1x2x1 : Shape := ⟨5, ![262144, 16, 1, 2, 1]⟩
abbrev S262144x16x8 : Shape := ⟨3, ![262144, 16, 8]⟩
abbrev S262144x16x8x1 : Shape := ⟨4, ![262144, 16, 8, 1]⟩
abbrev S262144 : Shape := ⟨1, ![262144]⟩
abbrev S262144x32 : Shape := ⟨2, ![262144, 32]⟩

abbrev nBuf : Space → Nat
  | .hbm => 350
  | .vmem => 0
  | .smem => 0
  | _ => 0

abbrev hbmTy0_0 (i : Nat) : BufTy := match i % 128 with
  | 0 => ⟨S262144x4, .f32⟩
  | 1 => ⟨S16x524288x2, .f32⟩
  | 2 => ⟨S16x32768x2, .f32⟩
  | 3 => ⟨S16x4, .f32⟩
  | 4 => ⟨S16x3, .f32⟩
  | 5 => ⟨S_, .f32⟩
  | 6 => ⟨S16x4, .f32⟩
  | 7 => ⟨S16x4, .f32⟩
  | 8 => ⟨S1x16x4, .f32⟩
  | 9 => ⟨S_, .f32⟩
  | 10 => ⟨S_, .f32⟩
  | 11 => ⟨S_, .f32⟩
  | 12 => ⟨S262144x4, .f32⟩
  | 13 => ⟨S262144x4, .f32⟩
  | 14 => ⟨S_, .f32⟩
  | 15 => ⟨S262144x4, .f32⟩
  | 16 => ⟨S262144x4, .f32⟩
  | 17 => ⟨S262144x1x4, .f32⟩
  | 18 => ⟨S262144x16x4, .f32⟩
  | 19 => ⟨S262144x16x4, .f32⟩
  | 20 => ⟨S262144x16x4, .f32⟩
  | 21 => ⟨S262144x16x4, .f32⟩
  | 22 => ⟨S262144x16x4, .i32⟩
  | 23 => ⟨S262144x16x4, .f32⟩
  | 24 => ⟨S262144x16x4, .f32⟩
  | 25 => ⟨S262144x16x4, .f32⟩
  | 26 => ⟨S262144x1x4, .f32⟩
  | 27 => ⟨S262144x16x4, .f32⟩
  | 28 => ⟨S262144x16x4, .f32⟩
  | 29 => ⟨S262144x16x4, .f32⟩
  | 30 => ⟨S262144x16x4, .f32⟩
  | 31 => ⟨S262144x16x4, .f32⟩
  | 32 => ⟨S262144x16x4, .f32⟩
  | 33 => ⟨S_, .i32⟩
  | 34 => ⟨S262144x16x2x2x2x2, .i32⟩
  | 35 => ⟨S262144x16x1, .i32⟩
  | 36 => ⟨S262144x16, .i32⟩
  | 37 => ⟨S262144x16x1, .i32⟩
  | 38 => ⟨S2, .i32⟩
  | 39 => ⟨S1x1x2, .i32⟩
  | 40 => ⟨S262144x16x2, .i32⟩
  | 41 => ⟨S262144x16x2, .i32⟩
  | 42 => ⟨S262144x16x2, .i32⟩
  | 43 => ⟨S262144x16x2, .i32⟩
  | 44 => ⟨S_, .i32⟩
  | 45 => ⟨S262144x16x2, .i32⟩
  | 46 => ⟨S262144x16x2, .i32⟩
  | 47 => ⟨S262144x16x2x1x1x1, .i32⟩
  | 48 => ⟨S262144x16x2x2x2x2, .i32⟩
  | 49 => ⟨S262144x16x2x2x2x2, .i32⟩
  | 50 => ⟨S262144x16x1, .i32⟩
  | 51 => ⟨S262144x16, .i32⟩
  | 52 => ⟨S262144x16x1, .i32⟩
  | 53 => ⟨S2, .i32⟩
  | 54 => ⟨S1x1x2, .i32⟩
  | 55 => ⟨S262144x16x2, .i32⟩
  | 56 => ⟨S262144x16x2, .i32⟩
  | 57 => ⟨S262144x16x2, .i32⟩
  | 58 => ⟨S262144x16x2, .i32⟩
  | 59 => ⟨S_, .i32⟩
  | 60 => ⟨S262144x16x2, .i32⟩
  | 61 => ⟨S262144x16x2, .i32⟩
  | 62 => ⟨S262144x16x1x2x1x1, .i32⟩
  | 63 => ⟨S262144x16x2x2x2x2, .i32⟩
  | 64 => ⟨S262144x16x2x2x2x2, .i32⟩
  | 65 => ⟨S262144x16x1, .i32⟩
  | 66 => ⟨S262144x16, .i32⟩
  | 67 => ⟨S262144x16x1, .i32⟩
  | 68 => ⟨S2, .i32⟩
  | 69 => ⟨S1x1x2, .i32⟩
  | 70 => ⟨S262144x16x2, .i32⟩
  | 71 => ⟨S262144x16x2, .i32⟩
  | 72 => ⟨S262144x16x2, .i32⟩
  | 73 => ⟨S262144x16x2, .i32⟩
  | 74 => ⟨S_, .i32⟩
  | 75 => ⟨S262144x16x2, .i32⟩
  | 76 => ⟨S262144x16x2, .i32⟩
  | 77 => ⟨S262144x16x1x1x2x1, .i32⟩
  | 78 => ⟨S262144x16x2x2x2x2, .i32⟩
  | 79 => ⟨S262144x16x2x2x2x2, .i32⟩
  | 80 => ⟨S262144x16x1, .i32⟩
  | 81 => ⟨S262144x16, .i32⟩
  | 82 => ⟨S262144x16x1, .i32⟩
  | 83 => ⟨S2, .i32⟩
  | 84 => ⟨S1x1x2, .i32⟩
  | 85 => ⟨S262144x16x2, .i32⟩
  | 86 => ⟨S262144x16x2, .i32⟩
  | 87 => ⟨S262144x16x2, .i32⟩
  | 88 => ⟨S262144x16x2, .i32⟩
  | 89 => ⟨S_, .i32⟩
  | 90 => ⟨S262144x16x2, .i32⟩
  | 91 => ⟨S262144x16x2, .i32⟩
  | 92 => ⟨S262144x16x1x1x1x2, .i32⟩
  | 93 => ⟨S262144x16x2x2x2x2, .i32⟩
  | 94 => ⟨S262144x16x2x2x2x2, .i32⟩
  | 95 => ⟨S_, .i32⟩
  | 96 => ⟨S262144x16x2x2x2x2, .i32⟩
  | 97 => ⟨S262144x16x2x2x2x2, .i32⟩
  | 98 => ⟨S262144x16x2x2x2x2, .i32⟩
  | 99 => ⟨S262144x16x16, .i32⟩
  | 100 => ⟨S16, .i32⟩
  | 101 => ⟨S16x1, .i32⟩
  | 102 => ⟨S_, .i32⟩
  | 103 => ⟨S16x1, .i32⟩
  | 104 => ⟨S16x1, .i1⟩
  | 105 => ⟨S_, .i32⟩
  | 106 => ⟨S16x1, .i32⟩
  | 107 => ⟨S16x1, .i32⟩
  | 108 => ⟨S16x1, .i32⟩
  | 109 => ⟨S_, .i32⟩
  | 110 => ⟨S262144x16x16, .i32⟩
  | 111 => ⟨S262144x16x16, .i1⟩
  | 112 => ⟨S_, .i32⟩
  | 113 => ⟨S262144x16x16, .i32⟩
  | 114 => ⟨S262144x16x16, .i32⟩
  | 115 => ⟨S262144x16x16, .i32⟩
  | 116 => ⟨S262144x16x16, .i32⟩
  | 117 => ⟨S262144x16x16x1, .i32⟩
  | 118 => ⟨S262144x16x16x1, .i32⟩
  | 119 => ⟨S262144x16x16x2, .i32⟩
  | 120 => ⟨S262144x16x16x2, .f32⟩
  | 121 => ⟨S262144x16x2x8x2, .f32⟩
  | 122 => ⟨S262144x16x1, .f32⟩
  | 123 => ⟨S262144x16, .f32⟩
  | 124 => ⟨S262144x16x1x1, .f32⟩
  | 125 => ⟨S262144x16x1x8x2, .f32⟩
  | 126 => ⟨S262144x16x8x2, .f32⟩
  | 127 => ⟨S_, .f32⟩
  | _ => ⟨S262144x4, .f32⟩

abbrev hbmTy0_1 (i : Nat) : BufTy := match i % 128 with
  | 0 => ⟨S262144x16x1x1, .f32⟩
  | 1 => ⟨S262144x16x1x1, .f32⟩
  | 2 => ⟨S262144x16x8x2, .f32⟩
  | 3 => ⟨S262144x16x8x2, .f32⟩
  | 4 => ⟨S262144x16x1x8x2, .f32⟩
  | 5 => ⟨S262144x16x8x2, .f32⟩
  | 6 => ⟨S262144x16x8x2, .f32⟩
  | 7 => ⟨S262144x16x8x2, .f32⟩
  | 8 => ⟨S262144x16x8x2, .f32⟩
  | 9 => ⟨S262144x16x2x4x2, .f32⟩
  | 10 => ⟨S262144x16x1, .f32⟩
  | 11 => ⟨S262144x16, .f32⟩
  | 12 => ⟨S262144x16x1x1, .f32⟩
  | 13 => ⟨S262144x16x1x4x2, .f32⟩
  | 14 => ⟨S262144x16x4x2, .f32⟩
  | 15 => ⟨S_, .f32⟩
  | 16 => ⟨S262144x16x1x1, .f32⟩
  | 17 => ⟨S262144x16x1x1, .f32⟩
  | 18 => ⟨S262144x16x4x2, .f32⟩
  | 19 => ⟨S262144x16x4x2, .f32⟩
  | 20 => ⟨S262144x16x1x4x2, .f32⟩
  | 21 => ⟨S262144x16x4x2, .f32⟩
  | 22 => ⟨S262144x16x4x2, .f32⟩
  | 23 => ⟨S262144x16x4x2, .f32⟩
  | 24 => ⟨S262144x16x4x2, .f32⟩
  | 25 => ⟨S262144x16x2x2x2, .f32⟩
  | 26 => ⟨S262144x16x1, .f32⟩
  | 27 => ⟨S262144x16, .f32⟩
  | 28 => ⟨S262144x16x1x1, .f32⟩
  | 29 => ⟨S262144x16x1x2x2, .f32⟩
  | 30 => ⟨S262144x16x2x2, .f32⟩
  | 31 => ⟨S_, .f32⟩
  | 32 => ⟨S262144x16x1x1, .f32⟩
  | 33 => ⟨S262144x16x1x1, .f32⟩
  | 34 => ⟨S262144x16x2x2, .f32⟩
  | 35 => ⟨S262144x16x2x2, .f32⟩
  | 36 => ⟨S262144x16x1x2x2, .f32⟩
  | 37 => ⟨S262144x16x2x2, .f32⟩
  | 38 => ⟨S262144x16x2x2, .f32⟩
  | 39 => ⟨S262144x16x2x2, .f32⟩
  | 40 => ⟨S262144x16x2x2, .f32⟩
  | 41 => ⟨S262144x16x2x1x2, .f32⟩
  | 42 => ⟨S262144x16x1, .f32⟩
  | 43 => ⟨S262144x16, .f32⟩
  | 44 => ⟨S262144x16x1x1, .f32⟩
  | 45 => ⟨S262144x16x1x1x2, .f32⟩
  | 46 => ⟨S262144x16x1x2, .f32⟩
  | 47 => ⟨S_, .f32⟩
  | 48 => ⟨S262144x16x1x1, .f32⟩
  | 49 => ⟨S262144x16x1x1, .f32⟩
  | 50 => ⟨S262144x16x1x2, .f32⟩
  | 51 => ⟨S262144x16x1x2, .f32⟩
  | 52 => ⟨S262144x16x1x1x2, .f32⟩
  | 53 => ⟨S262144x16x1x2, .f32⟩
  | 54 => ⟨S262144x16x1x2, .f32⟩
  | 55 => ⟨S262144x16x1x2, .f32⟩
  | 56 => ⟨S262144x16x1x2, .f32⟩
  | 57 => ⟨S262144x16x2, .f32⟩
  | 58 => ⟨S262144x3, .f32⟩
  | 59 => ⟨S_, .f32⟩
  | 60 => ⟨S16x3, .f32⟩
  | 61 => ⟨S16x3, .f32⟩
  | 62 => ⟨S1x16x3, .f32⟩
  | 63 => ⟨S_, .f32⟩
  | 64 => ⟨S_, .f32⟩
  | 65 => ⟨S_, .f32⟩
  | 66 => ⟨S262144x3, .f32⟩
  | 67 => ⟨S262144x3, .f32⟩
  | 68 => ⟨S_, .f32⟩
  | 69 => ⟨S262144x3, .f32⟩
  | 70 => ⟨S262144x3, .f32⟩
  | 71 => ⟨S262144x1x3, .f32⟩
  | 72 => ⟨S262144x16x3, .f32⟩
  | 73 => ⟨S262144x16x3, .f32⟩
  | 74 => ⟨S262144x16x3, .f32⟩
  | 75 => ⟨S262144x16x3, .f32⟩
  | 76 => ⟨S262144x16x3, .i32⟩
  | 77 => ⟨S262144x16x3, .f32⟩
  | 78 => ⟨S262144x16x3, .f32⟩
  | 79 => ⟨S262144x16x3, .f32⟩
  | 80 => ⟨S262144x1x3, .f32⟩
  | 81 => ⟨S262144x16x3, .f32⟩
  | 82 => ⟨S262144x16x3, .f32⟩
  | 83 => ⟨S262144x16x3, .f32⟩
  | 84 => ⟨S262144x16x3, .f32⟩
  | 85 => ⟨S262144x16x3, .f32⟩
  | 86 => ⟨S262144x16x3, .f32⟩
  | 87 => ⟨S_, .i32⟩
  | 88 => ⟨S262144x16x2x2x2, .i32⟩
  | 89 => ⟨S262144x16x1, .i32⟩
  | 90 => ⟨S262144x16, .i32⟩
  | 91 => ⟨S262144x16x1, .i32⟩
  | 92 => ⟨S2, .i32⟩
  | 93 => ⟨S1x1x2, .i32⟩
  | 94 => ⟨S262144x16x2, .i32⟩
  | 95 => ⟨S262144x16x2, .i32⟩
  | 96 => ⟨S262144x16x2, .i32⟩
  | 97 => ⟨S262144x16x2, .i32⟩
  | 98 => ⟨S_, .i32⟩
  | 99 => ⟨S262144x16x2, .i32⟩
  | 100 => ⟨S262144x16x2, .i32⟩
  | 101 => ⟨S262144x16x2x1x1, .i32⟩
  | 102 => ⟨S262144x16x2x2x2, .i32⟩
  | 103 => ⟨S262144x16x2x2x2, .i32⟩
  | 104 => ⟨S262144x16x1, .i32⟩
  | 105 => ⟨S262144x16, .i32⟩
  | 106 => ⟨S262144x16x1, .i32⟩
  | 107 => ⟨S2, .i32⟩
  | 108 => ⟨S1x1x2, .i32⟩
  | 109 => ⟨S262144x16x2, .i32⟩
  | 110 => ⟨S262144x16x2, .i32⟩
  | 111 => ⟨S262144x16x2, .i32⟩
  | 112 => ⟨S262144x16x2, .i32⟩
  | 113 => ⟨S_, .i32⟩
  | 114 => ⟨S262144x16x2, .i32⟩
  | 115 => ⟨S262144x16x2, .i32⟩
  | 116 => ⟨S262144x16x1x2x1, .i32⟩
  | 117 => ⟨S262144x16x2x2x2, .i32⟩
  | 118 => ⟨S262144x16x2x2x2, .i32⟩
  | 119 => ⟨S262144x16x1, .i32⟩
  | 120 => ⟨S262144x16, .i32⟩
  | 121 => ⟨S262144x16x1, .i32⟩
  | 122 => ⟨S2, .i32⟩
  | 123 => ⟨S1x1x2, .i32⟩
  | 124 => ⟨S262144x16x2, .i32⟩
  | 125 => ⟨S262144x16x2, .i32⟩
  | 126 => ⟨S262144x16x2, .i32⟩
  | 127 => ⟨S262144x16x2, .i32⟩
  | _ => ⟨S262144x4, .f32⟩

abbrev hbmTy0_2 (i : Nat) : BufTy := match i % 128 with
  | 0 => ⟨S_, .i32⟩
  | 1 => ⟨S262144x16x2, .i32⟩
  | 2 => ⟨S262144x16x2, .i32⟩
  | 3 => ⟨S262144x16x1x1x2, .i32⟩
  | 4 => ⟨S262144x16x2x2x2, .i32⟩
  | 5 => ⟨S262144x16x2x2x2, .i32⟩
  | 6 => ⟨S_, .i32⟩
  | 7 => ⟨S262144x16x2x2x2, .i32⟩
  | 8 => ⟨S262144x16x2x2x2, .i32⟩
  | 9 => ⟨S262144x16x2x2x2, .i32⟩
  | 10 => ⟨S262144x16x8, .i32⟩
  | 11 => ⟨S16, .i32⟩
  | 12 => ⟨S16x1, .i32⟩
  | 13 => ⟨S_, .i32⟩
  | 14 => ⟨S16x1, .i32⟩
  | 15 => ⟨S16x1, .i1⟩
  | 16 => ⟨S_, .i32⟩
  | 17 => ⟨S16x1, .i32⟩
  | 18 => ⟨S16x1, .i32⟩
  | 19 => ⟨S16x1, .i32⟩
  | 20 => ⟨S_, .i32⟩
  | 21 => ⟨S262144x16x8, .i32⟩
  | 22 => ⟨S262144x16x8, .i1⟩
  | 23 => ⟨S_, .i32⟩
  | 24 => ⟨S262144x16x8, .i32⟩
  | 25 => ⟨S262144x16x8, .i32⟩
  | 26 => ⟨S262144x16x8, .i32⟩
  | 27 => ⟨S262144x16x8, .i32⟩
  | 28 => ⟨S262144x16x8x1, .i32⟩
  | 29 => ⟨S262144x16x8x1, .i32⟩
  | 30 => ⟨S262144x16x8x2, .i32⟩
  | 31 => ⟨S262144x16x8x2, .f32⟩
  | 32 => ⟨S262144x16x2x4x2, .f32⟩
  | 33 => ⟨S262144x16x1, .f32⟩
  | 34 => ⟨S262144x16, .f32⟩
  | 35 => ⟨S262144x16x1x1, .f32⟩
  | 36 => ⟨S262144x16x1x4x2, .f32⟩
  | 37 => ⟨S262144x16x4x2, .f32⟩
  | 38 => ⟨S_, .f32⟩
  | 39 => ⟨S262144x16x1x1, .f32⟩
  | 40 => ⟨S262144x16x1x1, .f32⟩
  | 41 => ⟨S262144x16x4x2, .f32⟩
  | 42 => ⟨S262144x16x4x2, .f32⟩
  | 43 => ⟨S262144x16x1x4x2, .f32⟩
  | 44 => ⟨S262144x16x4x2, .f32⟩
  | 45 => ⟨S262144x16x4x2, .f32⟩
  | 46 => ⟨S262144x16x4x2, .f32⟩
  | 47 => ⟨S262144x16x4x2, .f32⟩
  | 48 => ⟨S262144x16x2x2x2, .f32⟩
  | 49 => ⟨S262144x16x1, .f32⟩
  | 50 => ⟨S262144x16, .f32⟩
  | 51 => ⟨S262144x16x1x1, .f32⟩
  | 52 => ⟨S262144x16x1x2x2, .f32⟩
  | 53 => ⟨S262144x16x2x2, .f32⟩
  | 54 => ⟨S_, .f32⟩
  | 55 => ⟨S262144x16x1x1, .f32⟩
  | 56 => ⟨S262144x16x1x1, .f32⟩
  | 57 => ⟨S262144x16x2x2, .f32⟩
  | 58 => ⟨S262144x16x2x2, .f32⟩
  | 59 => ⟨S262144x16x1x2x2, .f32⟩
  | 60 => ⟨S262144x16x2x2, .f32⟩
  | 61 => ⟨S262144x16x2x2, .f32⟩
  | 62 => ⟨S262144x16x2x2, .f32⟩
  | 63 => ⟨S262144x16x2x2, .f32⟩
  | 64 => ⟨S262144x16x2x1x2, .f32⟩
  | 65 => ⟨S262144x16x1, .f32⟩
  | 66 => ⟨S262144x16, .f32⟩
  | 67 => ⟨S262144x16x1x1, .f32⟩
  | 68 => ⟨S262144x16x1x1x2, .f32⟩
  | 69 => ⟨S262144x16x1x2, .f32⟩
  | 70 => ⟨S_, .f32⟩
  | 71 => ⟨S262144x16x1x1, .f32⟩
  | 72 => ⟨S262144x16x1x1, .f32⟩
  | 73 => ⟨S262144x16x1x2, .f32⟩
  | 74 => ⟨S262144x16x1x2, .f32⟩
  | 75 => ⟨S262144x16x1x1x2, .f32⟩
  | 76 => ⟨S262144x16x1x2, .f32⟩
  | 77 => ⟨S262144x16x1x2, .f32⟩
  | 78 => ⟨S262144x16x1x2, .f32⟩
  | 79 => ⟨S262144x16x1x2, .f32⟩
  | 80 => ⟨S262144x16x2, .f32⟩
  | 81 => ⟨S262144x16x2, .f32⟩
  | 82 => ⟨S_, .f32⟩
  | 83 => ⟨S_, .f32⟩
  | 84 => ⟨S_, .f32⟩
  | 85 => ⟨S262144x4, .f32⟩
  | 86 => ⟨S262144x4, .f32⟩
  | 87 => ⟨S_, .f32⟩
  | 88 => ⟨S262144x4, .f32⟩
  | 89 => ⟨S262144x4, .f32⟩
  | 90 => ⟨S262144x4, .i1⟩
  | 91 => ⟨S_, .i1⟩
  | 92 => ⟨S262144, .i1⟩
  | 93 => ⟨S262144x32, .f32⟩
  | _ => ⟨S262144x4, .f32⟩

abbrev hbmTy (i : Nat) : BufTy := match i / 128 with
  | 0 => hbmTy0_0 i
  | 1 => hbmTy0_1 i
  | 2 => hbmTy0_2 i
  | _ => ⟨S262144x4, .f32⟩

abbrev bufTy : (tb : Table) → Fin (tcTables nBuf tb) → BufTy
  | .hbm, ⟨i, _⟩ => hbmTy i
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_2 : Ref sig .tc := ⟨.hbm, 9, rfl⟩
abbrev main_cst_3 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_6 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_c_7 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_8 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_c_9 : Ref sig .tc := ⟨.hbm, 102, rfl⟩
abbrev main_v83 : Ref sig .tc := ⟨.hbm, 103, rfl⟩
abbrev main_v84 : Ref sig .tc := ⟨.hbm, 104, rfl⟩
abbrev main_c_10 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_c_11 : Ref sig .tc := ⟨.hbm, 109, rfl⟩
abbrev main_v88 : Ref sig .tc := ⟨.hbm, 110, rfl⟩
abbrev main_v89 : Ref sig .tc := ⟨.hbm, 111, rfl⟩
abbrev main_c_12 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_13 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_14 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_cst_15 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_cst_16 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_cst_17 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_cst_18 : Ref sig .tc := ⟨.hbm, 191, rfl⟩
abbrev main_cst_19 : Ref sig .tc := ⟨.hbm, 192, rfl⟩
abbrev main_call1_v0 : Ref sig .tc := ⟨.hbm, 193, rfl⟩
abbrev main_call1_v1 : Ref sig .tc := ⟨.hbm, 194, rfl⟩
abbrev main_call1_v2 : Ref sig .tc := ⟨.hbm, 195, rfl⟩
abbrev main_call1_v3 : Ref sig .tc := ⟨.hbm, 196, rfl⟩
abbrev main_call1_v4 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_c_20 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_c_21 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_c_22 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_c_23 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_c_24 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_c_25 : Ref sig .tc := ⟨.hbm, 269, rfl⟩
abbrev main_v229 : Ref sig .tc := ⟨.hbm, 270, rfl⟩
abbrev main_v230 : Ref sig .tc := ⟨.hbm, 271, rfl⟩
abbrev main_c_26 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_c_27 : Ref sig .tc := ⟨.hbm, 276, rfl⟩
abbrev main_v234 : Ref sig .tc := ⟨.hbm, 277, rfl⟩
abbrev main_v235 : Ref sig .tc := ⟨.hbm, 278, rfl⟩
abbrev main_c_28 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_cst_29 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_cst_30 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_cst_31 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_v289 : Ref sig .tc := ⟨.hbm, 336, rfl⟩
abbrev main_v290 : Ref sig .tc := ⟨.hbm, 337, rfl⟩
abbrev main_cst_32 : Ref sig .tc := ⟨.hbm, 338, rfl⟩
abbrev main_cst_33 : Ref sig .tc := ⟨.hbm, 339, rfl⟩
abbrev main_call2_v0 : Ref sig .tc := ⟨.hbm, 340, rfl⟩
abbrev main_call2_v1 : Ref sig .tc := ⟨.hbm, 341, rfl⟩
abbrev main_call2_v2 : Ref sig .tc := ⟨.hbm, 342, rfl⟩
abbrev main_call2_v3 : Ref sig .tc := ⟨.hbm, 343, rfl⟩
abbrev main_call2_v4 : Ref sig .tc := ⟨.hbm, 344, rfl⟩
abbrev main_v291 : Ref sig .tc := ⟨.hbm, 345, rfl⟩
abbrev main_v292 : Ref sig .tc := ⟨.hbm, 346, rfl⟩
abbrev main_c_34 : Ref sig .tc := ⟨.hbm, 347, rfl⟩
abbrev main_v293 : Ref sig .tc := ⟨.hbm, 348, rfl⟩
abbrev main_v294 : Ref sig .tc := ⟨.hbm, 349, rfl⟩

abbrev nD : Nat := 1
abbrev τ : Topo := Topo.v7x

variable {F : FTy → Type} [FloatOps F]
-- ==== Proof.Keep.lean ====
/-
  Which buffers a list of host operations leaves alone. A program's buffers are numbered in the order they are written, so
  a list leaves every buffer numbered below its own first one.
-/
module

public import Idealize.ShloMosaic.Lib.StableHlo.Run

@[expose] public section

noncomputable section

namespace Cert.Keep

open Idealize.ShloMosaic Idealize.ShloMosaic.StableHlo

variable {τ : Topo} {sig : RefSig} {Val : EltTy → Type}

/-- Every operation of the list writes one buffer, numbered `n` or above. -/
def From (n : ℕ) (L : List (HloOp τ sig Val)) : Prop :=
  L.Forall fun op => ∃ w : Ref sig .tc, op.writes = {Proc.devRef .tc w} ∧ n ≤ w.idx.val

/-- A list that writes from `n` on writes from any earlier number on. -/
theorem From.mono {n n' : ℕ} {L : List (HloOp τ sig Val)} (h : From n L) (hn : n' ≤ n) : From n' L :=
  List.forall_iff_forall_mem.mpr fun op hop => by
    obtain ⟨w, hw, h'⟩ := (List.forall_iff_forall_mem.mp h) op hop
    exact ⟨w, hw, hn.trans h'⟩

/-- A list that writes from `n` on leaves every buffer numbered below `n`. -/
theorem From.keep {n : ℕ} {L : List (HloOp τ sig Val)} (h : From n L) (V : Valuation τ sig Val) {r : Ref sig .tc}
    (hr : r.idx.val < n) : after L V (Proc.devRef .tc r) = V (Proc.devRef .tc r) := by
  refine after_of_forall_not_mem L V fun op hop hm => ?_
  obtain ⟨w, hw, hn⟩ := (List.forall_iff_forall_mem.mp h) op hop
  rw [hw, Finset.mem_singleton] at hm
  have e : r = w := by
    by_contra hne
    exact devRef_ne_of_ne hne hm
  subst e
  omega

/-- So do several lists, run one after the other. -/
theorem keep_flatten {n : ℕ} {Ls : List (List (HloOp τ sig Val))} (h : ∀ L ∈ Ls, From n L) (V : Valuation τ sig Val)
    {r : Ref sig .tc} (hr : r.idx.val < n) : after Ls.flatten V (Proc.devRef .tc r) = V (Proc.devRef .tc r) :=
  From.keep (n := n) (List.forall_iff_forall_mem.mpr fun op hop => by
    obtain ⟨L, hL, hop⟩ := List.mem_flatten.mp hop
    exact (List.forall_iff_forall_mem.mp (h L hL)) op hop) V hr

end Cert.Keep

end
-- ==== Proof.FrameI.lean ====
/-
  The run of the kernel over the extended reals: the host operations before the region, the region, the host operations after it. `run_main`
  says what every buffer holds at the end, `frame` that the three arguments end as they began.
-/
module

public import proofs.«01_k».proof.Proof.Keep
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 65536

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host operations before the region -/

/-- The lists of host operations before the region, in order. -/
abbrev hostLists : List (List (HloOp τ sig (Elt F))) :=
  [hostOps0, hostOps0_1, hostOps0_2, hostOps0_3, hostOps0_4, hostOps0_5, hostOps0_6, hostOps0_7,
   hostOps0_8, hostOps0_9, hostOps0_10, hostOps0_11, hostOps0_12, hostOps0_13, hostOps0_14, hostOps0_15,
   hostOps0_16, hostOps0_17, hostOps0_18, hostOps0_19, hostOps0_20, hostOps0_21, hostOps0_22, hostOps0_23,
   hostOps0_24, hostOps0_25, hostOps0_26, hostOps0_27, hostOps0_28, hostOps0_29, hostOps0_30, hostOps0_31,
   hostOps0_32, hostOps0_33, hostOps0_34, hostOps0_35, hostOps0_36, hostOps0_37, hostOps0_38, hostOps0_39,
   hostOps0_40, hostOps0_41, hostOps0_42, hostOps0_43, hostOps0_44, hostOps0_45, hostOps0_46, hostOps0_47,
   hostOps0_48, hostOps0_49, hostOps0_50, hostOps0_51, hostOps0_52, hostOps0_53, hostOps0_54, hostOps0_55,
   hostOps0_56, hostOps0_57, hostOps0_58, hostOps0_59, hostOps0_60, hostOps0_61, hostOps0_62, hostOps0_63,
   hostOps0_64]

/-- They touch TensorCore references only. -/
theorem hostLists_sub : (hostLists (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
   hostOps0_8_sub, hostOps0_9_sub, hostOps0_10_sub, hostOps0_11_sub, hostOps0_12_sub, hostOps0_13_sub, hostOps0_14_sub, hostOps0_15_sub,
   hostOps0_16_sub, hostOps0_17_sub, hostOps0_18_sub, hostOps0_19_sub, hostOps0_20_sub, hostOps0_21_sub, hostOps0_22_sub, hostOps0_23_sub,
   hostOps0_24_sub, hostOps0_25_sub, hostOps0_26_sub, hostOps0_27_sub, hostOps0_28_sub, hostOps0_29_sub, hostOps0_30_sub, hostOps0_31_sub,
   hostOps0_32_sub, hostOps0_33_sub, hostOps0_34_sub, hostOps0_35_sub, hostOps0_36_sub, hostOps0_37_sub, hostOps0_38_sub, hostOps0_39_sub,
   hostOps0_40_sub, hostOps0_41_sub, hostOps0_42_sub, hostOps0_43_sub, hostOps0_44_sub, hostOps0_45_sub, hostOps0_46_sub, hostOps0_47_sub,
   hostOps0_48_sub, hostOps0_49_sub, hostOps0_50_sub, hostOps0_51_sub, hostOps0_52_sub, hostOps0_53_sub, hostOps0_54_sub, hostOps0_55_sub,
   hostOps0_56_sub, hostOps0_57_sub, hostOps0_58_sub, hostOps0_59_sub, hostOps0_60_sub, hostOps0_61_sub, hostOps0_62_sub, hostOps0_63_sub,
   hostOps0_64_sub⟩

set_option maxHeartbeats 4000000 in
/-- They allocate nothing. -/
theorem hostLists_fresh : (hostLists (F := F)).Forall fun ops => ops.Forall fun op => op.fresh = ∅ := by
  simp only [hostLists, List.Forall]; repeat' constructor

set_option maxHeartbeats 40000000 in
/-- They write buffers from 3 on: none of the three arguments, which are the buffers 0 to 2. -/
theorem hostLists_from : ∀ L ∈ hostLists (F := F), Keep.From 3 L := by
  refine List.forall_iff_forall_mem.mp ?_
  simp (maxSteps := 10000000) only [hostLists, Keep.From, List.Forall]
  repeat' apply And.intro
  all_goals exact ⟨_, rfl, by decide⟩

/-- The first list after the region allocates nothing. -/
theorem hostOps1_fresh : (hostOps1 : List (HloOp τ sig (Elt F))).Forall fun op => op.fresh = ∅ := by
  simp only [List.Forall]; repeat' constructor
/-- The second list after the region allocates nothing. -/
theorem hostOps1_1_fresh : (hostOps1_1 : List (HloOp τ sig (Elt F))).Forall fun op => op.fresh = ∅ := by
  simp only [List.Forall]; repeat' constructor
/-- The third list after the region allocates nothing. -/
theorem hostOps1_2_fresh : (hostOps1_2 : List (HloOp τ sig (Elt F))).Forall fun op => op.fresh = ∅ := by
  simp only [List.Forall]; repeat' constructor
/-- The fourth list after the region allocates nothing. -/
theorem hostOps1_3_fresh : (hostOps1_3 : List (HloOp τ sig (Elt F))).Forall fun op => op.fresh = ∅ := by
  simp only [List.Forall]; repeat' constructor

/-! ## @main around the region -/

/-- Core `c`'s TensorCore buffer contents when the region is entered, as a valuation: after the host operations before
    the region (`hostLists`). -/
abbrev V0 (c : Dev nD) : Valuation τ sig (Elt F) := StableHlo.after (List.flatten hostLists) (fun b => m (c, b))
/-- The same read at a TensorCore reference. -/
abbrev V (c : Dev nD) (b : Ref sig .tc) : Buf (Elt F) ((c : Thread nD τ).loc b) := V0 m c (Proc.devRef .tc b)

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3].map StableHlo.seq)) :=
  Pipeline.hmain_around cfgs 0 defs₀ 𝒱₀ m main hostLists [hostOps1, hostOps1_1, hostOps1_2, hostOps1_3] hostLists_sub
    hostLists_fresh main_chain

/-- The lines after the region touch the pipeline's arrays and the bypassing buffers only (each operation's buffers are
    unscoped TensorCore references, and with nothing prefetched every such reference is one or the other:
    `Pipeline.tailRefs_none`). -/
theorem sfx_sub : ∀ ops ∈ ([hostOps1, hostOps1_1, hostOps1_2, hostOps1_3] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
/-- They allocate nothing. -/
theorem sfx_fresh : ∀ ops ∈ ([hostOps1, hostOps1_1, hostOps1_2, hostOps1_3] : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
/-- And write no array of the pipeline (each writes only its own result buffer, which is no array). -/
theorem sfx_keeps : ∀ ops ∈ ([hostOps1, hostOps1_1, hostOps1_2, hostOps1_3] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps1_2, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps1_3, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  Keep.keep_flatten hostLists_from _ (r := main_arg0) (by decide)
/-- No host operation before the region writes `main_arg1`: the region finds it as launched. -/
theorem V_main_arg1 (c : Dev nD) : V m c main_arg1 = m ((c : Thread nD τ).loc main_arg1) :=
  Keep.keep_flatten hostLists_from _ (r := main_arg1) (by decide)
/-- No host operation before the region writes `main_arg2`: the region finds it as launched. -/
theorem V_main_arg2 (c : Dev nD) : V m c main_arg2 = m ((c : Thread nD τ).loc main_arg2) :=
  Keep.keep_flatten hostLists_from _ (r := main_arg2) (by decide)
/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c))⟩) h

/-! ## The body's accesses -/

/-- A whole staging buffer, as a rectangle. -/
abbrev r0_0 : Rect S8192x32 := Rect.unit (s := S8192x32) ![0, 0] S8192x32.size inb_S8192x32_S8192x32_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S8192x32 .f32) (x1 : Vec F S8192x32 .f32) : Vec F S8192x32 .f32 :=
  View.canon [⟨r0_0, k0_pay1 (View.ld x0 r0_0) (View.ld x1 r0_0)⟩]

/-- Its stores tile the buffer (checked by evaluation), so they cover it. -/
theorem cover0_2 (p0 : Vec F S8192x32 .f32) (y : S8192x32.Idx) :
    ∃ pc ∈ ([⟨r0_0, p0⟩] : List (View.Piece (Elt F) S8192x32 .f32)), y ∈ pc.1.set :=
  View.cover_of_tiled [⟨r0_0, p0⟩] S8192x32.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S8192x32 .f32) (harg1 : arg1.IsWhole) (arg2 : Memref sig .tc .vmem S8192x32 .f32) (harg2 : arg2.IsWhole) (arg3 : Memref sig .tc .vmem S8192x32 .f32) (harg3 : arg3.IsWhole)
    (x0 : Vec F S8192x32 .f32) (x1 : Vec F S8192x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__add_kernel i arg1 harg1 arg2 harg2 arg3 harg3) K := by
  simp only [cc0__add_kernel_eq_skeleton]; unfold cc0__add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
/-- The body leaves the second operand's block in place. -/
theorem after0_1 (c : Dev nD) (t : Fin cfg0.N) : (dats m 0 c).after 1 t = iblk m c 1 t := by dsimp only [dats]
/-- The body leaves the sum's block. -/
theorem after0_2 (c : Dev nD) (t : Fin cfg0.N) : (dats m 0 c).after 2 t = out0_2 (iblk m c 0 t) (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The body finds the second operand's block. -/
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1, hostOps1_2, hostOps1_3])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Around

end
-- ==== Proof.LevelDefs.lean ====
/-
  What the kernel's host operations compute for one level, as whole arrays over all points: the cell of each point, the
  cell's two ends, the corners' hashes, the rows read from the level's table, and the interpolation one axis at a time.
  Each definition is the composition of the operations of the program's text, in its order.
-/
module

public import proofs.«01_k».proof.Proof.Gen.KernelIdeal
public import Idealize.ShloMosaic.Lib.Pointwise

@[expose] public section

noncomputable section

namespace Cert.KernelIdeal.Level

open Cert.KernelIdeal Idealize.ShloMosaic
open Cert.KernelIdeal.Facts₀ Cert.KernelIdeal.Facts

/-! ## Four axes -/

/-- One row of four numbers, repeated for every point. -/
def all4 (v : FVec Ideal S4 .f32) : FVec Ideal S262144x4 .f32 :=
  broadcastInDim S262144x4 ![0, 1] bcast_S1x4_S262144x4_0_1 (broadcastInDim S1x4 ![1] bcast_S4_S1x4_1 v)

/-- Every point's coordinates, clipped below by `z` and above by `o`. -/
def clip4 (z o : FVec Ideal S4 .f32) (x : FVec Ideal S262144x4 .f32) : FVec Ideal S262144x4 .f32 :=
  minimumf (all4 o) (maximumf (all4 z) x)

/-- The cell of every clipped point, for cells of sides `g` from `z` on. -/
def cell4 (xc : FVec Ideal S262144x4 .f32) (g z : FVec Ideal S4 .f32) : IVec S262144x4 32 :=
  fptosi 32 (Host.floor (Host.divf (subf xc (all4 z)) (all4 g)))

/-- The lower end of every point's cell. -/
def low4 (xc : FVec Ideal S262144x4 .f32) (g z : FVec Ideal S4 .f32) : FVec Ideal S262144x4 .f32 :=
  addf (mulf (sitofp .f32 (cell4 xc g z)) (all4 g)) (all4 z)

/-- Every point's place in its cell. -/
def place4 (x xc : FVec Ideal S262144x4 .f32) (g z : FVec Ideal S4 .f32) : FVec Ideal S262144x4 .f32 :=
  Host.divf (subf x (low4 xc g z)) (subf (addf (low4 xc g z) (all4 g)) (low4 xc g z))

/-- The positions of the sixteen corners of every cell. -/
def corners4 (c : IVec S262144x4 32) (off : IVec S16x4 32) : IVec S262144x16x4 32 :=
  id (addi (broadcastInDim S262144x16x4 ![0, 1, 2] bcast_S262144x1x4_S262144x16x4_0_1_2
      (broadcastInDim S262144x1x4 ![0, 2] bcast_S262144x4_S262144x1x4_0_2 c))
    (broadcastInDim S262144x16x4 ![0, 1, 2] bcast_S1x16x4_S262144x16x4_0_1_2
      (broadcastInDim S1x16x4 ![1, 2] bcast_S16x4_S1x16x4_1_2 off)))

/-- One word at every corner of every point. -/
def all16 (w : BitVec 32) : IVec S262144x16 32 :=
  broadcastInDim S262144x16 ![] bcast_S_S262144x16 (constantI S_ 32 w)

/-- The hash of every corner. -/
def hash4 (c : IVec S262144x16x4 32) : IVec S262144x16 32 :=
  id (andi
    (xori
      (xori
        (xori
          (xori (all16 0#32)
            (muli (shapeCast S262144x16 (extractStridedSlice S262144x16x1 ![0, 0, 0] c slices_S262144x16x4_S262144x16x1_0_0_0)
              shapeCasts_S262144x16x1_S262144x16) (all16 1#32)))
          (muli (shapeCast S262144x16 (extractStridedSlice S262144x16x1 ![0, 0, 1] c slices_S262144x16x4_S262144x16x1_0_0_1)
            shapeCasts_S262144x16x1_S262144x16) (all16 2654435761#32)))
        (muli (shapeCast S262144x16 (extractStridedSlice S262144x16x1 ![0, 0, 2] c slices_S262144x16x4_S262144x16x1_0_0_2)
          shapeCasts_S262144x16x1_S262144x16) (all16 805459861#32)))
      (muli (shapeCast S262144x16 (extractStridedSlice S262144x16x1 ![0, 0, 3] c slices_S262144x16x4_S262144x16x1_0_0_3)
        shapeCasts_S262144x16x1_S262144x16) (all16 3674653429#32)))
    (all16 524287#32))

/-- The start words of the table reads: a negative hash counts from the table's end. -/
def starts4 (h : IVec S262144x16 32) : IVec S262144x16x1 32 :=
  broadcastInDim S262144x16x1 ![0, 1] bcast_S262144x16_S262144x16x1_0_1
    (select (cmpi .slt h (all16 0#32)) (addi h (all16 524288#32)) h)

/-- The features of every corner. -/
def feats4 (T : FVec Ideal S524288x2 .f32) (s : IVec S262144x16x1 32) : FVec Ideal S262144x16x2 .f32 :=
  Host.gather gather_S524288x2_S262144x16x1_S262144x16x2_2_0_n_n_0_2_12 T s

/-- One column of numbers as a [points, 1, 1] array. -/
def col (v : FVec Ideal S262144x1 .f32) : FVec Ideal S262144x1x1 .f32 :=
  broadcastInDim S262144x1x1 ![0] bcast_S262144_S262144x1x1_0 (shapeCast S262144 v shapeCasts_S262144x1_S262144)

/-- Axis `a` of the places, as a [points, 1, 1] array: axes 0 to 3 of four. -/
def ax4_0 (w : FVec Ideal S262144x4 .f32) : FVec Ideal S262144x1x1 .f32 :=
  col (extractStridedSlice S262144x1 ![0, 0] w slices_S262144x4_S262144x1_0_0)
@[inherit_doc ax4_0]
def ax4_1 (w : FVec Ideal S262144x4 .f32) : FVec Ideal S262144x1x1 .f32 :=
  col (extractStridedSlice S262144x1 ![0, 1] w slices_S262144x4_S262144x1_0_1)
@[inherit_doc ax4_0]
def ax4_2 (w : FVec Ideal S262144x4 .f32) : FVec Ideal S262144x1x1 .f32 :=
  col (extractStridedSlice S262144x1 ![0, 2] w slices_S262144x4_S262144x1_0_2)
@[inherit_doc ax4_0]
def ax4_3 (w : FVec Ideal S262144x4 .f32) : FVec Ideal S262144x1x1 .f32 :=
  col (extractStridedSlice S262144x1 ![0, 3] w slices_S262144x4_S262144x1_0_3)

/-- One minus the place. -/
def rest (t : FVec Ideal S262144x1x1 .f32) : FVec Ideal S262144x1x1 .f32 :=
  subf (broadcastInDim S262144x1x1 ![] bcast_S_S262144x1x1 (constant S_ .f32 0x3F800000#32)) t

/-- The first interpolation of four axes: sixteen corners to eight. -/
def mix8 (e : FVec Ideal S262144x16x2 .f32) (t : FVec Ideal S262144x1x1 .f32) : FVec Ideal S262144x8x2 .f32 :=
  addf
    (mulf (extractStridedSlice S262144x8x2 ![0, 0, 0] e slices_S262144x16x2_S262144x8x2_0_0_0)
      (broadcastInDim S262144x8x2 ![0, 1, 2] bcast_S262144x1x1_S262144x8x2_0_1_2 (rest t)))
    (mulf (extractStridedSlice S262144x8x2 ![0, 8, 0] e slices_S262144x16x2_S262144x8x2_0_8_0)
      (broadcastInDim S262144x8x2 ![0, 1, 2] bcast_S262144x1x1_S262144x8x2_0_1_2 t))

/-- The interpolation of eight corners to four. -/
def mix4 (e : FVec Ideal S262144x8x2 .f32) (t : FVec Ideal S262144x1x1 .f32) : FVec Ideal S262144x4x2 .f32 :=
  addf
    (mulf (extractStridedSlice S262144x4x2 ![0, 0, 0] e slices_S262144x8x2_S262144x4x2_0_0_0)
      (broadcastInDim S262144x4x2 ![0, 1, 2] bcast_S262144x1x1_S262144x4x2_0_1_2 (rest t)))
    (mulf (extractStridedSlice S262144x4x2 ![0, 4, 0] e slices_S262144x8x2_S262144x4x2_0_4_0)
      (broadcastInDim S262144x4x2 ![0, 1, 2] bcast_S262144x1x1_S262144x4x2_0_1_2 t))

/-- The interpolation of four corners to two. -/
def mix2 (e : FVec Ideal S262144x4x2 .f32) (t : FVec Ideal S262144x1x1 .f32) : FVec Ideal S262144x2x2 .f32 :=
  addf
    (mulf (extractStridedSlice S262144x2x2 ![0, 0, 0] e slices_S262144x4x2_S262144x2x2_0_0_0)
      (broadcastInDim S262144x2x2 ![0, 1, 2] bcast_S262144x1x1_S262144x2x2_0_1_2 (rest t)))
    (mulf (extractStridedSlice S262144x2x2 ![0, 2, 0] e slices_S262144x4x2_S262144x2x2_0_2_0)
      (broadcastInDim S262144x2x2 ![0, 1, 2] bcast_S262144x1x1_S262144x2x2_0_1_2 t))

/-- The interpolation of two corners to one. -/
def mix1 (e : FVec Ideal S262144x2x2 .f32) (t : FVec Ideal S262144x1x1 .f32) : FVec Ideal S262144x2 .f32 :=
  shapeCast S262144x2
    (addf
      (mulf (extractStridedSlice S262144x1x2 ![0, 0, 0] e slices_S262144x2x2_S262144x1x2_0_0_0)
        (broadcastInDim S262144x1x2 ![0, 1, 2] bcast_S262144x1x1_S262144x1x2_0_1_2 (rest t)))
      (mulf (extractStridedSlice S262144x1x2 ![0, 1, 0] e slices_S262144x2x2_S262144x1x2_0_1_0)
        (broadcastInDim S262144x1x2 ![0, 1, 2] bcast_S262144x1x1_S262144x1x2_0_1_2 t)))
    shapeCasts_S262144x1x2_S262144x2

/-- The interpolation along four axes of the corners' features `e` at the places `w`. -/
def interp4 (e : FVec Ideal S262144x16x2 .f32) (w : FVec Ideal S262144x4 .f32) : FVec Ideal S262144x2 .f32 :=
  mix1 (mix2 (mix4 (mix8 e (ax4_0 w)) (ax4_1 w)) (ax4_2 w)) (ax4_3 w)

/-- One level's two features of every point, four axes: points `x`, clipped points `xc`, cells of sides `g` from `z` on,
    corner offsets `off`, table `T`. -/
def level4 (x xc : FVec Ideal S262144x4 .f32) (g z : FVec Ideal S4 .f32) (off : IVec S16x4 32)
    (T : FVec Ideal S524288x2 .f32) : FVec Ideal S262144x2 .f32 :=
  interp4 (feats4 T (starts4 (hash4 (corners4 (cell4 xc g z) off)))) (place4 x xc g z)

/-! ## Three axes -/

/-- One row of three numbers, repeated for every point. -/
def all3 (v : FVec Ideal S3 .f32) : FVec Ideal S262144x3 .f32 :=
  broadcastInDim S262144x3 ![0, 1] bcast_S1x3_S262144x3_0_1 (broadcastInDim S1x3 ![1] bcast_S3_S1x3_1 v)

/-- Every point's three coordinates, clipped below by `z` and above by `o`. -/
def clip3 (z o : FVec Ideal S3 .f32) (x : FVec Ideal S262144x3 .f32) : FVec Ideal S262144x3 .f32 :=
  minimumf (all3 o) (maximumf (all3 z) x)

/-- The cell of every clipped point, three axes. -/
def cell3 (xc : FVec Ideal S262144x3 .f32) (g z : FVec Ideal S3 .f32) : IVec S262144x3 32 :=
  fptosi 32 (Host.floor (Host.divf (subf xc (all3 z)) (all3 g)))

/-- The lower end of every point's cell, three axes. -/
def low3 (xc : FVec Ideal S262144x3 .f32) (g z : FVec Ideal S3 .f32) : FVec Ideal S262144x3 .f32 :=
  addf (mulf (sitofp .f32 (cell3 xc g z)) (all3 g)) (all3 z)

/-- Every point's place in its cell, three axes. -/
def place3 (x xc : FVec Ideal S262144x3 .f32) (g z : FVec Ideal S3 .f32) : FVec Ideal S262144x3 .f32 :=
  Host.divf (subf x (low3 xc g z)) (subf (addf (low3 xc g z) (all3 g)) (low3 xc g z))

/-- The positions of the eight corners of every cell. -/
def corners3 (c : IVec S262144x3 32) (off : IVec S8x3 32) : IVec S262144x8x3 32 :=
  id (addi (broadcastInDim S262144x8x3 ![0, 1, 2] bcast_S262144x1x3_S262144x8x3_0_1_2
      (broadcastInDim S262144x1x3 ![0, 2] bcast_S262144x3_S262144x1x3_0_2 c))
    (broadcastInDim S262144x8x3 ![0, 1, 2] bcast_S1x8x3_S262144x8x3_0_1_2
      (broadcastInDim S1x8x3 ![1, 2] bcast_S8x3_S1x8x3_1_2 off)))

/-- One word at every corner of every point, eight corners. -/
def all8 (w : BitVec 32) : IVec S262144x8 32 :=
  broadcastInDim S262144x8 ![] bcast_S_S262144x8 (constantI S_ 32 w)

/-- The hash of every corner, eight corners. -/
def hash3 (c : IVec S262144x8x3 32) : IVec S262144x8 32 :=
  id (andi
    (xori
      (xori
        (xori (all8 0#32)
          (muli (shapeCast S262144x8 (extractStridedSlice S262144x8x1 ![0, 0, 0] c slices_S262144x8x3_S262144x8x1_0_0_0)
            shapeCasts_S262144x8x1_S262144x8) (all8 1#32)))
        (muli (shapeCast S262144x8 (extractStridedSlice S262144x8x1 ![0, 0, 1] c slices_S262144x8x3_S262144x8x1_0_0_1)
          shapeCasts_S262144x8x1_S262144x8) (all8 2654435761#32)))
      (muli (shapeCast S262144x8 (extractStridedSlice S262144x8x1 ![0, 0, 2] c slices_S262144x8x3_S262144x8x1_0_0_2)
        shapeCasts_S262144x8x1_S262144x8) (all8 805459861#32)))
    (all8 32767#32))

/-- The start words of the table reads, eight corners. -/
def starts3 (h : IVec S262144x8 32) : IVec S262144x8x1 32 :=
  broadcastInDim S262144x8x1 ![0, 1] bcast_S262144x8_S262144x8x1_0_1
    (select (cmpi .slt h (all8 0#32)) (addi h (all8 32768#32)) h)

/-- The features of every corner, eight corners. -/
def feats3 (T : FVec Ideal S32768x2 .f32) (s : IVec S262144x8x1 32) : FVec Ideal S262144x8x2 .f32 :=
  Host.gather gather_S32768x2_S262144x8x1_S262144x8x2_2_0_n_n_0_2_12 T s

/-- Axis `a` of the places, as a [points, 1, 1] array: axes 0 to 2 of three. -/
def ax3_0 (w : FVec Ideal S262144x3 .f32) : FVec Ideal S262144x1x1 .f32 :=
  col (extractStridedSlice S262144x1 ![0, 0] w slices_S262144x3_S262144x1_0_0)
@[inherit_doc ax3_0]
def ax3_1 (w : FVec Ideal S262144x3 .f32) : FVec Ideal S262144x1x1 .f32 :=
  col (extractStridedSlice S262144x1 ![0, 1] w slices_S262144x3_S262144x1_0_1)
@[inherit_doc ax3_0]
def ax3_2 (w : FVec Ideal S262144x3 .f32) : FVec Ideal S262144x1x1 .f32 :=
  col (extractStridedSlice S262144x1 ![0, 2] w slices_S262144x3_S262144x1_0_2)

/-- The interpolation along three axes of the corners' features `e` at the places `w`. -/
def interp3 (e : FVec Ideal S262144x8x2 .f32) (w : FVec Ideal S262144x3 .f32) : FVec Ideal S262144x2 .f32 :=
  mix1 (mix2 (mix4 e (ax3_0 w)) (ax3_1 w)) (ax3_2 w)

/-- One level's two features of every point, three axes. -/
def level3 (x xc : FVec Ideal S262144x3 .f32) (g z : FVec Ideal S3 .f32) (off : IVec S8x3 32)
    (T : FVec Ideal S32768x2 .f32) : FVec Ideal S262144x2 .f32 :=
  interp3 (feats3 T (starts3 (hash3 (corners3 (cell3 xc g z) off)))) (place3 x xc g z)

/-! ## The cells' sides -/

/-- The first three of four numbers. -/
def first3 (v : FVec Ideal S4 .f32) : FVec Ideal S3 .f32 := extractStridedSlice S3 ![0] v slices_S4_S3_0

/-- The last of four numbers. -/
def last1 (v : FVec Ideal S4 .f32) : FVec Ideal S1 .f32 := extractStridedSlice S1 ![3] v slices_S4_S1_3

/-- The sides of a level's cells along the first three axes: the box's extent, from `z` to `o`, over the number `n` of cells. -/
def sides3 (z o : FVec Ideal S4 .f32) (n : BitVec 32) : FVec Ideal S3 .f32 :=
  Host.divf (subf (first3 o) (first3 z)) (broadcastInDim S3 ![] bcast_S_S3 (constant S_ .f32 n))

/-- The sides along all four axes: `n` cells along each of the first three, `n'` along the last. -/
def sides4 (z o : FVec Ideal S4 .f32) (n n' : BitVec 32) : FVec Ideal S4 .f32 :=
  concatenate S4 0 [⟨S3, sides3 z o n⟩,
    ⟨S1, Host.divf (subf (last1 o) (last1 z)) (broadcastInDim S1 ![] bcast_S_S1 (constant S_ .f32 n'))⟩] concatenates_S3_S1_S4_d0

/-! ## The tables -/

/-- Level `l`'s table for four axes, out of the stack of all levels'. -/
def slab4 (X : FVec Ideal S16x524288x2 .f32) (l : Fin 16) : FVec Ideal S524288x2 .f32 :=
  fun j => X (ValueIdx.ix3 l (j 0) (j 1))

/-- Level `l`'s table for three axes, out of the stack of all levels'. -/
def slab3 (X : FVec Ideal S16x32768x2 .f32) (l : Fin 16) : FVec Ideal S32768x2 .f32 :=
  fun j => X (ValueIdx.ix3 l (j 0) (j 1))

end Cert.KernelIdeal.Level

end
-- ==== Proof.Tables.lean ====
/-
  The host operations level by level: each level runs four lists (clip the points, the four-axis encoding, clip the first
  three coordinates, the three-axis encoding), and the tables below name every level's lists and the buffers they leave
  their results in.
-/
module

public import proofs.«01_k».proof.Proof.LevelDefs
public import proofs.«01_k».proof.Proof.Gen.KernelIdeal.Launch.Ops01
public import proofs.«01_k».proof.Proof.Gen.KernelIdeal.Launch.Ops02
public import proofs.«01_k».proof.Proof.Gen.KernelIdeal.Launch.Ops03
public import proofs.«01_k».proof.Proof.Gen.KernelIdeal.Launch.Ops04
public import proofs.«01_k».proof.Proof.Gen.KernelIdeal.Launch.Ops05
public import proofs.«01_k».proof.Proof.Gen.KernelIdeal.Launch.Ops06
public import proofs.«01_k».proof.Proof.Gen.KernelIdeal.Launch.Ops07
public import proofs.«01_k».proof.Proof.Gen.KernelIdeal.Launch.Ops08
public import proofs.«01_k».proof.Proof.Gen.KernelIdeal.Launch.Ops09
public import proofs.«01_k».proof.Proof.Gen.KernelIdeal.Launch.Ops10
public import proofs.«01_k».proof.Proof.Gen.KernelIdeal.Launch.Ops11
public import proofs.«01_k».proof.Proof.Gen.KernelIdeal.Launch.Ops12
public import proofs.«01_k».proof.Proof.Gen.KernelIdeal.Launch.Ops13
public import proofs.«01_k».proof.Proof.Gen.KernelIdeal.Launch.Ops14
public import proofs.«01_k».proof.Proof.Gen.KernelIdeal.Launch.Ops15
public import proofs.«01_k».proof.Proof.Gen.KernelIdeal.Launch.Ops16
public import proofs.«01_k».proof.Proof.Gen.KernelIdeal.Launch.Ops17
public import proofs.«01_k».proof.Proof.Gen.KernelIdeal.Launch.Ops18
public import proofs.«01_k».proof.Proof.Gen.KernelIdeal.Launch.Ops19
public import proofs.«01_k».proof.Proof.Gen.KernelIdeal.Launch.Ops20
public import proofs.«01_k».proof.Proof.Gen.KernelIdeal.Launch.Ops21
public import proofs.«01_k».proof.Proof.Gen.KernelIdeal.Launch.Ops22

@[expose] public section

noncomputable section

namespace Cert.KernelIdeal.Level

open Cert.KernelIdeal Idealize.ShloMosaic Idealize.ShloMosaic.TcCoe
open Idealize.ShloMosaic.StableHlo

/-- The contents of every buffer of a device. -/
abbrev Bufs : Type := Valuation τ sig (Elt Ideal)

/-- What a typed buffer holds. -/
abbrev rd {T : BufTy} (x : TRef sig T) (V : Bufs) : T.Contents (Elt Ideal) := x.ofBuf (V (Proc.devRef .tc x.ref))

/-! ## The lists -/

/-- Clip every point to the box. -/
noncomputable def clipOps4 : Fin 16 → List (HloOp τ sig (Elt Ideal)) :=
  ![Gen.hostOps0_1, Gen.hostOps0_5, Gen.hostOps0_9, Gen.hostOps0_13,
    Gen.hostOps0_17, Gen.hostOps0_21, Gen.hostOps0_25, Gen.hostOps0_29,
    Gen.hostOps0_33, Gen.hostOps0_37, Gen.hostOps0_41, Gen.hostOps0_45,
    Gen.hostOps0_49, Gen.hostOps0_53, Gen.hostOps0_57, Gen.hostOps0_61]

/-- One level's four-axis encoding, and the slices the three-axis encoding starts from. -/
noncomputable def bodyOps4 : Fin 16 → List (HloOp τ sig (Elt Ideal)) :=
  ![Gen.hostOps0_2, Gen.hostOps0_6, Gen.hostOps0_10, Gen.hostOps0_14,
    Gen.hostOps0_18, Gen.hostOps0_22, Gen.hostOps0_26, Gen.hostOps0_30,
    Gen.hostOps0_34, Gen.hostOps0_38, Gen.hostOps0_42, Gen.hostOps0_46,
    Gen.hostOps0_50, Gen.hostOps0_54, Gen.hostOps0_58, Gen.hostOps0_62]

/-- Clip the first three coordinates to the box. -/
noncomputable def clipOps3 : Fin 16 → List (HloOp τ sig (Elt Ideal)) :=
  ![Gen.hostOps0_3, Gen.hostOps0_7, Gen.hostOps0_11, Gen.hostOps0_15,
    Gen.hostOps0_19, Gen.hostOps0_23, Gen.hostOps0_27, Gen.hostOps0_31,
    Gen.hostOps0_35, Gen.hostOps0_39, Gen.hostOps0_43, Gen.hostOps0_47,
    Gen.hostOps0_51, Gen.hostOps0_55, Gen.hostOps0_59, Gen.hostOps0_63]

/-- One level's three-axis encoding; and the next level's cell sides and table, but for the last level. -/
noncomputable def bodyOps3 : Fin 16 → List (HloOp τ sig (Elt Ideal)) :=
  ![Gen.hostOps0_4, Gen.hostOps0_8, Gen.hostOps0_12, Gen.hostOps0_16,
    Gen.hostOps0_20, Gen.hostOps0_24, Gen.hostOps0_28, Gen.hostOps0_32,
    Gen.hostOps0_36, Gen.hostOps0_40, Gen.hostOps0_44, Gen.hostOps0_48,
    Gen.hostOps0_52, Gen.hostOps0_56, Gen.hostOps0_60, Gen.hostOps0_64.take 100]

/-- The two concatenations of all levels' features, last before the kernel's call. -/
noncomputable def joinOps : List (HloOp τ sig (Elt Ideal)) := Gen.hostOps0_64.drop 100

/-! ## The buffers -/

/-- The cell sides along four axes. -/
noncomputable def side4 : Fin 16 → TRef sig ⟨S4, .f32⟩ :=
  ![.of main_v11, .of main_v232, .of main_v453, .of main_v674, .of main_v895, .of main_v1116, .of main_v1337, .of main_v1558,
    .of main_v1779, .of main_v2000, .of main_v2221, .of main_v2442, .of main_v2663, .of main_v2884, .of main_v3105, .of main_v3326]

/-- The cell sides along three axes. -/
noncomputable def side3 : Fin 16 → TRef sig ⟨S3, .f32⟩ :=
  ![.of main_v16, .of main_v237, .of main_v458, .of main_v679, .of main_v900, .of main_v1121, .of main_v1342, .of main_v1563,
    .of main_v1784, .of main_v2005, .of main_v2226, .of main_v2447, .of main_v2668, .of main_v2889, .of main_v3110, .of main_v3331]

/-- The level's table for four axes. -/
noncomputable def tab4 : Fin 16 → TRef sig ⟨S524288x2, .f32⟩ :=
  ![.of main_v18, .of main_v239, .of main_v460, .of main_v681, .of main_v902, .of main_v1123, .of main_v1344, .of main_v1565,
    .of main_v1786, .of main_v2007, .of main_v2228, .of main_v2449, .of main_v2670, .of main_v2891, .of main_v3112, .of main_v3333]

/-- The clipped points. -/
noncomputable def in4 : Fin 16 → TRef sig ⟨S262144x4, .f32⟩ :=
  ![.of main_v19, .of main_v240, .of main_v461, .of main_v682, .of main_v903, .of main_v1124, .of main_v1345, .of main_v1566,
    .of main_v1787, .of main_v2008, .of main_v2229, .of main_v2450, .of main_v2671, .of main_v2892, .of main_v3113, .of main_v3334]

/-- The level's features, four axes. -/
noncomputable def out4 : Fin 16 → TRef sig ⟨S262144x2, .f32⟩ :=
  ![.of main_v126, .of main_v347, .of main_v568, .of main_v789, .of main_v1010, .of main_v1231, .of main_v1452, .of main_v1673,
    .of main_v1894, .of main_v2115, .of main_v2336, .of main_v2557, .of main_v2778, .of main_v2999, .of main_v3220, .of main_v3441]

/-- The level's table for three axes. -/
noncomputable def tab3 : Fin 16 → TRef sig ⟨S32768x2, .f32⟩ :=
  ![.of main_v128, .of main_v349, .of main_v570, .of main_v791, .of main_v1012, .of main_v1233, .of main_v1454, .of main_v1675,
    .of main_v1896, .of main_v2117, .of main_v2338, .of main_v2559, .of main_v2780, .of main_v3001, .of main_v3222, .of main_v3443]

/-- The box's lower end, three axes. -/
noncomputable def min3 : Fin 16 → TRef sig ⟨S3, .f32⟩ :=
  ![.of main_v129, .of main_v350, .of main_v571, .of main_v792, .of main_v1013, .of main_v1234, .of main_v1455, .of main_v1676,
    .of main_v1897, .of main_v2118, .of main_v2339, .of main_v2560, .of main_v2781, .of main_v3002, .of main_v3223, .of main_v3444]

/-- The box's upper end, three axes. -/
noncomputable def max3 : Fin 16 → TRef sig ⟨S3, .f32⟩ :=
  ![.of main_v130, .of main_v351, .of main_v572, .of main_v793, .of main_v1014, .of main_v1235, .of main_v1456, .of main_v1677,
    .of main_v1898, .of main_v2119, .of main_v2340, .of main_v2561, .of main_v2782, .of main_v3003, .of main_v3224, .of main_v3445]

/-- The clipped first three coordinates. -/
noncomputable def in3 : Fin 16 → TRef sig ⟨S262144x3, .f32⟩ :=
  ![.of main_v131, .of main_v352, .of main_v573, .of main_v794, .of main_v1015, .of main_v1236, .of main_v1457, .of main_v1678,
    .of main_v1899, .of main_v2120, .of main_v2341, .of main_v2562, .of main_v2783, .of main_v3004, .of main_v3225, .of main_v3446]

/-- The level's features, three axes. -/
noncomputable def out3 : Fin 16 → TRef sig ⟨S262144x2, .f32⟩ :=
  ![.of main_v221, .of main_v442, .of main_v663, .of main_v884, .of main_v1105, .of main_v1326, .of main_v1547, .of main_v1768,
    .of main_v1989, .of main_v2210, .of main_v2431, .of main_v2652, .of main_v2873, .of main_v3094, .of main_v3315, .of main_v3536]

end Cert.KernelIdeal.Level

end
-- ==== Proof.Writes.lean ====
/-
  Which buffers each list of a level writes: level `l` writes the buffers from `29 + 256 l` on, its four lists one range
  after the other; and where the levels' named buffers lie in those ranges.
-/
module

public import proofs.«01_k».proof.Proof.Tables
public import proofs.«01_k».proof.Proof.Keep

@[expose] public section

set_option maxRecDepth 65536

noncomputable section

namespace Cert.KernelIdeal.Level

open Cert.KernelIdeal Idealize.ShloMosaic Idealize.ShloMosaic.TcCoe
open Idealize.ShloMosaic.StableHlo
open Cert.KernelIdeal.Facts₀ Cert.KernelIdeal.Facts

set_option maxHeartbeats 40000000 in
/-- The first list of level `l` writes the buffers from `29 + 256 l` on. -/
theorem clipOps4_from : ∀ l : Fin 16, Keep.From (29 + 256 * l.val) (clipOps4 l) := by
  intro l
  fin_cases l <;>
    (dsimp only [clipOps4, Fin.reduceFinMk, Matrix.cons_val]
     simp (maxSteps := 10000000) only [Keep.From, List.Forall, List.take_succ_cons, List.take_zero]
     repeat' apply And.intro
     all_goals exact ⟨_, rfl, by decide⟩)

set_option maxHeartbeats 40000000 in
/-- The second list of level `l` writes the buffers from `35 + 256 l` on. -/
theorem bodyOps4_from : ∀ l : Fin 16, Keep.From (35 + 256 * l.val) (bodyOps4 l) := by
  intro l
  fin_cases l <;>
    (dsimp only [bodyOps4, Fin.reduceFinMk, Matrix.cons_val]
     simp (maxSteps := 10000000) only [Keep.From, List.Forall, List.take_succ_cons, List.take_zero]
     repeat' apply And.intro
     all_goals exact ⟨_, rfl, by decide⟩)

set_option maxHeartbeats 40000000 in
/-- The third list of level `l` writes the buffers from `158 + 256 l` on. -/
theorem clipOps3_from : ∀ l : Fin 16, Keep.From (158 + 256 * l.val) (clipOps3 l) := by
  intro l
  fin_cases l <;>
    (dsimp only [clipOps3, Fin.reduceFinMk, Matrix.cons_val]
     simp (maxSteps := 10000000) only [Keep.From, List.Forall, List.take_succ_cons, List.take_zero]
     repeat' apply And.intro
     all_goals exact ⟨_, rfl, by decide⟩)

set_option maxHeartbeats 40000000 in
/-- The fourth list of level `l` writes the buffers from `164 + 256 l` on. -/
theorem bodyOps3_from : ∀ l : Fin 16, Keep.From (164 + 256 * l.val) (bodyOps3 l) := by
  intro l
  fin_cases l <;>
    (dsimp only [bodyOps3, Fin.reduceFinMk, Matrix.cons_val]
     simp (maxSteps := 10000000) only [Keep.From, List.Forall, List.take_succ_cons, List.take_zero]
     repeat' apply And.intro
     all_goals exact ⟨_, rfl, by decide⟩)

/-- The two concatenations write buffers 4104 and 4105. -/
theorem joinOps_from : Keep.From 4104 joinOps := by
  simp only [joinOps, Keep.From, List.Forall, List.drop_succ_cons, List.drop_zero]
  repeat' apply And.intro
  all_goals exact ⟨_, rfl, by decide⟩

/-- The number of the buffer of a level's four-axis cell sides. -/
theorem side4_idx : ∀ l : Fin 16, (side4 l).ref.idx.val = 20 + 256 * l.val := by
  intro l; fin_cases l <;> rfl

/-- The number of the buffer of a level's three-axis cell sides. -/
theorem side3_idx : ∀ l : Fin 16, (side3 l).ref.idx.val = 26 + 256 * l.val := by
  intro l; fin_cases l <;> rfl

/-- The number of the buffer of a level's four-axis table. -/
theorem tab4_idx : ∀ l : Fin 16, (tab4 l).ref.idx.val = 28 + 256 * l.val := by
  intro l; fin_cases l <;> rfl

/-- The number of the buffer of a level's clipped points. -/
theorem in4_idx : ∀ l : Fin 16, (in4 l).ref.idx.val = 34 + 256 * l.val := by
  intro l; fin_cases l <;> rfl

/-- The number of the buffer of a level's four-axis features. -/
theorem out4_idx : ∀ l : Fin 16, (out4 l).ref.idx.val = 153 + 256 * l.val := by
  intro l; fin_cases l <;> rfl

/-- The number of the buffer of a level's three-axis table. -/
theorem tab3_idx : ∀ l : Fin 16, (tab3 l).ref.idx.val = 155 + 256 * l.val := by
  intro l; fin_cases l <;> rfl

/-- The number of the buffer of a level's box's lower end, three axes. -/
theorem min3_idx : ∀ l : Fin 16, (min3 l).ref.idx.val = 156 + 256 * l.val := by
  intro l; fin_cases l <;> rfl

/-- The number of the buffer of a level's box's upper end, three axes. -/
theorem max3_idx : ∀ l : Fin 16, (max3 l).ref.idx.val = 157 + 256 * l.val := by
  intro l; fin_cases l <;> rfl

/-- The number of the buffer of a level's clipped points, three axes. -/
theorem in3_idx : ∀ l : Fin 16, (in3 l).ref.idx.val = 163 + 256 * l.val := by
  intro l; fin_cases l <;> rfl

/-- The number of the buffer of a level's three-axis features. -/
theorem out3_idx : ∀ l : Fin 16, (out3 l).ref.idx.val = 263 + 256 * l.val := by
  intro l; fin_cases l <;> rfl

end Cert.KernelIdeal.Level

end
-- ==== Proof.Spec.lean ====
/-
  The encoding as scalar arithmetic: what one level of one hash grid gives one point, over the extended reals.

  A point has coordinates `x d`, a level's cell has sides `g d`. `cellOf` is the cell the clipped point lies in along one
  axis, `place` the point's place in that cell. A corner of the cell is a number `k`, its binary digits say on which side
  it lies along each axis (the first axis is the leading digit). `row4` and `row3` are the hashes of corner `k`,
  `rowIx` the table row that a hash selects. `mix h e t` interpolates corners `k` and `h + k`. `enc4` and `enc3` are one feature
  of the level: the corners' features, interpolated one axis at a time.
-/
module

public import Idealize.ShloMosaic.Lib.Pointwise

@[expose] public section

noncomputable section

namespace Cert.Spec

open Idealize.ShloMosaic

/-- A coordinate clipped to the unit interval. -/
def clip (x : EReal) : EReal := min 1 (max 0 x)

/-- The number of the cell, of side `g`, that a clipped coordinate lies in. -/
def cellOf (x g : EReal) : BitVec 32 := Ideal.fptosi 32 (Ideal.liftRound Int.floor (Ideal.div (clip x) g))

/-- The lower end of that cell. -/
def low (x g : EReal) : EReal := (((cellOf x g).toInt : ℝ) : EReal) * g

/-- The coordinate's place in its cell: its distance from the lower end over the cell's length. -/
def place (x g : EReal) : EReal := Ideal.div (x - low x g) (low x g + g - low x g)

/-- One axis' share in a corner's hash: the corner's position along the axis times the axis' multiplier. -/
def side (c : BitVec 32) (s : ℕ) (p : BitVec 32) : BitVec 32 := IntOp.muli (IntOp.addi c (BitVec.ofNat 32 s)) p

/-- The hash of corner `k` of the cell `c`, of four axes. -/
def row4 (c : Fin 4 → BitVec 32) (k : ℕ) : BitVec 32 :=
  IntOp.andi (IntOp.xori (IntOp.xori (IntOp.xori (IntOp.xori 0#32 (side (c 0) (k / 8) 1#32)) (side (c 1) (k / 4 % 2) 2654435761#32))
    (side (c 2) (k / 2 % 2) 805459861#32)) (side (c 3) (k % 2) 3674653429#32)) 524287#32

/-- The hash of corner `k` of the cell `c`, of three axes. -/
def row3 (c : Fin 3 → BitVec 32) (k : ℕ) : BitVec 32 :=
  IntOp.andi (IntOp.xori (IntOp.xori (IntOp.xori 0#32 (side (c 0) (k / 4) 1#32)) (side (c 1) (k / 2 % 2) 2654435761#32))
    (side (c 2) (k % 2) 805459861#32)) 32767#32

/-- The start word of a table read at hash `r`: a negative one counts from the table's end. -/
def startWord (N : ℕ) (r : BitVec 32) : BitVec 32 :=
  Scalar.select (IntOp.cmpi .slt r 0#32) (IntOp.addi r (BitVec.ofNat 32 N)) r

/-- The row a start word reads in a table of `N + 1` rows: the word as a signed number, held inside the table. -/
def clampIx (N : ℕ) (v : BitVec 32) : Fin (N + 1) := ⟨min v.toInt.toNat N, Nat.lt_succ_of_le (Nat.min_le_right _ _)⟩

/-- Corners `k` and `h + k` interpolated at `t`. -/
def mix (h : ℕ) (e : ℕ → EReal) (t : EReal) (k : ℕ) : EReal := e k * (1 - t) + e (h + k) * t

/-- The feature of corner `k` of the point's cell, four axes. -/
def corner4 (x g : Fin 4 → EReal) (T : Fin 524288 → EReal) (k : ℕ) : EReal :=
  T (clampIx 524287 (startWord 524288 (row4 (fun d => cellOf (x d) (g d)) k)))

/-- The feature of corner `k` of the point's cell, three axes. -/
def corner3 (x g : Fin 3 → EReal) (T : Fin 32768 → EReal) (k : ℕ) : EReal :=
  T (clampIx 32767 (startWord 32768 (row3 (fun d => cellOf (x d) (g d)) k)))

/-- One feature of one level, four axes. -/
def enc4 (x g : Fin 4 → EReal) (T : Fin 524288 → EReal) : EReal :=
  mix 1 (mix 2 (mix 4 (mix 8 (corner4 x g T) (place (x 0) (g 0))) (place (x 1) (g 1))) (place (x 2) (g 2))) (place (x 3) (g 3)) 0

/-- One feature of one level, three axes. -/
def enc3 (x g : Fin 3 → EReal) (T : Fin 32768 → EReal) : EReal :=
  mix 1 (mix 2 (mix 4 (corner3 x g T) (place (x 0) (g 0))) (place (x 1) (g 1))) (place (x 2) (g 2)) 0

/-- The number of cells along each of the first three axes, level by level, as a float word. -/
def spaceWord : Fin 16 → BitVec 32 :=
  ![0x41800000#32, 0x41A00000#32, 0x41C80000#32, 0x42000000#32, 0x42200000#32, 0x42480000#32, 0x42800000#32, 0x42A00000#32,
    0x42CA0000#32, 0x43000000#32, 0x43210000#32, 0x434B0000#32, 0x43800000#32, 0x43A10000#32, 0x43CB0000#32, 0x44000000#32]

/-- The number of cells along the fourth axis, level by level, as a float word. -/
def timeWord : Fin 16 → BitVec 32 :=
  ![0x40000000#32, 0x40000000#32, 0x40000000#32, 0x40400000#32, 0x40800000#32, 0x40A00000#32, 0x40C00000#32, 0x40E00000#32,
    0x41000000#32, 0x41200000#32, 0x41400000#32, 0x41700000#32, 0x41900000#32, 0x41B00000#32, 0x41D00000#32, 0x41F80000#32]

end Cert.Spec

end
-- ==== Proof.Rows.lean ====
/-
  Table reads: a gather that picks whole rows of a table, and one that picks rows out of a stack of tables, read at an index.
-/
module

public import proofs.«01_k».proof.Proof.Spec
public import Idealize.ShloMosaic.Lib.Pointwise

@[expose] public section

namespace Cert.Rows

open Idealize.ShloMosaic

/-- A gather of whole rows of a table reads, at corner `k` of point `b`, the row that the start word there selects. -/
theorem gather_rows {α : Type} {N B K F : ℕ} (d : GatherDims ⟨2, ![N + 1, F]⟩ ⟨3, ![B, K, 1]⟩ ⟨3, ![B, K, F]⟩)
    (ho : d.offsetDims = [2]) (hc : d.collapsedSliceDims = [0]) (hb : d.operandBatchingDims = [])
    (hs : d.startIndexMap = [0]) (hv : d.indexVectorDim = 2) (T : (⟨2, ![N + 1, F]⟩ : Shape).Idx → α)
    (s : IVec ⟨3, ![B, K, 1]⟩ 32) (b : Fin B) (k : Fin K) (f : Fin F) :
    Host.gather d T s (ix3 b k f) = T (ix2 (Spec.clampIx N (s (ix3 b k 0))) f) := by
  have h1 : d.sliceSizes 0 = 1 := d.slice_collapsed 0 (by rw [hc]; exact List.mem_singleton.mpr rfl)
  obtain ⟨od, cs, ob, sb, sim, iv, ss, wf⟩ := d
  dsimp only at ho hc hb hs hv h1
  subst ho hc hb hs hv
  unfold Host.gather
  congr 1
  funext a
  apply Fin.ext
  have e : ∀ c, GatherDims.siIdx (⟨[2], [0], [], sb, [0], 2, ss, wf⟩ : GatherDims ⟨2, ![N + 1, F]⟩ ⟨3, ![B, K, 1]⟩ ⟨3, ![B, K, F]⟩)
      (ix3 b k f) c = ix3 b k 0 := by
    intro c
    funext i
    match i with
    | ⟨0, _⟩ => rfl
    | ⟨1, _⟩ => rfl
    | ⟨2, _⟩ => exact Subsingleton.elim (α := Fin 1) _ _
  match a with
  | ⟨0, _⟩ =>
    show min (s (GatherDims.siIdx _ _ _)).toInt.toNat (N + 1 - ss 0) + 0 + 0 = min (s (ix3 b k 0)).toInt.toNat N
    rw [e, h1]; rfl
  | ⟨1, _⟩ =>
    show 0 + 0 + f.val = f.val
    omega

/-- A gather of rows out of a stack of tables reads, at corner `k` of level `l` of point `b`, the row and the table that the
    two start words there select. -/
theorem gather_stack {α : Type} {M N B L K F : ℕ}
    (d : GatherDims ⟨3, ![M + 1, N + 1, F]⟩ ⟨4, ![B, L, K, 2]⟩ ⟨4, ![B, L, K, F]⟩)
    (ho : d.offsetDims = [3]) (hc : d.collapsedSliceDims = [0, 1]) (hb : d.operandBatchingDims = [])
    (hs : d.startIndexMap = [0, 1]) (hv : d.indexVectorDim = 3) (T : (⟨3, ![M + 1, N + 1, F]⟩ : Shape).Idx → α)
    (s : IVec ⟨4, ![B, L, K, 2]⟩ 32) (b : Fin B) (l : Fin L) (k : Fin K) (f : Fin F) :
    Host.gather d T s (ix4 b l k f) = T (ix3 (Spec.clampIx M (s (ix4 b l k 0))) (Spec.clampIx N (s (ix4 b l k 1))) f) := by
  have h0 : d.sliceSizes 0 = 1 := d.slice_collapsed 0 (by rw [hc]; simp)
  have h1 : d.sliceSizes 1 = 1 := d.slice_collapsed 1 (by rw [hc]; simp)
  obtain ⟨od, cs, ob, sb, sim, iv, ss, wf⟩ := d
  dsimp only at ho hc hb hs hv h0 h1
  subst ho hc hb hs hv
  unfold Host.gather
  congr 1
  funext a
  apply Fin.ext
  have e0 : GatherDims.siIdx (⟨[3], [0, 1], [], sb, [0, 1], 3, ss, wf⟩ : GatherDims ⟨3, ![M + 1, N + 1, F]⟩ ⟨4, ![B, L, K, 2]⟩ ⟨4, ![B, L, K, F]⟩)
      (ix4 b l k f) ⟨0, Nat.zero_lt_two⟩ = ix4 b l k 0 := by
    funext i
    match i with
    | ⟨0, _⟩ => rfl
    | ⟨1, _⟩ => rfl
    | ⟨2, _⟩ => rfl
    | ⟨3, _⟩ => rfl
  have e1 : GatherDims.siIdx (⟨[3], [0, 1], [], sb, [0, 1], 3, ss, wf⟩ : GatherDims ⟨3, ![M + 1, N + 1, F]⟩ ⟨4, ![B, L, K, 2]⟩ ⟨4, ![B, L, K, F]⟩)
      (ix4 b l k f) ⟨1, Nat.one_lt_two⟩ = ix4 b l k 1 := by
    funext i
    match i with
    | ⟨0, _⟩ => rfl
    | ⟨1, _⟩ => rfl
    | ⟨2, _⟩ => rfl
    | ⟨3, _⟩ => rfl
  match a with
  | ⟨0, _⟩ =>
    show min (s (GatherDims.siIdx (⟨[3], [0, 1], [], sb, [0, 1], 3, ss, wf⟩ : GatherDims ⟨3, ![M + 1, N + 1, F]⟩ ⟨4, ![B, L, K, 2]⟩ ⟨4, ![B, L, K, F]⟩)
      (ix4 b l k f) ⟨0, Nat.zero_lt_two⟩)).toInt.toNat (M + 1 - ss 0) + 0 + 0 = min (s (ix4 b l k 0)).toInt.toNat M
    rw [e0, h0]; rfl
  | ⟨1, _⟩ =>
    show min (s (GatherDims.siIdx (⟨[3], [0, 1], [], sb, [0, 1], 3, ss, wf⟩ : GatherDims ⟨3, ![M + 1, N + 1, F]⟩ ⟨4, ![B, L, K, 2]⟩ ⟨4, ![B, L, K, F]⟩)
      (ix4 b l k f) ⟨1, Nat.one_lt_two⟩)).toInt.toNat (N + 1 - ss 1) + 0 + 0 = min (s (ix4 b l k 1)).toInt.toNat N
    rw [e1, h1]; rfl
  | ⟨2, _⟩ =>
    show 0 + 0 + f.val = f.val
    omega

end Cert.Rows

end
-- ==== Proof.LevelValue.lean ====
/-
  One level's features, entry by entry: each array of a level read at an index, down to the scalar encoding.
-/
module

public import proofs.«01_k».proof.Proof.LevelDefs
public import proofs.«01_k».proof.Proof.Spec
public import proofs.«01_k».proof.Proof.Rows
public import Idealize.ShloMosaic.Lib.Pointwise

@[expose] public section

set_option maxRecDepth 16384

noncomputable section

namespace Cert.KernelIdeal.Level

open Cert.KernelIdeal Idealize.ShloMosaic Idealize.ShloMosaic.TcCoe
open Cert.KernelIdeal.Facts₀ Cert.KernelIdeal.Facts

/-- The box's lower end. -/
abbrev zeros4 : FVec Ideal S4 .f32 := constant S4 .f32 0x00000000#32
/-- The box's upper end. -/
abbrev ones4 : FVec Ideal S4 .f32 := constant S4 .f32 0x3F800000#32

/-! ## The interpolation steps -/

/-- An interpolation step read at an index: the first of four axes. -/
theorem mix8_at (e : FVec Ideal S262144x16x2 .f32) (t : FVec Ideal S262144x1x1 .f32) (b : Fin 262144) (k : Fin 8) (f : Fin 2) :
    mix8 e t (ix3 b k f) = e (ix3 b ⟨k.val, by omega⟩ f) * (1 - t (ix3 b 0 0)) + e (ix3 b ⟨8 + k.val, by omega⟩ f) * t (ix3 b 0 0) := by
  unfold mix8 rest; pointwise (disch := omega)

/-- An interpolation step read at an index: the next axis, from eight corners to four. -/
theorem mix4_at (e : FVec Ideal S262144x8x2 .f32) (t : FVec Ideal S262144x1x1 .f32) (b : Fin 262144) (k : Fin 4) (f : Fin 2) :
    mix4 e t (ix3 b k f) = e (ix3 b ⟨k.val, by omega⟩ f) * (1 - t (ix3 b 0 0)) + e (ix3 b ⟨4 + k.val, by omega⟩ f) * t (ix3 b 0 0) := by
  unfold mix4 rest; pointwise (disch := omega)

/-- An interpolation step read at an index: the next axis, from four corners to two. -/
theorem mix2_at (e : FVec Ideal S262144x4x2 .f32) (t : FVec Ideal S262144x1x1 .f32) (b : Fin 262144) (k : Fin 2) (f : Fin 2) :
    mix2 e t (ix3 b k f) = e (ix3 b ⟨k.val, by omega⟩ f) * (1 - t (ix3 b 0 0)) + e (ix3 b ⟨2 + k.val, by omega⟩ f) * t (ix3 b 0 0) := by
  unfold mix2 rest; pointwise (disch := omega)

/-- An interpolation step read at an index: the last axis. -/
theorem mix1_at (e : FVec Ideal S262144x2x2 .f32) (t : FVec Ideal S262144x1x1 .f32) (b : Fin 262144) (f : Fin 2) :
    mix1 e t (ix2 b f) = e (ix3 b 0 f) * (1 - t (ix3 b 0 0)) + e (ix3 b 1 f) * t (ix3 b 0 0) := by
  unfold mix1 rest; pointwise (disch := omega)

/-- A step on features given by a function of the corner's number is `Spec.mix`. -/
theorem mix8_mix {e : FVec Ideal S262144x16x2 .f32} {t : FVec Ideal S262144x1x1 .f32} {b : Fin 262144} {f : Fin 2}
    {E : ℕ → EReal} {p : EReal} (he : ∀ k : Fin 16, e (ix3 b k f) = E k.val) (ht : t (ix3 b 0 0) = p) (k : Fin 8) :
    mix8 e t (ix3 b k f) = Spec.mix 8 E p k.val := by
  rw [mix8_at, he, he, ht]; rfl

@[inherit_doc mix8_mix]
theorem mix4_mix {e : FVec Ideal S262144x8x2 .f32} {t : FVec Ideal S262144x1x1 .f32} {b : Fin 262144} {f : Fin 2}
    {E : ℕ → EReal} {p : EReal} (he : ∀ k : Fin 8, e (ix3 b k f) = E k.val) (ht : t (ix3 b 0 0) = p) (k : Fin 4) :
    mix4 e t (ix3 b k f) = Spec.mix 4 E p k.val := by
  rw [mix4_at, he, he, ht]; rfl

@[inherit_doc mix8_mix]
theorem mix2_mix {e : FVec Ideal S262144x4x2 .f32} {t : FVec Ideal S262144x1x1 .f32} {b : Fin 262144} {f : Fin 2}
    {E : ℕ → EReal} {p : EReal} (he : ∀ k : Fin 4, e (ix3 b k f) = E k.val) (ht : t (ix3 b 0 0) = p) (k : Fin 2) :
    mix2 e t (ix3 b k f) = Spec.mix 2 E p k.val := by
  rw [mix2_at, he, he, ht]; rfl

@[inherit_doc mix8_mix]
theorem mix1_mix {e : FVec Ideal S262144x2x2 .f32} {t : FVec Ideal S262144x1x1 .f32} {b : Fin 262144} {f : Fin 2}
    {E : ℕ → EReal} {p : EReal} (he : ∀ k : Fin 2, e (ix3 b k f) = E k.val) (ht : t (ix3 b 0 0) = p) :
    mix1 e t (ix2 b f) = Spec.mix 1 E p 0 := by
  rw [mix1_at, he, he, ht]; rfl

/-! ## Four axes -/

/-- One number per axis, repeated for every point: four axes. -/
theorem all4_at (v : FVec Ideal S4 .f32) (b : Fin 262144) (d : Fin 4) : all4 v (ix2 b d) = v (ix1 d) := by
  unfold all4; pointwise

/-- The clipped points: four axes. -/
theorem clip4_at (x : FVec Ideal S262144x4 .f32) (b : Fin 262144) (d : Fin 4) :
    clip4 zeros4 ones4 x (ix2 b d) = Spec.clip (x (ix2 b d)) := by
  unfold clip4 Spec.clip; pointwise [all4_at]

/-- A point's cell: four axes. -/
theorem cell4_at (x : FVec Ideal S262144x4 .f32) (g : FVec Ideal S4 .f32) (b : Fin 262144) (d : Fin 4) :
    cell4 (clip4 zeros4 ones4 x) g zeros4 (ix2 b d) = Spec.cellOf (x (ix2 b d)) (g (ix1 d)) := by
  unfold cell4 Spec.cellOf
  pointwise [all4_at, clip4_at]
  rfl

/-- The lower end of a point's cell: four axes. -/
theorem low4_at (x : FVec Ideal S262144x4 .f32) (g : FVec Ideal S4 .f32) (b : Fin 262144) (d : Fin 4) :
    low4 (clip4 zeros4 ones4 x) g zeros4 (ix2 b d) = Spec.low (x (ix2 b d)) (g (ix1 d)) := by
  unfold low4 Spec.low
  pointwise [all4_at, cell4_at]
  rfl

/-- A point's place in its cell: four axes. -/
theorem place4_at (x : FVec Ideal S262144x4 .f32) (g : FVec Ideal S4 .f32) (b : Fin 262144) (d : Fin 4) :
    place4 x (clip4 zeros4 ones4 x) g zeros4 (ix2 b d) = Spec.place (x (ix2 b d)) (g (ix1 d)) := by
  unfold place4 Spec.place; pointwise [all4_at, low4_at]

/-- A corner's position is the cell's plus the corner's offset: four axes. -/
theorem corners4_at (c : IVec S262144x4 32) (off : IVec S16x4 32) (b : Fin 262144) (k : Fin 16) (d : Fin 4) :
    corners4 c off (ix3 b k d) = IntOp.addi (c (ix2 b d)) (off (ix2 k d)) := by
  unfold corners4; rw [id]; pointwise

/-- On which side of its cell corner `k` lies along each axis: the digits of `k`. -/
def offsets4 : IVec S16x4 32 := fun i => lit0 (S16x4.rowMajor i)

/-- A corner's offsets are the binary digits of its number. -/
theorem offsets4_at : ∀ k : Fin 16, offsets4 (ix2 k 0) = BitVec.ofNat 32 (k.val / 8) ∧ offsets4 (ix2 k 1) = BitVec.ofNat 32 (k.val / 4 % 2)
    ∧ offsets4 (ix2 k 2) = BitVec.ofNat 32 (k.val / 2 % 2) ∧ offsets4 (ix2 k 3) = BitVec.ofNat 32 (k.val % 2) := by
  decide

/-- A corner's hash from its position: four axes. -/
theorem hash4_at (c : IVec S262144x16x4 32) (b : Fin 262144) (k : Fin 16) :
    hash4 c (ix2 b k) = IntOp.andi (IntOp.xori (IntOp.xori (IntOp.xori (IntOp.xori 0#32 (IntOp.muli (c (ix3 b k 0)) 1#32))
      (IntOp.muli (c (ix3 b k 1)) 2654435761#32)) (IntOp.muli (c (ix3 b k 2)) 805459861#32))
      (IntOp.muli (c (ix3 b k 3)) 3674653429#32)) 524287#32 := by
  unfold hash4 all16; rw [id]; pointwise

/-- The hash of every corner of a cell: four axes. -/
theorem hash4_row (c : IVec S262144x4 32) (b : Fin 262144) (k : Fin 16) :
    hash4 (corners4 c offsets4) (ix2 b k) = Spec.row4 (fun d => c (ix2 b d)) k.val := by
  obtain ⟨h0, h1, h2, h3⟩ := offsets4_at k
  rw [hash4_at, corners4_at, corners4_at, corners4_at, corners4_at, h0, h1, h2, h3]; rfl

/-- The start word of a corner's row: four axes. -/
theorem starts4_at (h : IVec S262144x16 32) (b : Fin 262144) (k : Fin 16) :
    starts4 h (ix3 b k 0) = Spec.startWord 524288 (h (ix2 b k)) := by
  unfold starts4 Spec.startWord all16; pointwise

/-- The place along axis 0, of four. -/
theorem ax4_0_at (w : FVec Ideal S262144x4 .f32) (b : Fin 262144) : ax4_0 w (ix3 b 0 0) = w (ix2 b 0) := by
  unfold ax4_0 col; pointwise
/-- The place along axis 1, of four. -/
theorem ax4_1_at (w : FVec Ideal S262144x4 .f32) (b : Fin 262144) : ax4_1 w (ix3 b 0 0) = w (ix2 b 1) := by
  unfold ax4_1 col; pointwise
/-- The place along axis 2, of four. -/
theorem ax4_2_at (w : FVec Ideal S262144x4 .f32) (b : Fin 262144) : ax4_2 w (ix3 b 0 0) = w (ix2 b 2) := by
  unfold ax4_2 col; pointwise
/-- The place along axis 3, of four. -/
theorem ax4_3_at (w : FVec Ideal S262144x4 .f32) (b : Fin 262144) : ax4_3 w (ix3 b 0 0) = w (ix2 b 3) := by
  unfold ax4_3 col; pointwise

/-- A corner's feature is the table's entry at its row: four axes. -/
theorem feats4_at (T : FVec Ideal S524288x2 .f32) (s : IVec S262144x16x1 32) (b : Fin 262144) (k : Fin 16) (f : Fin 2) :
    feats4 T s (ix3 b k f) = T (ix2 (Spec.clampIx 524287 (s (ix3 b k 0))) f) :=
  Rows.gather_rows _ rfl rfl rfl rfl rfl T s b k f

/-- One level's feature of a point, four axes, is the scalar encoding of the point's row. -/
theorem level4_at (x : FVec Ideal S262144x4 .f32) (g : FVec Ideal S4 .f32) (T : FVec Ideal S524288x2 .f32) (b : Fin 262144)
    (f : Fin 2) : level4 x (clip4 zeros4 ones4 x) g zeros4 offsets4 T (ix2 b f)
      = Spec.enc4 (fun d => x (ix2 b d)) (fun d => g (ix1 d)) (fun r => T (ix2 r f)) := by
  unfold level4 interp4 Spec.enc4
  refine mix1_mix (fun k => mix2_mix (fun k => mix4_mix (fun k => mix8_mix (fun k => ?_) ?_ k) ?_ k) ?_ k) ?_
  · rw [feats4_at, starts4_at, hash4_row]
    simp only [cell4_at]; rfl
  · rw [ax4_0_at, place4_at]
  · rw [ax4_1_at, place4_at]
  · rw [ax4_2_at, place4_at]
  · rw [ax4_3_at, place4_at]

/-! ## Three axes -/

/-- The box's lower end, three axes. -/
abbrev zeros3 : FVec Ideal S3 .f32 := first3 zeros4
/-- The box's upper end, three axes. -/
abbrev ones3 : FVec Ideal S3 .f32 := first3 ones4

/-- One number per axis, repeated for every point: three axes. -/
theorem all3_at (v : FVec Ideal S3 .f32) (b : Fin 262144) (d : Fin 3) : all3 v (ix2 b d) = v (ix1 d) := by
  unfold all3; pointwise

/-- The box's lower end is 0. -/
theorem zeros3_at (d : Fin 3) : zeros3 (ix1 d) = 0 := by
  unfold zeros3 first3; pointwise

/-- The box's upper end is 1. -/
theorem ones3_at (d : Fin 3) : ones3 (ix1 d) = 1 := by
  unfold ones3 first3; pointwise

/-- The clipped points: three axes. -/
theorem clip3_at (x : FVec Ideal S262144x3 .f32) (b : Fin 262144) (d : Fin 3) :
    clip3 zeros3 ones3 x (ix2 b d) = Spec.clip (x (ix2 b d)) := by
  unfold clip3 Spec.clip; pointwise [all3_at, zeros3_at, ones3_at]

/-- A point's cell: three axes. -/
theorem cell3_at (x : FVec Ideal S262144x3 .f32) (g : FVec Ideal S3 .f32) (b : Fin 262144) (d : Fin 3) :
    cell3 (clip3 zeros3 ones3 x) g zeros3 (ix2 b d) = Spec.cellOf (x (ix2 b d)) (g (ix1 d)) := by
  unfold cell3 Spec.cellOf
  pointwise [all3_at, clip3_at, zeros3_at]
  rfl

/-- The lower end of a point's cell: three axes. -/
theorem low3_at (x : FVec Ideal S262144x3 .f32) (g : FVec Ideal S3 .f32) (b : Fin 262144) (d : Fin 3) :
    low3 (clip3 zeros3 ones3 x) g zeros3 (ix2 b d) = Spec.low (x (ix2 b d)) (g (ix1 d)) := by
  unfold low3 Spec.low
  pointwise [all3_at, cell3_at, zeros3_at]
  rfl

/-- A point's place in its cell: three axes. -/
theorem place3_at (x : FVec Ideal S262144x3 .f32) (g : FVec Ideal S3 .f32) (b : Fin 262144) (d : Fin 3) :
    place3 x (clip3 zeros3 ones3 x) g zeros3 (ix2 b d) = Spec.place (x (ix2 b d)) (g (ix1 d)) := by
  unfold place3 Spec.place; pointwise [all3_at, low3_at]

/-- A corner's position is the cell's plus the corner's offset: three axes. -/
theorem corners3_at (c : IVec S262144x3 32) (off : IVec S8x3 32) (b : Fin 262144) (k : Fin 8) (d : Fin 3) :
    corners3 c off (ix3 b k d) = IntOp.addi (c (ix2 b d)) (off (ix2 k d)) := by
  unfold corners3; rw [id]; pointwise

@[inherit_doc offsets4]
def offsets3 : IVec S8x3 32 := fun i => lit1 (S8x3.rowMajor i)

/-- A corner's offsets are the binary digits of its number. -/
theorem offsets3_at : ∀ k : Fin 8, offsets3 (ix2 k 0) = BitVec.ofNat 32 (k.val / 4) ∧ offsets3 (ix2 k 1) = BitVec.ofNat 32 (k.val / 2 % 2)
    ∧ offsets3 (ix2 k 2) = BitVec.ofNat 32 (k.val % 2) := by
  decide

/-- A corner's hash from its position: three axes. -/
theorem hash3_at (c : IVec S262144x8x3 32) (b : Fin 262144) (k : Fin 8) :
    hash3 c (ix2 b k) = IntOp.andi (IntOp.xori (IntOp.xori (IntOp.xori 0#32 (IntOp.muli (c (ix3 b k 0)) 1#32))
      (IntOp.muli (c (ix3 b k 1)) 2654435761#32)) (IntOp.muli (c (ix3 b k 2)) 805459861#32)) 32767#32 := by
  unfold hash3 all8; rw [id]; pointwise

/-- The hash of every corner of a cell: three axes. -/
theorem hash3_row (c : IVec S262144x3 32) (b : Fin 262144) (k : Fin 8) :
    hash3 (corners3 c offsets3) (ix2 b k) = Spec.row3 (fun d => c (ix2 b d)) k.val := by
  obtain ⟨h0, h1, h2⟩ := offsets3_at k
  rw [hash3_at, corners3_at, corners3_at, corners3_at, h0, h1, h2]; rfl

/-- The start word of a corner's row: three axes. -/
theorem starts3_at (h : IVec S262144x8 32) (b : Fin 262144) (k : Fin 8) :
    starts3 h (ix3 b k 0) = Spec.startWord 32768 (h (ix2 b k)) := by
  unfold starts3 Spec.startWord all8; pointwise

/-- The place along axis 0, of three. -/
theorem ax3_0_at (w : FVec Ideal S262144x3 .f32) (b : Fin 262144) : ax3_0 w (ix3 b 0 0) = w (ix2 b 0) := by
  unfold ax3_0 col; pointwise
/-- The place along axis 1, of three. -/
theorem ax3_1_at (w : FVec Ideal S262144x3 .f32) (b : Fin 262144) : ax3_1 w (ix3 b 0 0) = w (ix2 b 1) := by
  unfold ax3_1 col; pointwise
/-- The place along axis 2, of three. -/
theorem ax3_2_at (w : FVec Ideal S262144x3 .f32) (b : Fin 262144) : ax3_2 w (ix3 b 0 0) = w (ix2 b 2) := by
  unfold ax3_2 col; pointwise

/-- A corner's feature is the table's entry at its row: three axes. -/
theorem feats3_at (T : FVec Ideal S32768x2 .f32) (s : IVec S262144x8x1 32) (b : Fin 262144) (k : Fin 8) (f : Fin 2) :
    feats3 T s (ix3 b k f) = T (ix2 (Spec.clampIx 32767 (s (ix3 b k 0))) f) :=
  Rows.gather_rows _ rfl rfl rfl rfl rfl T s b k f

/-- One level's feature of a point, three axes, is the scalar encoding of the point's row. -/
theorem level3_at (x : FVec Ideal S262144x3 .f32) (g : FVec Ideal S3 .f32) (T : FVec Ideal S32768x2 .f32) (b : Fin 262144)
    (f : Fin 2) : level3 x (clip3 zeros3 ones3 x) g zeros3 offsets3 T (ix2 b f)
      = Spec.enc3 (fun d => x (ix2 b d)) (fun d => g (ix1 d)) (fun r => T (ix2 r f)) := by
  unfold level3 interp3 Spec.enc3
  refine mix1_mix (fun k => mix2_mix (fun k => mix4_mix (fun k => ?_) ?_ k) ?_ k) ?_
  · rw [feats3_at, starts3_at, hash3_row]
    simp only [cell3_at]; rfl
  · rw [ax3_0_at, place3_at]
  · rw [ax3_1_at, place3_at]
  · rw [ax3_2_at, place3_at]

end Cert.KernelIdeal.Level

end
-- ==== Proof.Start.lean ====
/-
  What the first list of host operations leaves: the box, the corner offsets, the first three coordinates, and the first
  level's cell sides and table.
-/
module

public import proofs.«01_k».proof.Proof.Tables
public import proofs.«01_k».proof.Proof.LevelValue
public import Idealize.ShloMosaic.Lib.StableHlo.RunRead
public import Idealize.ShloMosaic.Lib.Pointwise

@[expose] public section

set_option maxRecDepth 65536

noncomputable section

namespace Cert.KernelIdeal.Level

open Cert.KernelIdeal Idealize.ShloMosaic Idealize.ShloMosaic.TcCoe
open Idealize.ShloMosaic.StableHlo
open Cert.KernelIdeal.Facts₀ Cert.KernelIdeal.Facts

/-- The first three coordinates of every point. -/
def cut3 (x : FVec Ideal S262144x4 .f32) : FVec Ideal S262144x3 .f32 :=
  extractStridedSlice S262144x3 ![0, 0] x slices_S262144x4_S262144x3_0_0

set_option maxHeartbeats 4000000 in
/-- After the first list: the box's upper end. -/
theorem start_cst (A : Bufs) : after Gen.hostOps0 A (Proc.devRef .tc main_cst) = ones4 := by
  after_reads_simp

set_option maxHeartbeats 4000000 in
/-- After the first list: the box's lower end. -/
theorem start_cst_0 (A : Bufs) : after Gen.hostOps0 A (Proc.devRef .tc main_cst_0) = zeros4 := by
  after_reads_simp

set_option maxHeartbeats 4000000 in
/-- After the first list: the corner offsets, four axes. -/
theorem start_c (A : Bufs) : after Gen.hostOps0 A (Proc.devRef .tc main_c) = offsets4 := by
  after_reads_simp
  rfl

set_option maxHeartbeats 4000000 in
/-- After the first list: the corner offsets, three axes. -/
theorem start_c_1 (A : Bufs) : after Gen.hostOps0 A (Proc.devRef .tc main_c_1) = offsets3 := by
  after_reads_simp
  rfl

set_option maxHeartbeats 4000000 in
/-- After the first list: the first three coordinates. -/
theorem start_v0 (A : Bufs) : after Gen.hostOps0 A (Proc.devRef .tc main_v0) = cut3 (A (Proc.devRef .tc main_arg0)) := by
  after_reads_simp
  rfl

set_option maxHeartbeats 4000000 in
/-- After the first list: the points. -/
theorem start_arg0 (A : Bufs) : after Gen.hostOps0 A (Proc.devRef .tc main_arg0) = A (Proc.devRef .tc main_arg0) := by
  after_reads_simp

set_option maxHeartbeats 4000000 in
/-- After the first list: the tables, four axes. -/
theorem start_arg1 (A : Bufs) : after Gen.hostOps0 A (Proc.devRef .tc main_arg1) = A (Proc.devRef .tc main_arg1) := by
  after_reads_simp

set_option maxHeartbeats 4000000 in
/-- After the first list: the tables, three axes. -/
theorem start_arg2 (A : Bufs) : after Gen.hostOps0 A (Proc.devRef .tc main_arg2) = A (Proc.devRef .tc main_arg2) := by
  after_reads_simp

set_option maxHeartbeats 4000000 in
/-- After the first list: the first level's cell sides, four axes. -/
theorem start_side4 (A : Bufs) : rd (side4 0) (after Gen.hostOps0 A) = sides4 zeros4 ones4 (Spec.spaceWord 0) (Spec.timeWord 0) := by
  change after Gen.hostOps0 A (Proc.devRef .tc main_v11) = _
  after_reads_simp
  rfl

set_option maxHeartbeats 4000000 in
/-- After the first list: the first level's cell sides, three axes. -/
theorem start_side3 (A : Bufs) : rd (side3 0) (after Gen.hostOps0 A) = sides3 zeros4 ones4 (Spec.spaceWord 0) := by
  change after Gen.hostOps0 A (Proc.devRef .tc main_v16) = _
  after_reads_simp
  rfl

set_option maxHeartbeats 4000000 in
/-- After the first list: the first level's table, four axes. -/
theorem start_tab4 (A : Bufs) : rd (tab4 0) (after Gen.hostOps0 A) = slab4 (A (Proc.devRef .tc main_arg1)) 0 := by
  change after Gen.hostOps0 A (Proc.devRef .tc main_v18) = _
  after_reads_simp
  funext j; idx_vars j; unfold slab4; pointwise
  rfl

end Cert.KernelIdeal.Level

end
-- ==== Proof.Reads4.lean ====
/-
  What each level's four-axis list leaves in its result buffers, from whatever the buffers held before it.
-/
module

public import proofs.«01_k».proof.Proof.Tables
public import Idealize.ShloMosaic.Lib.StableHlo.RunRead

@[expose] public section

set_option maxRecDepth 65536

noncomputable section

namespace Cert.KernelIdeal.Level

open Cert.KernelIdeal Idealize.ShloMosaic Idealize.ShloMosaic.TcCoe
open Idealize.ShloMosaic.StableHlo
open Cert.KernelIdeal.Facts₀ Cert.KernelIdeal.Facts

set_option maxHeartbeats 40000000 in
/-- The first list clips every point to the box. -/
theorem clipOps4_in4 (V : Bufs) : ∀ l : Fin 16, rd (in4 l) (after (clipOps4 l) V)
    = clip4 (V (Proc.devRef .tc main_cst_0)) (V (Proc.devRef .tc main_cst)) (V (Proc.devRef .tc main_arg0)) := by
  intro l
  fin_cases l <;>
    (dsimp only [rd, in4, clipOps4, Fin.reduceFinMk, Matrix.cons_val]
     change after _ _ (Proc.devRef .tc _) = _
     after_reads_simp
     rfl)

set_option maxHeartbeats 40000000 in
/-- The second list slices the level's table for three axes. -/
theorem bodyOps4_tab3 (V : Bufs) : ∀ l : Fin 16, rd (tab3 l) (after (bodyOps4 l) V) = slab3 (V (Proc.devRef .tc main_arg2)) l := by
  intro l
  fin_cases l <;>
    (dsimp only [rd, tab3, bodyOps4, Fin.reduceFinMk, Matrix.cons_val]
     change after _ _ (Proc.devRef .tc _) = _
     after_reads_simp
     funext j; idx_vars j; unfold slab3; pointwise
     rfl)

set_option maxHeartbeats 40000000 in
/-- It slices the box's lower end. -/
theorem bodyOps4_min3 (V : Bufs) : ∀ l : Fin 16,
    rd (min3 l) (after (bodyOps4 l) V) = first3 (V (Proc.devRef .tc main_cst_0)) := by
  intro l
  fin_cases l <;>
    (dsimp only [rd, min3, bodyOps4, Fin.reduceFinMk, Matrix.cons_val]
     change after _ _ (Proc.devRef .tc _) = _
     after_reads_simp
     rfl)

set_option maxHeartbeats 40000000 in
/-- It slices the box's upper end. -/
theorem bodyOps4_max3 (V : Bufs) : ∀ l : Fin 16,
    rd (max3 l) (after (bodyOps4 l) V) = first3 (V (Proc.devRef .tc main_cst)) := by
  intro l
  fin_cases l <;>
    (dsimp only [rd, max3, bodyOps4, Fin.reduceFinMk, Matrix.cons_val]
     change after _ _ (Proc.devRef .tc _) = _
     after_reads_simp
     rfl)

end Cert.KernelIdeal.Level

end
-- ==== Proof.Reads3.lean ====
/-
  What each level's three-axis list leaves in its result buffers, from whatever the buffers held before it.
-/
module

public import proofs.«01_k».proof.Proof.Tables
public import proofs.«01_k».proof.Proof.Spec
public import Idealize.ShloMosaic.Lib.StableHlo.RunRead

@[expose] public section

set_option maxRecDepth 65536

noncomputable section

namespace Cert.KernelIdeal.Level

open Cert.KernelIdeal Idealize.ShloMosaic Idealize.ShloMosaic.TcCoe
open Idealize.ShloMosaic.StableHlo
open Cert.KernelIdeal.Facts₀ Cert.KernelIdeal.Facts

set_option maxHeartbeats 40000000 in
/-- The third list clips the first three coordinates to the box. -/
theorem clipOps3_in3 (V : Bufs) : ∀ l : Fin 16, rd (in3 l) (after (clipOps3 l) V)
    = clip3 (rd (min3 l) V) (rd (max3 l) V) (V (Proc.devRef .tc main_v0)) := by
  intro l
  fin_cases l <;>
    (dsimp only [rd, in3, clipOps3, Fin.reduceFinMk, Matrix.cons_val]
     change after _ _ (Proc.devRef .tc _) = _
     after_reads_simp
     rfl)

set_option maxHeartbeats 40000000 in
/-- The fourth list ends with the next level's cell sides along four axes. -/
theorem bodyOps3_side4 (V : Bufs) : ∀ l : Fin 15, rd (side4 l.succ) (after (bodyOps3 l.castSucc) V)
    = sides4 (V (Proc.devRef .tc main_cst_0)) (V (Proc.devRef .tc main_cst)) (Spec.spaceWord l.succ) (Spec.timeWord l.succ) := by
  intro l
  fin_cases l <;>
    (dsimp only [rd, side4, bodyOps3, Fin.reduceFinMk, Fin.reduceSucc, Fin.reduceCastSucc, Matrix.cons_val]
     change after _ _ (Proc.devRef .tc _) = _
     after_reads_simp
     rfl)

set_option maxHeartbeats 40000000 in
/-- It ends with the next level's cell sides along three axes. -/
theorem bodyOps3_side3 (V : Bufs) : ∀ l : Fin 15, rd (side3 l.succ) (after (bodyOps3 l.castSucc) V)
    = sides3 (V (Proc.devRef .tc main_cst_0)) (V (Proc.devRef .tc main_cst)) (Spec.spaceWord l.succ) := by
  intro l
  fin_cases l <;>
    (dsimp only [rd, side3, bodyOps3, Fin.reduceFinMk, Fin.reduceSucc, Fin.reduceCastSucc, Matrix.cons_val]
     change after _ _ (Proc.devRef .tc _) = _
     after_reads_simp
     rfl)

set_option maxHeartbeats 40000000 in
/-- It ends with the next level's table for four axes. -/
theorem bodyOps3_tab4 (V : Bufs) : ∀ l : Fin 15,
    rd (tab4 l.succ) (after (bodyOps3 l.castSucc) V) = slab4 (V (Proc.devRef .tc main_arg1)) l.succ := by
  intro l
  fin_cases l <;>
    (dsimp only [rd, tab4, bodyOps3, Fin.reduceFinMk, Fin.reduceSucc, Fin.reduceCastSucc, Matrix.cons_val]
     change after _ _ (Proc.devRef .tc _) = _
     after_reads_simp
     funext j; idx_vars j; unfold slab4; pointwise
     rfl)

end Cert.KernelIdeal.Level

end
-- ==== Proof.Out4.lean ====
/-
  Each level's four-axis list computes the level's features.
-/
module

public import proofs.«01_k».proof.Proof.Tables
public import Idealize.ShloMosaic.Lib.StableHlo.RunRead

@[expose] public section

set_option maxRecDepth 65536

noncomputable section

namespace Cert.KernelIdeal.Level

open Cert.KernelIdeal Idealize.ShloMosaic Idealize.ShloMosaic.TcCoe
open Idealize.ShloMosaic.StableHlo
open Cert.KernelIdeal.Facts₀ Cert.KernelIdeal.Facts

set_option maxHeartbeats 400000000 in
/-- It computes the level's features from the points, the clipped points, the cell sides and the table. -/
theorem bodyOps4_out4 (V : Bufs) : ∀ l : Fin 16, rd (out4 l) (after (bodyOps4 l) V)
    = level4 (V (Proc.devRef .tc main_arg0)) (rd (in4 l) V) (rd (side4 l) V) (V (Proc.devRef .tc main_cst_0))
        (V (Proc.devRef .tc main_c)) (rd (tab4 l) V) := by
  intro l
  fin_cases l <;>
    (dsimp only [rd, out4, bodyOps4, Fin.reduceFinMk, Matrix.cons_val]
     change after _ _ (Proc.devRef .tc _) = _
     after_reads_simp
     rfl)

end Cert.KernelIdeal.Level

end
-- ==== Proof.Out3.lean ====
/-
  Each level's three-axis list computes the level's features.
-/
module

public import proofs.«01_k».proof.Proof.Tables
public import proofs.«01_k».proof.Proof.Spec
public import Idealize.ShloMosaic.Lib.StableHlo.RunRead

@[expose] public section

set_option maxRecDepth 65536

noncomputable section

namespace Cert.KernelIdeal.Level

open Cert.KernelIdeal Idealize.ShloMosaic Idealize.ShloMosaic.TcCoe
open Idealize.ShloMosaic.StableHlo
open Cert.KernelIdeal.Facts₀ Cert.KernelIdeal.Facts

set_option maxHeartbeats 400000000 in
/-- It computes the level's features from the first three coordinates, the same clipped, the cell sides and the table. -/
theorem bodyOps3_out3 (V : Bufs) : ∀ l : Fin 16, rd (out3 l) (after (bodyOps3 l) V)
    = level3 (V (Proc.devRef .tc main_v0)) (rd (in3 l) V) (rd (side3 l) V) (rd (min3 l) V)
        (V (Proc.devRef .tc main_c_1)) (rd (tab3 l) V) := by
  intro l
  fin_cases l <;>
    (dsimp only [rd, out3, bodyOps3, Fin.reduceFinMk, Matrix.cons_val]
     change after _ _ (Proc.devRef .tc _) = _
     after_reads_simp
     rfl)

end Cert.KernelIdeal.Level

end
-- ==== Proof.State.lean ====
/-
  The buffers level by level, and the features every level leaves: `st A l` is what the buffers hold when level `l` begins.
-/
module

public import proofs.«01_k».proof.Proof.Writes
public import proofs.«01_k».proof.Proof.Start
public import proofs.«01_k».proof.Proof.Reads4
public import proofs.«01_k».proof.Proof.Reads3
public import proofs.«01_k».proof.Proof.Out4
public import proofs.«01_k».proof.Proof.Out3

@[expose] public section

set_option maxRecDepth 65536

noncomputable section

namespace Cert.KernelIdeal.Level

open Cert.KernelIdeal Idealize.ShloMosaic Idealize.ShloMosaic.TcCoe
open Idealize.ShloMosaic.StableHlo
open Cert.KernelIdeal.Facts₀ Cert.KernelIdeal.Facts

/-- A list that writes from `n` on leaves what a typed buffer numbered below `n` holds. -/
theorem rd_keep {n : ℕ} {L : List (HloOp τ sig (Elt Ideal))} (h : Keep.From n L) (V : Bufs) {T : BufTy} (x : TRef sig T)
    (hx : x.ref.idx.val < n) : rd x (after L V) = rd x V := by
  unfold rd; rw [h.keep V hx]

/-- A level's cell sides, four axes. -/
def grid4 (l : Fin 16) : FVec Ideal S4 .f32 := sides4 zeros4 ones4 (Spec.spaceWord l) (Spec.timeWord l)
/-- A level's cell sides, three axes. -/
def grid3 (l : Fin 16) : FVec Ideal S3 .f32 := sides3 zeros4 ones4 (Spec.spaceWord l)

/-- A level's features, four axes, of the points `x` by the tables `X`. -/
def feat4 (x : FVec Ideal S262144x4 .f32) (X : FVec Ideal S16x524288x2 .f32) (l : Fin 16) : FVec Ideal S262144x2 .f32 :=
  level4 x (clip4 zeros4 ones4 x) (grid4 l) zeros4 offsets4 (slab4 X l)
/-- A level's features, three axes. -/
def feat3 (x : FVec Ideal S262144x4 .f32) (X : FVec Ideal S16x32768x2 .f32) (l : Fin 16) : FVec Ideal S262144x2 .f32 :=
  level3 (cut3 x) (clip3 zeros3 ones3 (cut3 x)) (grid3 l) zeros3 offsets3 (slab3 X l)

/-- What the buffers written before the first level hold, and the arguments. -/
structure Base (A V : Bufs) : Prop where
  arg0 : V (Proc.devRef .tc main_arg0) = A (Proc.devRef .tc main_arg0)
  arg1 : V (Proc.devRef .tc main_arg1) = A (Proc.devRef .tc main_arg1)
  arg2 : V (Proc.devRef .tc main_arg2) = A (Proc.devRef .tc main_arg2)
  cst : V (Proc.devRef .tc main_cst) = ones4
  cst_0 : V (Proc.devRef .tc main_cst_0) = zeros4
  c : V (Proc.devRef .tc main_c) = offsets4
  c_1 : V (Proc.devRef .tc main_c_1) = offsets3
  v0 : V (Proc.devRef .tc main_v0) = cut3 (A (Proc.devRef .tc main_arg0))

/-- A list that writes from 29 on keeps them. -/
theorem Base.after {A V : Bufs} (h : Base A V) {n : ℕ} {L : List (HloOp τ sig (Elt Ideal))} (hL : Keep.From n L) (hn : 29 ≤ n) :
    Base A (after L V) where
  arg0 := (hL.keep V (lt_of_lt_of_le (by decide) hn)).trans h.arg0
  arg1 := (hL.keep V (lt_of_lt_of_le (by decide) hn)).trans h.arg1
  arg2 := (hL.keep V (lt_of_lt_of_le (by decide) hn)).trans h.arg2
  cst := (hL.keep V (lt_of_lt_of_le (by decide) hn)).trans h.cst
  cst_0 := (hL.keep V (lt_of_lt_of_le (by decide) hn)).trans h.cst_0
  c := (hL.keep V (lt_of_lt_of_le (by decide) hn)).trans h.c
  c_1 := (hL.keep V (lt_of_lt_of_le (by decide) hn)).trans h.c_1
  v0 := (hL.keep V (lt_of_lt_of_le (by decide) hn)).trans h.v0

/-- What the buffers hold when level `l` begins: the base, the level's cell sides and table. -/
structure Ready (A : Bufs) (l : Fin 16) (V : Bufs) : Prop where
  base : Base A V
  side4 : rd (side4 l) V = grid4 l
  side3 : rd (side3 l) V = grid3 l
  tab4 : rd (tab4 l) V = slab4 (A (Proc.devRef .tc main_arg1)) l

/-- A level's four lists, one after the other. -/
def step (l : Fin 16) (V : Bufs) : Bufs :=
  after (bodyOps3 l) (after (clipOps3 l) (after (bodyOps4 l) (after (clipOps4 l) V)))

/-- The level leaves its features, four axes. -/
theorem step_out4 {A : Bufs} {l : Fin 16} {V : Bufs} (h : Ready A l V) :
    rd (out4 l) (step l V) = feat4 (A (Proc.devRef .tc main_arg0)) (A (Proc.devRef .tc main_arg1)) l := by
  have b1 := h.base.after (clipOps4_from l) (by omega)
  unfold step
  rw [rd_keep (bodyOps3_from l) _ (out4 l) (by rw [out4_idx]; omega), rd_keep (clipOps3_from l) _ (out4 l) (by rw [out4_idx]; omega),
    bodyOps4_out4, clipOps4_in4, b1.arg0, b1.cst_0, b1.c, h.base.arg0, h.base.cst, h.base.cst_0,
    rd_keep (clipOps4_from l) _ (side4 l) (by rw [side4_idx]; omega), rd_keep (clipOps4_from l) _ (tab4 l) (by rw [tab4_idx]; omega),
    h.side4, h.tab4]
  rfl

/-- The level leaves its features, three axes. -/
theorem step_out3 {A : Bufs} {l : Fin 16} {V : Bufs} (h : Ready A l V) :
    rd (out3 l) (step l V) = feat3 (A (Proc.devRef .tc main_arg0)) (A (Proc.devRef .tc main_arg2)) l := by
  have b1 := h.base.after (clipOps4_from l) (by omega)
  have b2 := b1.after (bodyOps4_from l) (by omega)
  have b3 := b2.after (clipOps3_from l) (by omega)
  unfold step
  rw [bodyOps3_out3, clipOps3_in3, b3.v0, b3.c_1, b2.v0,
    rd_keep (clipOps3_from l) _ (side3 l) (by rw [side3_idx]; omega), rd_keep (clipOps3_from l) _ (min3 l) (by rw [min3_idx]; omega),
    rd_keep (clipOps3_from l) _ (tab3 l) (by rw [tab3_idx]; omega), rd_keep (bodyOps4_from l) _ (side3 l) (by rw [side3_idx]; omega),
    rd_keep (clipOps4_from l) _ (side3 l) (by rw [side3_idx]; omega), bodyOps4_min3, bodyOps4_max3, bodyOps4_tab3, b1.cst_0, b1.cst,
    b1.arg2, h.side3]
  rfl

/-- The base outlives a level. -/
theorem step_base {A : Bufs} {l : Fin 16} {V : Bufs} (h : Base A V) : Base A (step l V) :=
  (((h.after (clipOps4_from l) (by omega)).after (bodyOps4_from l) (by omega)).after (clipOps3_from l) (by omega)).after
    (bodyOps3_from l) (by omega)

/-- A level leaves what is numbered below its own buffers. -/
theorem step_keep (l : Fin 16) (V : Bufs) {T : BufTy} (x : TRef sig T) (hx : x.ref.idx.val < 29 + 256 * l.val) :
    rd x (step l V) = rd x V := by
  unfold step
  rw [rd_keep (bodyOps3_from l) _ _ (by omega), rd_keep (clipOps3_from l) _ _ (by omega),
    rd_keep (bodyOps4_from l) _ _ (by omega), rd_keep (clipOps4_from l) _ _ (by omega)]

/-- After a level the next one can begin. -/
theorem step_ready {A : Bufs} (l : Fin 15) {V : Bufs} (h : Base A V) : Ready A l.succ (step l.castSucc V) := by
  have b3 := ((h.after (clipOps4_from l.castSucc) (by omega)).after (bodyOps4_from l.castSucc) (by omega)).after
    (clipOps3_from l.castSucc) (by omega)
  refine ⟨step_base h, ?_, ?_, ?_⟩
  · unfold step; rw [bodyOps3_side4, b3.cst, b3.cst_0]; rfl
  · unfold step; rw [bodyOps3_side3, b3.cst, b3.cst_0]; rfl
  · unfold step; rw [bodyOps3_tab4, b3.arg1]

/-- The buffers when level `l` begins, from the contents `A` at the start of the program. -/
def st (A : Bufs) : ℕ → Bufs
  | 0 => after Gen.hostOps0 A
  | l + 1 => if h : l < 16 then step ⟨l, h⟩ (st A l) else st A l

/-- The buffers after one more level. -/
theorem st_succ (A : Bufs) (l : ℕ) (h : l < 16) : st A (l + 1) = step ⟨l, h⟩ (st A l) := by
  rw [st, dif_pos h]

/-- The first level finds its cell sides and table. -/
theorem st_ready_zero (A : Bufs) : Ready A 0 (st A 0) :=
  ⟨⟨start_arg0 A, start_arg1 A, start_arg2 A, start_cst A, start_cst_0 A, start_c A, start_c_1 A, start_v0 A⟩,
    start_side4 A, start_side3 A, start_tab4 A⟩

/-- Every level finds its cell sides and table. -/
theorem st_ready (A : Bufs) : ∀ (l : ℕ) (h : l < 16), Ready A ⟨l, h⟩ (st A l)
  | 0, _ => st_ready_zero A
  | l + 1, h => by
    rw [st_succ A l (by omega)]
    exact step_ready ⟨l, by omega⟩ (st_ready A l (by omega)).base

/-- What a level leaves, the later levels leave alone. -/
theorem st_keep (A : Bufs) {T : BufTy} (x : TRef sig T) (n : ℕ) (hx : x.ref.idx.val < 29 + 256 * n) :
    ∀ k, n ≤ k → k ≤ 16 → rd x (st A k) = rd x (st A n) := by
  intro k hk
  induction k, hk using Nat.le_induction with
  | base => intro _; rfl
  | succ k hk ih =>
    intro hk16
    rw [st_succ A k (by omega), step_keep _ _ _ (by show _ < 29 + 256 * k; omega)]
    exact ih (by omega)

/-- After the last level every level's features stand, four axes. -/
theorem st_out4 (A : Bufs) (l : Fin 16) :
    rd (out4 l) (st A 16) = feat4 (A (Proc.devRef .tc main_arg0)) (A (Proc.devRef .tc main_arg1)) l := by
  rw [st_keep A (out4 l) (l.val + 1) (by rw [out4_idx]; omega) 16 (by omega) le_rfl, st_succ A l.val l.isLt]
  exact step_out4 (st_ready A l.val l.isLt)

/-- After the last level every level's features stand, three axes. -/
theorem st_out3 (A : Bufs) (l : Fin 16) :
    rd (out3 l) (st A 16) = feat3 (A (Proc.devRef .tc main_arg0)) (A (Proc.devRef .tc main_arg2)) l := by
  rw [st_keep A (out3 l) (l.val + 1) (by rw [out3_idx]; omega) 16 (by omega) le_rfl, st_succ A l.val l.isLt]
  exact step_out3 (st_ready A l.val l.isLt)

end Cert.KernelIdeal.Level

end
-- ==== Proof.After.lean ====
/-
  The host operations after the region: the mask of the points that lie in the box.
-/
module

public import proofs.«01_k».proof.Proof.Start
public import proofs.«01_k».proof.Proof.LevelValue
public import proofs.«01_k».proof.Proof.Gen.KernelIdeal.Launch.Ops11
public import Idealize.ShloMosaic.Lib.StableHlo.RunRead
public import Idealize.ShloMosaic.Lib.StableHlo.Predicate

@[expose] public section

set_option maxRecDepth 65536

noncomputable section

namespace Cert.KernelIdeal.Level

open Cert.KernelIdeal Idealize.ShloMosaic Idealize.ShloMosaic.TcCoe
open Idealize.ShloMosaic.StableHlo
open Cert.KernelIdeal.Facts₀ Cert.KernelIdeal.Facts

/-- How many of a point's four coordinates clipping leaves alone. -/
def count4 (z o : FVec Ideal S4 .f32) (x : FVec Ideal S262144x4 .f32) : IVec S262144 32 :=
  Host.reduce IntOp.addi (extui 32 (cmpf .oeq x (clip4 z o x)) natLt_1_32) (constantI S_ 32 0#32) reducesTo_S262144x4_S262144_d1 h_S_
/-- How many of a point's first three coordinates clipping leaves alone. -/
def count3 (z o : FVec Ideal S3 .f32) (x : FVec Ideal S262144x3 .f32) : IVec S262144 32 :=
  Host.reduce IntOp.addi (extui 32 (cmpf .oeq x (clip3 z o x)) natLt_1_32) (constantI S_ 32 0#32) reducesTo_S262144x3_S262144_d1 h_S_

/-- The points of which clipping leaves all four coordinates, and all of the first three, alone. -/
def keepMask (z o : FVec Ideal S4 .f32) (x : FVec Ideal S262144x4 .f32) : IVec S262144 1 :=
  andi (cmpi .eq (count4 z o x) (broadcastInDim S262144 ![] bcast_S_S262144 (constantI S_ 32 4#32)))
    (cmpi .eq (count3 (first3 z) (first3 o) (cut3 x)) (broadcastInDim S262144 ![] bcast_S_S262144 (constantI S_ 32 3#32)))

/-- The operations after the region leave the mask. -/
theorem after_mask (V : Valuation τ sig (Elt Ideal)) :
    after [Gen.hostOps1, Gen.hostOps1_1, Gen.hostOps1_2, Gen.hostOps1_3].flatten V (Proc.devRef .tc main_v3556)
      = keepMask (V (Proc.devRef .tc main_cst_0)) (V (Proc.devRef .tc main_cst)) (V (Proc.devRef .tc main_arg0)) := by
  simp only [List.flatten_cons, List.flatten_nil, List.cons_append, List.nil_append]
  after_reads_simp
  rfl

end Cert.KernelIdeal.Level

end
-- ==== Proof.RefCells.lean ====
/-
  The reference's cells: the side, the cell and the place of a coordinate at every level, read at an index.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Level

open Cert.ReferenceIdeal Idealize.ShloMosaic Idealize.ShloMosaic.TcCoe
open Cert.ReferenceIdeal.Facts₀ Cert.ReferenceIdeal.Facts
open Cert.ReferenceIdeal.Value

/-- The number of cells along axis `d` of level `l`, four axes. -/
def words4 (l : Fin 16) : Fin 4 → BitVec 32 := ![Spec.spaceWord l, Spec.spaceWord l, Spec.spaceWord l, Spec.timeWord l]

/-- The printed table of four-axis cell numbers, entry by entry. -/
theorem lit0_at : ∀ (l : Fin 16) (d : Fin 4), lit0 (S16x4.rowMajor (ix2 l d)) = words4 l d := by decide

/-- The printed table of three-axis cell numbers, entry by entry. -/
theorem lit1_at : ∀ (l : Fin 16) (d : Fin 3), lit1 (S16x3.rowMajor (ix2 l d)) = Spec.spaceWord l := by decide

/-- The side of a cell along axis `d` of level `l`, four axes. -/
def side4 (l : Fin 16) (d : Fin 4) : EReal := Ideal.div 1 (Ideal.ofBits .f32 (words4 l d))
/-- The side of a cell along each axis of level `l`, three axes. -/
def side3 (l : Fin 16) : EReal := Ideal.div 1 (Ideal.ofBits .f32 (Spec.spaceWord l))

variable (V : Valuation τ sig (Elt Ideal))

/-- The points. -/
abbrev pts : FVec Ideal S262144x4 .f32 := V (Proc.devRef .tc main_arg0)

/-- A cell's side, four axes. -/
theorem v2_at (l : Fin 16) (d : Fin 4) : (res_main_v2 V : FVec Ideal S1x16x4 .f32) (ix3 0 l d) = side4 l d := by
  unfold res_main_v2 side4
  rw [← lit0_at]
  pointwise

/-- The point's cell, four axes. -/
theorem v9_at (b : Fin 262144) (l : Fin 16) (d : Fin 4) :
    (res_main_v9 V : IVec S262144x16x4 32) (ix3 b l d) = Spec.cellOf (pts V (ix2 b d)) (side4 l d) := by
  unfold res_main_v9 Spec.cellOf Spec.clip; rw [id, id]
  pointwise [v2_at]
  rfl

/-- The lower end of the point's cell, four axes. -/
theorem v12_at (b : Fin 262144) (l : Fin 16) (d : Fin 4) :
    (res_main_v12 V : FVec Ideal S262144x16x4 .f32) (ix3 b l d) = Spec.low (pts V (ix2 b d)) (side4 l d) := by
  unfold res_main_v12 Spec.low
  pointwise [v2_at, v9_at]
  rfl

/-- The point's place in its cell, four axes. -/
theorem v19_at (b : Fin 262144) (l : Fin 16) (d : Fin 4) :
    (res_main_v19 V : FVec Ideal S262144x16x4 .f32) (ix3 b l d) = Spec.place (pts V (ix2 b d)) (side4 l d) := by
  unfold res_main_v19 Spec.place
  pointwise [v2_at, v12_at]

/-- A cell's side, three axes. -/
theorem v162_at (l : Fin 16) (d : Fin 3) : (res_main_v162 V : FVec Ideal S1x16x3 .f32) (ix3 0 l d) = side3 l := by
  unfold res_main_v162 side3
  rw [← lit1_at l d]
  pointwise

/-- The first three coordinates. -/
theorem v159_at (b : Fin 262144) (d : Fin 3) :
    (res_main_v159 V : FVec Ideal S262144x3 .f32) (ix2 b d) = pts V (ix2 b d.castSucc) := by
  unfold res_main_v159
  pointwise
  rfl

/-- The point's cell, three axes. -/
theorem v169_at (b : Fin 262144) (l : Fin 16) (d : Fin 3) :
    (res_main_v169 V : IVec S262144x16x3 32) (ix3 b l d) = Spec.cellOf (pts V (ix2 b d.castSucc)) (side3 l) := by
  unfold res_main_v169 Spec.cellOf Spec.clip; rw [id, id]
  pointwise [v162_at, v159_at]
  rfl

/-- The lower end of the point's cell, three axes. -/
theorem v172_at (b : Fin 262144) (l : Fin 16) (d : Fin 3) :
    (res_main_v172 V : FVec Ideal S262144x16x3 .f32) (ix3 b l d) = Spec.low (pts V (ix2 b d.castSucc)) (side3 l) := by
  unfold res_main_v172 Spec.low
  pointwise [v162_at, v169_at]
  rfl

/-- The point's place in its cell, three axes. -/
theorem v179_at (b : Fin 262144) (l : Fin 16) (d : Fin 3) :
    (res_main_v179 V : FVec Ideal S262144x16x3 .f32) (ix3 b l d) = Spec.place (pts V (ix2 b d.castSucc)) (side3 l) := by
  unfold res_main_v179 Spec.place
  pointwise [v162_at, v172_at, v159_at]

end Cert.ReferenceIdeal.Level

end
-- ==== Proof.RefRows.lean ====
/-
  The reference's table rows: the hash of every corner of every level, and the feature the corner's row holds.
-/
module

public import proofs.«01_k».proof.Proof.RefCells
public import proofs.«01_k».proof.Proof.Rows

@[expose] public section

set_option maxRecDepth 16384

noncomputable section

namespace Cert.ReferenceIdeal.Level

open Cert.ReferenceIdeal Idealize.ShloMosaic Idealize.ShloMosaic.TcCoe
open Cert.ReferenceIdeal.Facts₀ Cert.ReferenceIdeal.Facts
open Cert.ReferenceIdeal.Value

variable (V : Valuation τ sig (Elt Ideal))

/-- The four-axis tables. -/
abbrev tabs4 : FVec Ideal S16x524288x2 .f32 := V (Proc.devRef .tc main_arg1)
/-- The three-axis tables. -/
abbrev tabs3 : FVec Ideal S16x32768x2 .f32 := V (Proc.devRef .tc main_arg2)

/-- A corner's row is its hash, four axes. -/
theorem v80_at (b : Fin 262144) (l : Fin 16) (k : Fin 16) :
    (res_main_v80 V : IVec S262144x16x16 32) (ix3 b l k)
      = Spec.row4 (fun d => Spec.cellOf (pts V (ix2 b d)) (side4 l d)) k.val := by
  unfold res_main_v80 Spec.row4 Spec.side
  simp only [id]
  pointwise [v9_at]

/-- A corner's row is its hash, three axes. -/
theorem v226_at (b : Fin 262144) (l : Fin 16) (k : Fin 8) :
    (res_main_v226 V : IVec S262144x16x8 32) (ix3 b l k)
      = Spec.row3 (fun d => Spec.cellOf (pts V (ix2 b d.castSucc)) (side3 l)) k.val := by
  unfold res_main_v226 Spec.row3 Spec.side
  simp only [id]
  pointwise [v169_at]

/-- A level's own number. -/
theorem v82_at (l : Fin 16) : (res_main_v82 V : IVec S16x1 32) (ix2 l 0) = BitVec.ofNat 32 l.val := by
  unfold res_main_v82; pointwise
@[inherit_doc v82_at]
theorem v228_at (l : Fin 16) : (res_main_v228 V : IVec S16x1 32) (ix2 l 0) = BitVec.ofNat 32 l.val := by
  unfold res_main_v228; pointwise

/-- A level's own number, read as a start word among 16 levels, is the level. -/
theorem level_word : ∀ l : Fin 16, Spec.clampIx 15 (Scalar.select (IntOp.cmpi .slt (BitVec.ofNat 32 l.val) 0#32)
    (IntOp.addi (BitVec.ofNat 32 l.val) 16#32) (BitVec.ofNat 32 l.val)) = l := by decide

/-- The gathered features: corner `8 h + k` of level `l`, four axes. -/
theorem v98_at (b : Fin 262144) (l : Fin 16) (h : Fin 2) (k : Fin 8) (f : Fin 2) :
    (res_main_v98 V : FVec Ideal S262144x16x2x8x2 .f32) (ix5 b l h k f)
      = Spec.corner4 (fun d => pts V (ix2 b d)) (side4 l) (fun r => tabs4 V (ix3 l r f)) (8 * h.val + k.val) := by
  unfold res_main_v98
  pointwise
  rw [Rows.gather_stack _ rfl rfl rfl rfl rfl]
  pointwise [v80_at, v82_at]
  rw [level_word, Nat.mul_comm 8 h.val]
  rfl

/-- The gathered features: corner `4 h + k` of level `l`, three axes. -/
theorem v244_at (b : Fin 262144) (l : Fin 16) (h : Fin 2) (k : Fin 4) (f : Fin 2) :
    (res_main_v244 V : FVec Ideal S262144x16x2x4x2 .f32) (ix5 b l h k f)
      = Spec.corner3 (fun d => pts V (ix2 b d.castSucc)) (fun _ => side3 l) (fun r => tabs3 V (ix3 l r f)) (4 * h.val + k.val) := by
  unfold res_main_v244
  pointwise
  rw [Rows.gather_stack _ rfl rfl rfl rfl rfl]
  pointwise [v226_at, v228_at]
  rw [level_word, Nat.mul_comm 4 h.val]
  rfl

end Cert.ReferenceIdeal.Level

end
-- ==== Proof.RefOut.lean ====
/-
  The reference's first result at an index: a point's feature at a level, interpolated one axis at a time, and the sum of
  the two grids' features.
-/
module

public import proofs.«01_k».proof.Proof.RefRows

@[expose] public section

set_option maxRecDepth 16384

noncomputable section

namespace Cert.ReferenceIdeal.Level

open Cert.ReferenceIdeal Idealize.ShloMosaic Idealize.ShloMosaic.TcCoe
open Cert.ReferenceIdeal.Facts₀ Cert.ReferenceIdeal.Facts
open Cert.ReferenceIdeal.Value

variable (V : Valuation τ sig (Elt Ideal))

/-- Where the point lies in its four-axis cell along one axis. -/
theorem v101_at (b : Fin 262144) (l : Fin 16) :
    (res_main_v101 V : FVec Ideal S262144x16x1x1 .f32) (ix4 b l 0 0) = Spec.place (pts V (ix2 b 0)) (side4 l 0) := by
  unfold res_main_v101; pointwise [v19_at]
@[inherit_doc v101_at]
theorem v116_at (b : Fin 262144) (l : Fin 16) :
    (res_main_v116 V : FVec Ideal S262144x16x1x1 .f32) (ix4 b l 0 0) = Spec.place (pts V (ix2 b 1)) (side4 l 1) := by
  unfold res_main_v116; pointwise [v19_at]
@[inherit_doc v101_at]
theorem v131_at (b : Fin 262144) (l : Fin 16) :
    (res_main_v131 V : FVec Ideal S262144x16x1x1 .f32) (ix4 b l 0 0) = Spec.place (pts V (ix2 b 2)) (side4 l 2) := by
  unfold res_main_v131; pointwise [v19_at]
@[inherit_doc v101_at]
theorem v146_at (b : Fin 262144) (l : Fin 16) :
    (res_main_v146 V : FVec Ideal S262144x16x1x1 .f32) (ix4 b l 0 0) = Spec.place (pts V (ix2 b 3)) (side4 l 3) := by
  unfold res_main_v146; pointwise [v19_at]

/-- The four-axis features left when the first axis is interpolated, by the corner's number. -/
def left4a (b : Fin 262144) (l : Fin 16) (f : Fin 2) : ℕ → EReal :=
  Spec.mix 8 (Spec.corner4 (fun d => pts V (ix2 b d)) (side4 l) (fun r => tabs4 V (ix3 l r f)))
    (Spec.place (pts V (ix2 b 0)) (side4 l 0))
/-- The same when the second axis is interpolated too. -/
def left4b (b : Fin 262144) (l : Fin 16) (f : Fin 2) : ℕ → EReal := Spec.mix 4 (left4a V b l f) (Spec.place (pts V (ix2 b 1)) (side4 l 1))
/-- The same when the third axis is interpolated too. -/
def left4c (b : Fin 262144) (l : Fin 16) (f : Fin 2) : ℕ → EReal := Spec.mix 2 (left4b V b l f) (Spec.place (pts V (ix2 b 2)) (side4 l 2))
/-- The three-axis features left when the first axis is interpolated, by the corner's number. -/
def left3a (b : Fin 262144) (l : Fin 16) (f : Fin 2) : ℕ → EReal :=
  Spec.mix 4 (Spec.corner3 (fun d => pts V (ix2 b d.castSucc)) (fun _ => side3 l) (fun r => tabs3 V (ix3 l r f)))
    (Spec.place (pts V (ix2 b 0)) (side3 l))
/-- The same when the second axis is interpolated too. -/
def left3b (b : Fin 262144) (l : Fin 16) (f : Fin 2) : ℕ → EReal := Spec.mix 2 (left3a V b l f) (Spec.place (pts V (ix2 b 1)) (side3 l))

/-- Where the point lies in its three-axis cell along one axis. -/
theorem v247_at (b : Fin 262144) (l : Fin 16) :
    (res_main_v247 V : FVec Ideal S262144x16x1x1 .f32) (ix4 b l 0 0) = Spec.place (pts V (ix2 b 0)) (side3 l) := by
  unfold res_main_v247; pointwise [v179_at]
  rfl
@[inherit_doc v247_at]
theorem v262_at (b : Fin 262144) (l : Fin 16) :
    (res_main_v262 V : FVec Ideal S262144x16x1x1 .f32) (ix4 b l 0 0) = Spec.place (pts V (ix2 b 1)) (side3 l) := by
  unfold res_main_v262; pointwise [v179_at]
  rfl
@[inherit_doc v247_at]
theorem v277_at (b : Fin 262144) (l : Fin 16) :
    (res_main_v277 V : FVec Ideal S262144x16x1x1 .f32) (ix4 b l 0 0) = Spec.place (pts V (ix2 b 2)) (side3 l) := by
  unfold res_main_v277; pointwise [v179_at]
  rfl

/-- The first axis interpolated, four axes. -/
theorem v113_at (b : Fin 262144) (l : Fin 16) (h : Fin 2) (k : Fin 4) (f : Fin 2) :
    (res_main_v113 V : FVec Ideal S262144x16x2x4x2 .f32) (ix5 b l h k f) = left4a V b l f (4 * h.val + k.val) := by
  unfold res_main_v113 left4a
  pointwise [v98_at, v101_at]
  rw [Nat.mul_comm 4 h.val]
  rfl

/-- The second axis interpolated, four axes. -/
theorem v128_at (b : Fin 262144) (l : Fin 16) (h : Fin 2) (k : Fin 2) (f : Fin 2) :
    (res_main_v128 V : FVec Ideal S262144x16x2x2x2 .f32) (ix5 b l h k f) = left4b V b l f (2 * h.val + k.val) := by
  unfold res_main_v128 left4b
  pointwise [v113_at, v116_at]
  rw [Nat.mul_comm 2 h.val]
  rfl

/-- The third axis interpolated, four axes. -/
theorem v143_at (b : Fin 262144) (l : Fin 16) (h : Fin 2) (k : Fin 1) (f : Fin 2) :
    (res_main_v143 V : FVec Ideal S262144x16x2x1x2 .f32) (ix5 b l h k f) = left4c V b l f (1 * h.val + k.val) := by
  unfold res_main_v143 left4c
  pointwise [v128_at, v131_at]
  rfl

/-- The first axis interpolated, three axes. -/
theorem v259_at (b : Fin 262144) (l : Fin 16) (h : Fin 2) (k : Fin 2) (f : Fin 2) :
    (res_main_v259 V : FVec Ideal S262144x16x2x2x2 .f32) (ix5 b l h k f) = left3a V b l f (2 * h.val + k.val) := by
  unfold res_main_v259 left3a
  pointwise [v244_at, v247_at]
  rw [Nat.mul_comm 2 h.val]
  rfl

/-- The second axis interpolated, three axes. -/
theorem v274_at (b : Fin 262144) (l : Fin 16) (h : Fin 2) (k : Fin 1) (f : Fin 2) :
    (res_main_v274 V : FVec Ideal S262144x16x2x1x2 .f32) (ix5 b l h k f) = left3b V b l f (1 * h.val + k.val) := by
  unfold res_main_v274 left3b
  pointwise [v259_at, v262_at]
  rfl

/-- The reference's first result. -/
def refOut : FVec Ideal S262144x32 .f32 :=
  shapeCast _ (addf (shapeCast _ (addf (mulf (shapeCast _ (extractStridedSlice S262144x16x1x1x2 ![0, 0, 0, 0, 0]
    (res_main_v143 V) slices_S262144x16x2x1x2_S262144x16x1x1x2_0_0_0_0_0) shapeCasts_S262144x16x1x1x2_S262144x16x1x2)
    (broadcastInDim S262144x16x1x2 ![0, 1, 2, 3] bcast_S262144x16x1x1_S262144x16x1x2_0_1_2_3 (subf (broadcastInDim
    S262144x16x1x1 ![] bcast_S_S262144x16x1x1 (constant S_ .f32 0x3F800000#32)) (res_main_v146 V)))) (mulf (shapeCast
    _ (extractStridedSlice S262144x16x1x1x2 ![0, 0, 1, 0, 0] (res_main_v143 V)
    slices_S262144x16x2x1x2_S262144x16x1x1x2_0_0_1_0_0) shapeCasts_S262144x16x1x1x2_S262144x16x1x2) (broadcastInDim
    S262144x16x1x2 ![0, 1, 2, 3] bcast_S262144x16x1x1_S262144x16x1x2_0_1_2_3 (res_main_v146 V))))
    shapeCasts_S262144x16x1x2_S262144x16x2) (shapeCast _ (addf (mulf (shapeCast _ (extractStridedSlice
    S262144x16x1x1x2 ![0, 0, 0, 0, 0] (res_main_v274 V) slices_S262144x16x2x1x2_S262144x16x1x1x2_0_0_0_0_0)
    shapeCasts_S262144x16x1x1x2_S262144x16x1x2) (broadcastInDim S262144x16x1x2 ![0, 1, 2, 3]
    bcast_S262144x16x1x1_S262144x16x1x2_0_1_2_3 (subf (broadcastInDim S262144x16x1x1 ![] bcast_S_S262144x16x1x1
    (constant S_ .f32 0x3F800000#32)) (res_main_v277 V)))) (mulf (shapeCast _ (extractStridedSlice S262144x16x1x1x2
    ![0, 0, 1, 0, 0] (res_main_v274 V) slices_S262144x16x2x1x2_S262144x16x1x1x2_0_0_1_0_0)
    shapeCasts_S262144x16x1x1x2_S262144x16x1x2) (broadcastInDim S262144x16x1x2 ![0, 1, 2, 3]
    bcast_S262144x16x1x1_S262144x16x1x2_0_1_2_3 (res_main_v277 V)))) shapeCasts_S262144x16x1x2_S262144x16x2))
    shapeCasts_S262144x16x2_S262144x32

/-- The reference's second result. -/
def refMask : IVec S262144 1 :=
  Host.reduce IntOp.andi (cmpf .oeq (pts V) (minimumf (broadcastInDim S262144x4 ![]
    bcast_S_S262144x4 (id (constant S_ .f32 0x3F800000#32))) (maximumf (broadcastInDim S262144x4 ![] bcast_S_S262144x4
    (id (constant S_ .f32 0x00000000#32))) (pts V)))) (constantI S_ 1 1#1)
    reducesTo_S262144x4_S262144_d1 h_S_

/-- Column `2 l + f` of the first result: feature `f` of level `l` of the point, the two grids' encodings added. -/
theorem refOut_at (b : Fin 262144) (l : Fin 16) (f : Fin 2) (j : Fin 32) (hj : j.val = 2 * l.val + f.val) :
    refOut V (ix2 b j)
      = Spec.enc4 (fun d => pts V (ix2 b d)) (side4 l) (fun r => tabs4 V (ix3 l r f))
        + Spec.enc3 (fun d => pts V (ix2 b d.castSucc)) (fun _ => side3 l) (fun r => tabs3 V (ix3 l r f)) := by
  have hl : j.val / 2 = l.val := by omega
  have hf : j.val % 2 = f.val := by omega
  unfold refOut Spec.enc4 Spec.enc3
  pointwise [v143_at, v146_at, v274_at, v277_at, hl, hf]
  rfl

end Cert.ReferenceIdeal.Level

end
-- ==== Proof.Match.lean ====
/-
  The two programs' results as functions of the arguments: the features agree entry by entry, and so do the masks.
-/
module

public import proofs.«01_k».proof.Proof.State
public import proofs.«01_k».proof.Proof.After
public import proofs.«01_k».proof.Proof.RefOut
public import Idealize.ShloMosaic.Lib.ReduceAll

@[expose] public section

set_option maxRecDepth 16384

noncomputable section

namespace Cert.Match

open Cert.KernelIdeal Cert.KernelIdeal.Level Idealize.ShloMosaic Idealize.ShloMosaic.TcCoe
open Cert.KernelIdeal.Facts₀ Cert.KernelIdeal.Facts

/-! ## The cells' sides and the tables -/

/-- The kernel divides the box's length by the number of cells, along each of the first three axes. -/
theorem sides3_at (n : BitVec 32) (d : Fin 3) : sides3 zeros4 ones4 n (ix1 d) = Ideal.div 1 (Ideal.ofBits .f32 n) := by
  unfold sides3 first3
  pointwise

/-- The three-axis sides are the reference's. -/
theorem grid3_at (l : Fin 16) (d : Fin 3) : grid3 l (ix1 d) = ReferenceIdeal.Level.side3 l := sides3_at _ d

/-- The four-axis sides are the reference's. -/
theorem grid4_at (l : Fin 16) (d : Fin 4) : grid4 l (ix1 d) = ReferenceIdeal.Level.side4 l d := by
  unfold grid4 sides4 last1 ReferenceIdeal.Level.side4 ReferenceIdeal.Level.words4
  fin_cases d <;> pointwise [sides3_at]

/-- A level's four-axis table. -/
theorem slab4_at (X : FVec Ideal S16x524288x2 .f32) (l : Fin 16) (r : Fin 524288) (f : Fin 2) :
    slab4 X l (ix2 r f) = X (ix3 l r f) := by
  unfold slab4; rfl

/-- A level's three-axis table. -/
theorem slab3_at (X : FVec Ideal S16x32768x2 .f32) (l : Fin 16) (r : Fin 32768) (f : Fin 2) :
    slab3 X l (ix2 r f) = X (ix3 l r f) := by
  unfold slab3; rfl

/-- The first three coordinates. -/
theorem cut3_at (x : FVec Ideal S262144x4 .f32) (b : Fin 262144) (d : Fin 3) : cut3 x (ix2 b d) = x (ix2 b d.castSucc) := by
  unfold cut3; pointwise; rfl

/-! ## The features -/

/-- A level's four-axis feature is the scalar encoding at the reference's cell sides. -/
theorem feat4_at (x : FVec Ideal S262144x4 .f32) (X : FVec Ideal S16x524288x2 .f32) (l : Fin 16) (b : Fin 262144) (f : Fin 2) :
    feat4 x X l (ix2 b f)
      = Spec.enc4 (fun d => x (ix2 b d)) (ReferenceIdeal.Level.side4 l) (fun r => X (ix3 l r f)) := by
  unfold feat4
  rw [level4_at]
  simp only [grid4_at, slab4_at]

/-- A level's three-axis feature is the scalar encoding at the reference's cell sides. -/
theorem feat3_at (x : FVec Ideal S262144x4 .f32) (X : FVec Ideal S16x32768x2 .f32) (l : Fin 16) (b : Fin 262144) (f : Fin 2) :
    feat3 x X l (ix2 b f)
      = Spec.enc3 (fun d => x (ix2 b d.castSucc)) (fun _ => ReferenceIdeal.Level.side3 l) (fun r => X (ix3 l r f)) := by
  unfold feat3
  rw [level3_at]
  simp only [grid3_at, slab3_at, cut3_at]

/-- Every entry of the reference's first result is the sum of the kernel's two features of that column's level. -/
theorem out_at (V : Valuation ReferenceIdeal.τ ReferenceIdeal.sig (Elt Ideal)) (b : Fin 262144) (l : Fin 16) (f : Fin 2)
    (j : Fin 32) (hj : j.val = 2 * l.val + f.val) :
    feat4 (ReferenceIdeal.Level.pts V) (ReferenceIdeal.Level.tabs4 V) l (ix2 b f)
        + feat3 (ReferenceIdeal.Level.pts V) (ReferenceIdeal.Level.tabs3 V) l (ix2 b f)
      = ReferenceIdeal.Level.refOut V (ix2 b j) := by
  rw [feat4_at, feat3_at, ReferenceIdeal.Level.refOut_at V b l f j hj]

/-! ## The masks -/

/-- A one-bit word is told by when it is 1. -/
theorem bit_ext : ∀ a b : BitVec 1, (a = 1#1 ↔ b = 1#1) → a = b := by decide

/-- Where the rows of a reduced array come from. -/
theorem drop_cols {n k : ℕ} (h : (⟨2, ![n, k]⟩ : Shape).ReducesTo [1] ⟨1, ![n]⟩) (b : Fin n) (i : (⟨2, ![n, k]⟩ : Shape).Idx) :
    h.drop i = ix1 b ↔ i 0 = b := by
  have hv : (h.drop i 0 : ℕ) = i 0 := Shape.ReducesTo.drop_apply_val h i 0
  constructor
  · intro e; rw [e] at hv; exact (Fin.ext hv).symm
  · intro e; funext a; fin_cases a; exact Fin.ext (hv.trans (congrArg Fin.val e))

/-- The `and` of a row is 1 exactly when the row is all 1s. -/
theorem all_row {n k : ℕ} {u : Shape} (p : IVec ⟨2, ![n, k]⟩ 1) (h : (⟨2, ![n, k]⟩ : Shape).ReducesTo [1] ⟨1, ![n]⟩)
    (hu : 0 < u.numel) (b : Fin n) :
    Host.reduce IntOp.andi p (constantI u 1 1#1) h hu (ix1 b) = 1#1 ↔ ∀ q : Fin k, p (ix2 b q) = 1#1 := by
  constructor
  · intro e q
    exact Host.reduce_andi_eq_one p _ h hu _ e (ix2 b q) ((drop_cols h b _).2 rfl)
  · intro e
    rw [Host.reduce_eq_foldl]
    refine IntOp.foldl_andi_one p _ _ rfl fun i hi => ?_
    have hb : i 0 = b := (drop_cols h b i).1 (by simpa using (List.mem_filter.1 hi).2)
    have : i = ix2 b (i 1) := by funext a; fin_cases a; exacts [hb, rfl]
    rw [this]; exact e _

/-- A row's count of 1s equals the row's length exactly when the row is all 1s. -/
theorem count_row {n k : ℕ} {u : Shape} (hk : k < 2 ^ 32) (p : IVec ⟨2, ![n, k]⟩ 1) (hw : 1 < 32)
    (h : (⟨2, ![n, k]⟩ : Shape).ReducesTo [1] ⟨1, ![n]⟩) (hu : 0 < u.numel) (b : Fin n) :
    IntOp.cmpi .eq (Host.reduce IntOp.addi (extui 32 p hw) (constantI u 32 0#32) h hu (ix1 b)) (BitVec.ofNat 32 k) = 1#1
      ↔ ∀ q : Fin k, p (ix2 b q) = 1#1 := by
  rw [StableHlo.Predicate.cmpi_eq_iff, ← BitVec.toNat_inj, StableHlo.Predicate.toNat_reduce_count_cols hk, BitVec.toNat_ofNat,
    Nat.mod_eq_of_lt hk]
  have e (q : Fin k) : StableHlo.Predicate.ij b q = ix2 b q := by funext a; fin_cases a <;> rfl
  change (Finset.univ.filter fun q : Fin k => p (StableHlo.Predicate.ij b q) = 1#1).card = k ↔ _
  simp only [e]
  constructor
  · intro hc q
    have := Finset.card_filter_eq_iff.1 (hc.trans (Finset.card_fin k).symm) q (Finset.mem_univ q)
    exact this
  · intro ha
    rw [Finset.filter_true_of_mem fun q _ => ha q, Finset.card_fin]

/-- The two programs' masks agree: the kernel's counts are full exactly when all four coordinates are left alone. -/
theorem mask_eq (V : Valuation ReferenceIdeal.τ ReferenceIdeal.sig (Elt Ideal)) :
    keepMask zeros4 ones4 (ReferenceIdeal.Level.pts V) = ReferenceIdeal.Level.refMask V := by
  funext j
  obtain ⟨b, rfl⟩ : ∃ b : Fin 262144, j = ix1 b := ⟨j 0, by funext a; fin_cases a; rfl⟩
  refine bit_ext _ _ ?_
  unfold ReferenceIdeal.Level.refMask
  rw [all_row]
  unfold keepMask count4 count3
  show IntOp.andi (IntOp.cmpi .eq _ (BitVec.ofNat 32 4)) (IntOp.cmpi .eq _ (BitVec.ofNat 32 3)) = 1#1 ↔ _
  rw [IntOp.andi_eq_one, count_row (by norm_num), count_row (by norm_num)]
  constructor
  · intro h q
    have := h.1 q
    rw [← this]
    simp only [id]
    pointwise [clip4_at, Spec.clip]
  · intro h
    refine ⟨fun q => ?_, fun q => ?_⟩
    · have := h q
      rw [← this]
      simp only [id]
      pointwise [clip4_at, Spec.clip]
    · have := h q.castSucc
      rw [← this]
      simp only [id]
      pointwise [clip3_at, Spec.clip, cut3_at]

end Cert.Match

end
-- ==== Proof.Join.lean ====
/-
  What the two concatenations leave: column `2 l + f` is feature `f` of level `l`.
-/
module

public import proofs.«01_k».proof.Proof.Tables
public import Idealize.ShloMosaic.Lib.StableHlo.RunRead
public import Idealize.ShloMosaic.Lib.Pipeline.Value
public import Idealize.ShloMosaic.Lib.Pointwise

@[expose] public section

set_option maxRecDepth 65536

noncomputable section

namespace Cert.KernelIdeal.Level

open Cert.KernelIdeal Idealize.ShloMosaic Idealize.ShloMosaic.TcCoe
open Idealize.ShloMosaic.StableHlo
open Cert.KernelIdeal.Facts₀ Cert.KernelIdeal.Facts

/-- Sixteen arrays of two columns side by side, read at column `2 l + f`: column `f` of array `l`. -/
theorem side_by_side (u : Fin 16 → FVec Ideal S262144x2 .f32)
    (h : Shape.Concatenates ((List.ofFn fun l : Fin 16 => (⟨S262144x2, u l⟩ : (s : Shape) × (s.Idx → EReal))).map (·.1)) S262144x32 1)
    (b : Fin 262144) (l : Fin 16) (f : Fin 2) (j : Fin 32) (hj : j.val = 2 * l.val + f.val) :
    concatenate S262144x32 1 (List.ofFn fun l : Fin 16 => (⟨S262144x2, u l⟩ : (s : Shape) × (s.Idx → EReal))) h (ix2 b j)
      = u l (ix2 b f) := by
  refine concatenate_ofFn_apply (t := S262144x32) (s₁ := S262144x2) 1 u h rfl 2 rfl (ix2 b j) l ?_ (ix2 b f) ?_ ?_
  · show j.val / 2 = l.val
    omega
  · show f.val = j.val % 2
    omega
  · intro a ha
    match a with
    | ⟨0, _⟩ => rfl
    | ⟨1, _⟩ => exact absurd rfl ha

set_option maxHeartbeats 4000000 in
/-- The concatenation of the four-axis features. -/
theorem joinOps_4 (V : Bufs) (b : Fin 262144) (l : Fin 16) (f : Fin 2) (j : Fin 32) (hj : j.val = 2 * l.val + f.val) :
    (after joinOps V (Proc.devRef .tc main_v3537) : FVec Ideal S262144x32 .f32) (ix2 b j) = rd (out4 l) V (ix2 b f) := by
  unfold joinOps
  simp only [List.drop_succ_cons, List.drop_zero]
  after_reads_simp
  exact side_by_side (fun l => rd (out4 l) V) concatenates_S262144x2_S262144x2_S262144x2_S262144x2_S262144x2_S262144x2_S262144x2_S262144x2_S262144x2_S262144x2_S262144x2_S262144x2_S262144x2_S262144x2_S262144x2_S262144x2_S262144x32_d1 b l f j hj

set_option maxHeartbeats 4000000 in
/-- The concatenation of the three-axis features. -/
theorem joinOps_3 (V : Bufs) (b : Fin 262144) (l : Fin 16) (f : Fin 2) (j : Fin 32) (hj : j.val = 2 * l.val + f.val) :
    (after joinOps V (Proc.devRef .tc main_v3538) : FVec Ideal S262144x32 .f32) (ix2 b j) = rd (out3 l) V (ix2 b f) := by
  unfold joinOps
  simp only [List.drop_succ_cons, List.drop_zero]
  after_reads_simp
  exact side_by_side (fun l => rd (out3 l) V) concatenates_S262144x2_S262144x2_S262144x2_S262144x2_S262144x2_S262144x2_S262144x2_S262144x2_S262144x2_S262144x2_S262144x2_S262144x2_S262144x2_S262144x2_S262144x2_S262144x2_S262144x32_d1 b l f j hj

end Cert.KernelIdeal.Level

end
-- ==== Proof.Chain.lean ====
/-
  The host operations before the region are the first list, the sixteen levels and the two concatenations.
-/
module

public import proofs.«01_k».proof.Proof.State
public import proofs.«01_k».proof.Proof.Join
public import proofs.«01_k».proof.Proof.FrameI

@[expose] public section

set_option maxRecDepth 65536

noncomputable section

namespace Cert.KernelIdeal.Level

open Cert.KernelIdeal Idealize.ShloMosaic Idealize.ShloMosaic.TcCoe
open Idealize.ShloMosaic.StableHlo
open Cert.KernelIdeal.Facts₀ Cert.KernelIdeal.Facts

/-- Lists run one after the other. -/
theorem after_flatten (Ls : List (List (HloOp τ sig (Elt Ideal)))) (V : Bufs) :
    after Ls.flatten V = Ls.foldl (fun W L => after L W) V := by
  induction Ls generalizing V with
  | nil => rfl
  | cons L Ls ih => rw [List.flatten_cons, List.foldl_cons, ← ih, after_append]

/-- The last list is the last level's encoding followed by the two concatenations. -/
theorem last_list (V : Bufs) : after Gen.hostOps0_64 V = after joinOps (after (Gen.hostOps0_64.take 100) V) := by
  unfold joinOps
  rw [← after_append, List.take_append_drop]

/-- A level's step, list by list. -/
theorem st_lists (A : Bufs) (l : ℕ) (h : l < 16) :
    st A (l + 1) = after (bodyOps3 ⟨l, h⟩) (after (clipOps3 ⟨l, h⟩) (after (bodyOps4 ⟨l, h⟩) (after (clipOps4 ⟨l, h⟩) (st A l)))) :=
  st_succ A l h

set_option maxHeartbeats 4000000 in
/-- The buffers after the last level and the two concatenations are those after all the lists before the region. -/
theorem st_last (A : Bufs) : after joinOps (st A 16) = after (Around.hostLists (F := Ideal)).flatten A := by
  rw [after_flatten]
  simp only [Around.hostLists, List.foldl_cons, List.foldl_nil]
  rw [last_list]
  rw [st_lists A 15 (by omega), st_lists A 14 (by omega), st_lists A 13 (by omega), st_lists A 12 (by omega),
    st_lists A 11 (by omega), st_lists A 10 (by omega), st_lists A 9 (by omega), st_lists A 8 (by omega), st_lists A 7 (by omega),
    st_lists A 6 (by omega), st_lists A 5 (by omega), st_lists A 4 (by omega), st_lists A 3 (by omega), st_lists A 2 (by omega),
    st_lists A 1 (by omega), st_lists A 0 (by omega)]
  rfl

/-- The first operand of the kernel's call: column `2 l + f` is feature `f` of level `l`, four axes. -/
theorem operand4 (A : Bufs) (b : Fin 262144) (l : Fin 16) (f : Fin 2) (j : Fin 32) (hj : j.val = 2 * l.val + f.val) :
    (after (Around.hostLists (F := Ideal)).flatten A (Proc.devRef .tc main_v3537) : FVec Ideal S262144x32 .f32) (ix2 b j)
      = feat4 (A (Proc.devRef .tc main_arg0)) (A (Proc.devRef .tc main_arg1)) l (ix2 b f) := by
  rw [← st_last, joinOps_4 _ b l f j hj, st_out4]

/-- The second operand of the kernel's call, three axes. -/
theorem operand3 (A : Bufs) (b : Fin 262144) (l : Fin 16) (f : Fin 2) (j : Fin 32) (hj : j.val = 2 * l.val + f.val) :
    (after (Around.hostLists (F := Ideal)).flatten A (Proc.devRef .tc main_v3538) : FVec Ideal S262144x32 .f32) (ix2 b j)
      = feat3 (A (Proc.devRef .tc main_arg0)) (A (Proc.devRef .tc main_arg2)) l (ix2 b f) := by
  rw [← st_last, joinOps_3 _ b l f j hj, st_out3]

/-- The box's ends stand when the region is entered. -/
theorem operand_cst (A : Bufs) : after (Around.hostLists (F := Ideal)).flatten A (Proc.devRef .tc main_cst) = ones4 := by
  rw [← st_last, joinOps_from.keep _ (by decide)]
  rw [st_succ A 15 (by omega)]
  exact (step_base (st_ready A 15 (by omega)).base).cst

@[inherit_doc operand_cst]
theorem operand_cst_0 (A : Bufs) : after (Around.hostLists (F := Ideal)).flatten A (Proc.devRef .tc main_cst_0) = zeros4 := by
  rw [← st_last, joinOps_from.keep _ (by decide)]
  rw [st_succ A 15 (by omega)]
  exact (step_base (st_ready A 15 (by omega)).base).cst_0

end Cert.KernelIdeal.Level

end
-- ==== Proof.Region.lean ====
/-
  The region's result: the sum of its two operands, whole arrays.
-/
module

public import proofs.«01_k».proof.Proof.FrameI
public import Idealize.ShloMosaic.Lib.Pipeline.Value

@[expose] public section

set_option maxRecDepth 65536

noncomputable section

namespace Cert.KernelIdeal.Around

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The sum of the two operands as the region finds them. -/
def total (c : Dev nD) : Buf (Elt F) ((c : Thread nD τ).loc main_v3539) :=
  addf (s := S262144x32) (V m c main_v3537) (V m c main_v3538)

/-- Two zeros are the zero offset. -/
theorem corner_zero : (![0, 0] : Fin 2 → Nat) = fun _ => 0 := funext fun a => by fin_cases a <;> rfl

/-- One point's sum, entry by entry. -/
theorem pay_at (x y : Vec F S8192x32 .f32) (j : S8192x32.Idx) : k0_pay1 x y j = FloatOps.addf (x j) (y j) := by
  unfold k0_pay1
  show FloatOps.addf (shapeCast S8192x32 x _ j) (shapeCast S8192x32 y _ j) = _
  rw [shapeCast_self, shapeCast_self]

/-- One point's sum of two arrays' blocks is the block of the arrays' sum. -/
theorem block_sum (X Y : FVec F S262144x32 .f32) (t : Fin cfg0.N) :
    k0_pay1 (((cfg0.win 0).blk t).view.read (Elt F) X) (((cfg0.win 1).blk t).view.read (Elt F) Y)
      = (win0_2.blk t).view.read (Elt F) (addf X Y) := by
  funext j
  rw [pay_at]
  rfl

/-- The first operand's block. -/
theorem iblk_0 (c : Dev nD) (t : Fin cfg0.N) : iblk m c 0 t = ((cfg0.win 0).blk t).view.read (Elt F) (V m c main_v3537) := by
  unfold iblk; rfl

/-- The second operand's block. -/
theorem iblk_1 (c : Dev nD) (t : Fin cfg0.N) : iblk m c 1 t = ((cfg0.win 1).blk t).view.read (Elt F) (V m c main_v3538) := by
  unfold iblk; rfl

/-- What point `t` writes back is its block of the sum. -/
theorem flushed_eq (c : Dev nD) (t : Fin cfg0.N) :
    (dats m 0 c).flushed 2 t = (win0_2.blk t).view.read (Elt F) (total m c) := by
  show (cfg0.win 2).cut (grid0.coords t) ((dats m 0 c).after 2 t) = _
  rw [after0_2, iblk_0, iblk_1]
  unfold total
  generalize V m c main_v3537 = X
  generalize V m c main_v3538 = Y
  unfold out0_2
  rw [View.canon_unit_zero corner_zero, View.ld_unit_zero corner_zero, View.ld_unit_zero corner_zero]
  exact block_sum X Y t

/-- An index of the result is in point `t`'s block: its row is one of the block's 8192. -/
theorem mem_blk (t : Fin cfg0.N) (i : S262144x32.Idx) :
    i ∈ ((cfg0.win 2).blk t).view.set ↔ t.val * 8192 ≤ (i 0 : Nat) ∧ (i 0 : Nat) < t.val * 8192 + 8192 := by
  show i ∈ ((View.whole main_v3539).slice (win0_2.rect t)).set ↔ _
  rw [View.set_slice_whole, Rect.mem_set_unit]
  have h1 : (i 1 : Nat) < 32 := (i 1).isLt
  have e : ∀ t : Fin cfg0.N, win0_2.index t 0 * win0_2.size 0 = t.val * 8192 ∧ win0_2.xsize (grid0.coords t) 0 = 8192
      ∧ win0_2.index t 1 * win0_2.size 1 = 0 ∧ win0_2.xsize (grid0.coords t) 1 = 32 := by
    decide +kernel
  obtain ⟨e0, e1, e2, e3⟩ := e t
  refine ⟨fun h => ?_, fun h a => ?_⟩
  · have : win0_2.index t 0 * win0_2.size 0 ≤ (i 0 : Nat) ∧ (i 0 : Nat) < win0_2.index t 0 * win0_2.size 0 + win0_2.xsize (grid0.coords t) 0 := h 0
    rw [e0, e1] at this; exact this
  · match a with
    | ⟨0, _⟩ => show win0_2.index t 0 * win0_2.size 0 ≤ (i 0 : Nat) ∧ (i 0 : Nat) < win0_2.index t 0 * win0_2.size 0 + win0_2.xsize (grid0.coords t) 0
                rw [e0, e1]; exact h
    | ⟨1, _⟩ => show win0_2.index t 1 * win0_2.size 1 ≤ (i 1 : Nat) ∧ (i 1 : Nat) < win0_2.index t 1 * win0_2.size 1 + win0_2.xsize (grid0.coords t) 1
                rw [e2, e3]; omega

/-- The blocks cover the result. -/
theorem cover (i : S262144x32.Idx) :
    ∃ t : Fin cfg0.N, (cfg0.win 2).flush t = true ∧ i ∈ ((cfg0.win 2).blk t).view.set := by
  have h0 : (i 0 : Nat) < 262144 := (i 0).isLt
  have hN : cfg0.N = 32 := N_0
  refine ⟨⟨(i 0 : Nat) / 8192, by omega⟩, flush0_2 _, ?_⟩
  rw [mem_blk]
  dsimp only
  omega

/-- So the result ends as the sum of the operands. -/
theorem final_out (c : Dev nD) : (dats m 0 c).arrAt 2 cfg0.N = total m c :=
  (dats m 0 c).arrAt_eq_of_cover 2 (total m c) (fun t _ => flushed_eq m c t) cover

end Cert.KernelIdeal.Around

end
-- ==== Proof.Result.lean ====
/-
  The two programs' runs end with equal results: the kernel's two results as functions of the arguments are the
  reference's.
-/
module

public import proofs.«01_k».proof.Proof.Match
public import proofs.«01_k».proof.Proof.Chain
public import proofs.«01_k».proof.Proof.Region

@[expose] public section

set_option maxRecDepth 65536

noncomputable section

namespace Cert.Match

open Cert.KernelIdeal Cert.KernelIdeal.Level Idealize.ShloMosaic Idealize.ShloMosaic.TcCoe Idealize.SL.Sem
open Idealize.ShloMosaic.StableHlo

variable (m : (ℓ : Loc nD τ sig) → Buf (Elt Ideal) ℓ) (V : Valuation ReferenceIdeal.τ ReferenceIdeal.sig (Elt Ideal))

/-- The kernel's sum is the reference's first result, when the arguments agree. -/
theorem total_eq (c : Dev nD) (h0 : ReferenceIdeal.Level.pts V = m ((c.tc : Thread nD τ).loc main_arg0))
    (h1 : ReferenceIdeal.Level.tabs4 V = m ((c.tc : Thread nD τ).loc main_arg1))
    (h2 : ReferenceIdeal.Level.tabs3 V = m ((c.tc : Thread nD τ).loc main_arg2)) :
    Around.total m c = ReferenceIdeal.Level.refOut V := by
  funext i
  obtain ⟨b, j, rfl⟩ : ∃ (b : Fin 262144) (j : Fin 32), i = ix2 b j := ⟨i 0, i 1, by funext a; fin_cases a <;> rfl⟩
  have hj : j.val = 2 * (⟨j.val / 2, by omega⟩ : Fin 16).val + (⟨j.val % 2, by omega⟩ : Fin 2).val := by
    show j.val = 2 * (j.val / 2) + j.val % 2; omega
  rw [← out_at V b _ _ j hj, h0, h1, h2]
  show FloatOps.addf (F := Ideal) (φ := .f32) (Around.V m c main_v3537 (ix2 b j)) (Around.V m c main_v3538 (ix2 b j)) = _
  exact congrArg₂ _ (operand4 (fun r => m (c, r)) b _ _ j hj) (operand3 (fun r => m (c, r)) b _ _ j hj)

/-- The kernel's mask is the reference's second result, when the arguments agree. -/
theorem mask_result (c : Dev nD) (h0 : ReferenceIdeal.Level.pts V = m ((c.tc : Thread nD τ).loc main_arg0)) :
    Pipeline.afterTail₀ cfgs (Around.dats m) 0 (Around.V0 m)
      [Gen.hostOps1, Gen.hostOps1_1, Gen.hostOps1_2, Gen.hostOps1_3] c main_v3556 = ReferenceIdeal.Level.refMask V := by
  rw [← mask_eq, h0]
  unfold Pipeline.afterTail₀
  refine (after_mask _).trans ?_
  rw [Pipeline.withArrays_of_ne _ c (Around.V0 m c) _ main_cst_0 (by exact (by decide : ∀ w, Pipeline.arrRef spec0 w ≠ main_cst_0)),
    Pipeline.withArrays_of_ne _ c (Around.V0 m c) _ main_cst (by exact (by decide : ∀ w, Pipeline.arrRef spec0 w ≠ main_cst)),
    Pipeline.withArrays_of_ne _ c (Around.V0 m c) _ main_arg0 (by exact (by decide : ∀ w, Pipeline.arrRef spec0 w ≠ main_arg0))]
  exact congr (congr (congrArg keepMask (operand_cst_0 _)) (operand_cst _)) (Around.V_main_arg0 m c)

end Cert.Match

end
-- ==== Proof.lean ====
/-
  The certificate: the kernel and its ideal reading run and leave their arguments and counters as they were, and the
  ideal kernel ends with the reference's two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.FrameP
public import proofs.«01_k».proof.Proof.FrameI
public import proofs.«01_k».proof.Proof.Result
public import Idealize.ShloMosaic.Adequacy
public import Idealize.ShloMosaic.Init

@[expose] public section

noncomputable section

namespace Cert.Proof

open Idealize.ShloMosaic Idealize.SL.Sem Idealize.ShloMosaic.StableHlo

/-- The reference ends with its arguments unchanged and every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The kernel ends with the reference's two results, taken at the reference's arguments, and its own arguments
    unchanged. -/
theorem kernel_run (m : (ℓ : Loc Cert.KernelIdeal.nD Cert.KernelIdeal.τ Cert.KernelIdeal.sig) → Buf (Elt Ideal) ℓ)
    (ρ : Dev Cert.KernelIdeal.nD → PrngReg)
    (V : Dev Cert.KernelIdeal.nD → Valuation Cert.ReferenceIdeal.τ Cert.ReferenceIdeal.sig (Elt Ideal))
    (h0 : ∀ c, Cert.ReferenceIdeal.Level.pts (V c) = m ((c.tc : Thread Cert.KernelIdeal.nD Cert.KernelIdeal.τ).loc Cert.KernelIdeal.main_arg0))
    (h1 : ∀ c, Cert.ReferenceIdeal.Level.tabs4 (V c) = m ((c.tc : Thread Cert.KernelIdeal.nD Cert.KernelIdeal.τ).loc Cert.KernelIdeal.main_arg1))
    (h2 : ∀ c, Cert.ReferenceIdeal.Level.tabs3 (V c) = m ((c.tc : Thread Cert.KernelIdeal.nD Cert.KernelIdeal.τ).loc Cert.KernelIdeal.main_arg2)) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v3539) = Cert.ReferenceIdeal.Level.refOut (V c)
        ∧ r.2.mem ((c.tc : Thread Cert.KernelIdeal.nD Cert.KernelIdeal.τ).loc Cert.KernelIdeal.main_v3556) = Cert.ReferenceIdeal.Level.refMask (V c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono
    (fun _ h c => ⟨((h c).1 2).trans ((Cert.KernelIdeal.Around.final_out m c).trans (Cert.Match.total_eq m (V c) c (h0 c) (h1 c) (h2 c))),
      ((h c).2 Cert.KernelIdeal.main_v3556 (Pipeline.mem_restRefs_of Cert.KernelIdeal.main_v3556 (by decide) (by decide))).trans
        (Cert.Match.mask_result m (V c) c (h0 c)),
      ((h c).2 Cert.KernelIdeal.main_arg0 (Pipeline.mem_restRefs_of Cert.KernelIdeal.main_arg0 (by decide) (by decide))).trans
        (Cert.KernelIdeal.Around.W_main_arg0 m _ c),
      ((h c).2 Cert.KernelIdeal.main_arg1 (Pipeline.mem_restRefs_of Cert.KernelIdeal.main_arg1 (by decide) (by decide))).trans
        (Cert.KernelIdeal.Around.W_main_arg1 m _ c),
      ((h c).2 Cert.KernelIdeal.main_arg2 (Pipeline.mem_restRefs_of Cert.KernelIdeal.main_arg2 (by decide) (by decide))).trans
        (Cert.KernelIdeal.Around.W_main_arg2 m _ c)⟩)
    (Cert.KernelIdeal.Around.run_main m ρ)

/-- From equal arguments the two programs end with equal results. -/
theorem results : Cert.algebraic_KernelIdeal_ReferenceIdeal (hKernelIdeal := Cert.KernelIdeal.Gen.facts)
    (hReferenceIdeal := Cert.ReferenceIdeal.Gen.facts) := fun m g m' g' _ hagree =>
  ⟨fun c => Cert.ReferenceIdeal.Level.refOut (launchContents m' c), fun c => Cert.ReferenceIdeal.Level.refMask (launchContents m' c),
    kernel_run m g (fun c => launchContents m' c) (fun c => (hagree c).1) (fun c => (hagree c).2.1) (fun c => (hagree c).2.2),
    Cert.ReferenceIdeal.Value.run (F := Ideal) m' g'⟩

/-- The certificate's claims. -/
theorem claim : Cert.Claim := ⟨Cert.Kernel.Gen.facts, Cert.KernelIdeal.Gen.facts, Cert.ReferenceIdeal.Gen.facts,
  fun m ρ _ => Cert.Kernel.Around.frame m ρ, fun m ρ _ => Cert.KernelIdeal.Around.frame m ρ, reference_frame, trivial, results⟩

end Cert.Proof

end
